-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v87) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v369) = v0 c
          ∧ r.2.mem ((c.tc : Thread Cert.ReferenceIdeal.nD Cert.ReferenceIdeal.τ).loc Cert.ReferenceIdeal.main_v370) = v1 c
          ∧ r.2.mem ((c.tc : Thread Cert.ReferenceIdeal.nD Cert.ReferenceIdeal.τ).loc Cert.ReferenceIdeal.main_v371) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v159) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S12x3x224x224 : Shape := ⟨4, ![12, 3, 224, 224]⟩
abbrev S64x3x3x3 : Shape := ⟨4, ![64, 3, 3, 3]⟩
abbrev S64 : Shape := ⟨1, ![64]⟩
abbrev S64x64x3x3 : Shape := ⟨4, ![64, 64, 3, 3]⟩
abbrev S128x64x3x3 : Shape := ⟨4, ![128, 64, 3, 3]⟩
abbrev S128 : Shape := ⟨1, ![128]⟩
abbrev S128x128x3x3 : Shape := ⟨4, ![128, 128, 3, 3]⟩
abbrev S256x128x3x3 : Shape := ⟨4, ![256, 128, 3, 3]⟩
abbrev S256 : Shape := ⟨1, ![256]⟩
abbrev S256x256x3x3 : Shape := ⟨4, ![256, 256, 3, 3]⟩
abbrev S12x224x224x3 : Shape := ⟨4, ![12, 224, 224, 3]⟩
abbrev S_ : Shape := ⟨0, ![]⟩
abbrev S12x224x226x3 : Shape := ⟨4, ![12, 224, 226, 3]⟩
abbrev S3x3x3x64 : Shape := ⟨4, ![3, 3, 3, 64]⟩
abbrev S9x192 : Shape := ⟨2, ![9, 192]⟩
abbrev S12x1x226x3 : Shape := ⟨4, ![12, 1, 226, 3]⟩
abbrev S12x6x226x3 : Shape := ⟨4, ![12, 6, 226, 3]⟩
abbrev S12x7x226x3 : Shape := ⟨4, ![12, 7, 226, 3]⟩
abbrev S12x7x1x226x3 : Shape := ⟨5, ![12, 7, 1, 226, 3]⟩
abbrev S12x7x2x226x3 : Shape := ⟨5, ![12, 7, 2, 226, 3]⟩
abbrev S1x64 : Shape := ⟨2, ![1, 64]⟩
abbrev S12x224x226x64 : Shape := ⟨4, ![12, 224, 226, 64]⟩
abbrev S1x32x226x3 : Shape := ⟨4, ![1, 32, 226, 3]⟩
abbrev S1x1x2x226x3 : Shape := ⟨5, ![1, 1, 2, 226, 3]⟩
abbrev S1x32x226x64 : Shape := ⟨4, ![1, 32, 226, 64]⟩
abbrev S1x1x1x226x3 : Shape := ⟨5, ![1, 1, 1, 226, 3]⟩
abbrev S226x3 : Shape := ⟨2, ![226, 3]⟩
abbrev S1x226x3 : Shape := ⟨3, ![1, 226, 3]⟩
abbrev S32x226x3 : Shape := ⟨3, ![32, 226, 3]⟩
abbrev S34x226x3 : Shape := ⟨3, ![34, 226, 3]⟩
abbrev S32x226x9 : Shape := ⟨3, ![32, 226, 9]⟩
abbrev S7232x9 : Shape := ⟨2, ![7232, 9]⟩
abbrev S7232x192 : Shape := ⟨2, ![7232, 192]⟩
abbrev S32x226x192 : Shape := ⟨3, ![32, 226, 192]⟩
abbrev S32x224x64 : Shape := ⟨3, ![32, 224, 64]⟩
abbrev S1x1x64 : Shape := ⟨3, ![1, 1, 64]⟩
abbrev S1x32x224x64 : Shape := ⟨4, ![1, 32, 224, 64]⟩
abbrev S32x1x64 : Shape := ⟨3, ![32, 1, 64]⟩
abbrev S1x32x1x64 : Shape := ⟨4, ![1, 32, 1, 64]⟩
abbrev S3x64x3x64 : Shape := ⟨4, ![3, 64, 3, 64]⟩
abbrev S192x192 : Shape := ⟨2, ![192, 192]⟩
abbrev S12x1x226x64 : Shape := ⟨4, ![12, 1, 226, 64]⟩
abbrev S12x6x226x64 : Shape := ⟨4, ![12, 6, 226, 64]⟩
abbrev S12x7x226x64 : Shape := ⟨4, ![12, 7, 226, 64]⟩
abbrev S12x7x1x226x64 : Shape := ⟨5, ![12, 7, 1, 226, 64]⟩
abbrev S12x7x2x226x64 : Shape := ⟨5, ![12, 7, 2, 226, 64]⟩
abbrev S1x1x2x226x64 : Shape := ⟨5, ![1, 1, 2, 226, 64]⟩
abbrev S1x1x1x226x64 : Shape := ⟨5, ![1, 1, 1, 226, 64]⟩
abbrev S226x64 : Shape := ⟨2, ![226, 64]⟩
abbrev S1x226x64 : Shape := ⟨3, ![1, 226, 64]⟩
abbrev S32x226x64 : Shape := ⟨3, ![32, 226, 64]⟩
abbrev S34x226x64 : Shape := ⟨3, ![34, 226, 64]⟩
abbrev S12x112x114x64 : Shape := ⟨4, ![12, 112, 114, 64]⟩
abbrev S1x16x114x64 : Shape := ⟨4, ![1, 16, 114, 64]⟩
abbrev S16x2x224x64 : Shape := ⟨4, ![16, 2, 224, 64]⟩
abbrev S16x224x64 : Shape := ⟨3, ![16, 224, 64]⟩
abbrev S16x112x2x64 : Shape := ⟨4, ![16, 112, 2, 64]⟩
abbrev S16x112x64 : Shape := ⟨3, ![16, 112, 64]⟩
abbrev S1x16x112x64 : Shape := ⟨4, ![1, 16, 112, 64]⟩
abbrev S16x1x64 : Shape := ⟨3, ![16, 1, 64]⟩
abbrev S1x16x1x64 : Shape := ⟨4, ![1, 16, 1, 64]⟩
abbrev S3x64x3x128 : Shape := ⟨4, ![3, 64, 3, 128]⟩
abbrev S192x384 : Shape := ⟨2, ![192, 384]⟩
abbrev S12x1x114x64 : Shape := ⟨4, ![12, 1, 114, 64]⟩
abbrev S12x2x114x64 : Shape := ⟨4, ![12, 2, 114, 64]⟩
abbrev S12x2x1x114x64 : Shape := ⟨5, ![12, 2, 1, 114, 64]⟩
abbrev S12x2x2x114x64 : Shape := ⟨5, ![12, 2, 2, 114, 64]⟩
abbrev S1x128 : Shape := ⟨2, ![1, 128]⟩
abbrev S12x112x114x128 : Shape := ⟨4, ![12, 112, 114, 128]⟩
abbrev S1x56x114x64 : Shape := ⟨4, ![1, 56, 114, 64]⟩
abbrev S1x1x2x114x64 : Shape := ⟨5, ![1, 1, 2, 114, 64]⟩
abbrev S1x56x114x128 : Shape := ⟨4, ![1, 56, 114, 128]⟩
abbrev S1x1x1x114x64 : Shape := ⟨5, ![1, 1, 1, 114, 64]⟩
abbrev S114x64 : Shape := ⟨2, ![114, 64]⟩
abbrev S1x114x64 : Shape := ⟨3, ![1, 114, 64]⟩
abbrev S56x114x64 : Shape := ⟨3, ![56, 114, 64]⟩
abbrev S58x114x64 : Shape := ⟨3, ![58, 114, 64]⟩
abbrev S56x114x192 : Shape := ⟨3, ![56, 114, 192]⟩
abbrev S6384x192 : Shape := ⟨2, ![6384, 192]⟩
abbrev S6384x384 : Shape := ⟨2, ![6384, 384]⟩
abbrev S56x114x384 : Shape := ⟨3, ![56, 114, 384]⟩
abbrev S56x112x128 : Shape := ⟨3, ![56, 112, 128]⟩
abbrev S1x1x128 : Shape := ⟨3, ![1, 1, 128]⟩
abbrev S1x56x112x128 : Shape := ⟨4, ![1, 56, 112, 128]⟩
abbrev S56x1x128 : Shape := ⟨3, ![56, 1, 128]⟩
abbrev S1x56x1x128 : Shape := ⟨4, ![1, 56, 1, 128]⟩
abbrev S3x128x3x128 : Shape := ⟨4, ![3, 128, 3, 128]⟩
abbrev S384x384 : Shape := ⟨2, ![384, 384]⟩
abbrev S12x1x114x128 : Shape := ⟨4, ![12, 1, 114, 128]⟩
abbrev S12x2x114x128 : Shape := ⟨4, ![12, 2, 114, 128]⟩
abbrev S12x2x1x114x128 : Shape := ⟨5, ![12, 2, 1, 114, 128]⟩
abbrev S12x2x2x114x128 : Shape := ⟨5, ![12, 2, 2, 114, 128]⟩
abbrev S1x1x2x114x128 : Shape := ⟨5, ![1, 1, 2, 114, 128]⟩
abbrev S1x1x1x114x128 : Shape := ⟨5, ![1, 1, 1, 114, 128]⟩
abbrev S114x128 : Shape := ⟨2, ![114, 128]⟩
abbrev S1x114x128 : Shape := ⟨3, ![1, 114, 128]⟩
abbrev S56x114x128 : Shape := ⟨3, ![56, 114, 128]⟩
abbrev S58x114x128 : Shape := ⟨3, ![58, 114, 128]⟩
abbrev S12x56x58x128 : Shape := ⟨4, ![12, 56, 58, 128]⟩
abbrev S1x28x114x128 : Shape := ⟨4, ![1, 28, 114, 128]⟩
abbrev S1x14x58x128 : Shape := ⟨4, ![1, 14, 58, 128]⟩
abbrev S1x28x112x128 : Shape := ⟨4, ![1, 28, 112, 128]⟩
abbrev S28x112x128 : Shape := ⟨3, ![28, 112, 128]⟩
abbrev S14x2x112x128 : Shape := ⟨4, ![14, 2, 112, 128]⟩
abbrev S14x112x128 : Shape := ⟨3, ![14, 112, 128]⟩
abbrev S14x56x2x128 : Shape := ⟨4, ![14, 56, 2, 128]⟩
abbrev S14x56x128 : Shape := ⟨3, ![14, 56, 128]⟩
abbrev S1x14x56x128 : Shape := ⟨4, ![1, 14, 56, 128]⟩
abbrev S14x1x128 : Shape := ⟨3, ![14, 1, 128]⟩
abbrev S1x14x1x128 : Shape := ⟨4, ![1, 14, 1, 128]⟩
abbrev S3x3x128x256 : Shape := ⟨4, ![3, 3, 128, 256]⟩
abbrev S9x128x256 : Shape := ⟨3, ![9, 128, 256]⟩
abbrev S12x1x58x128 : Shape := ⟨4, ![12, 1, 58, 128]⟩
abbrev S12x2x58x128 : Shape := ⟨4, ![12, 2, 58, 128]⟩
abbrev S12x2x1x58x128 : Shape := ⟨5, ![12, 2, 1, 58, 128]⟩
abbrev S12x2x2x58x128 : Shape := ⟨5, ![12, 2, 2, 58, 128]⟩
abbrev S1x256 : Shape := ⟨2, ![1, 256]⟩
abbrev S12x56x58x256 : Shape := ⟨4, ![12, 56, 58, 256]⟩
abbrev S1x28x58x128 : Shape := ⟨4, ![1, 28, 58, 128]⟩
abbrev S1x1x2x58x128 : Shape := ⟨5, ![1, 1, 2, 58, 128]⟩
abbrev S1x28x58x256 : Shape := ⟨4, ![1, 28, 58, 256]⟩
abbrev S1x1x1x58x128 : Shape := ⟨5, ![1, 1, 1, 58, 128]⟩
abbrev S58x128 : Shape := ⟨2, ![58, 128]⟩
abbrev S1x58x128 : Shape := ⟨3, ![1, 58, 128]⟩
abbrev S28x58x128 : Shape := ⟨3, ![28, 58, 128]⟩
abbrev S30x58x128 : Shape := ⟨3, ![30, 58, 128]⟩
abbrev S1568x256 : Shape := ⟨2, ![1568, 256]⟩
abbrev S28x56x128 : Shape := ⟨3, ![28, 56, 128]⟩
abbrev S1568x128 : Shape := ⟨2, ![1568, 128]⟩
abbrev S1x128x256 : Shape := ⟨3, ![1, 128, 256]⟩
abbrev S128x256 : Shape := ⟨2, ![128, 256]⟩
abbrev S28x56x256 : Shape := ⟨3, ![28, 56, 256]⟩
abbrev S1x28x56x256 : Shape := ⟨4, ![1, 28, 56, 256]⟩
abbrev S28x1x256 : Shape := ⟨3, ![28, 1, 256]⟩
abbrev S1x28x1x256 : Shape := ⟨4, ![1, 28, 1, 256]⟩
abbrev S3x3x256x256 : Shape := ⟨4, ![3, 3, 256, 256]⟩
abbrev S9x256x256 : Shape := ⟨3, ![9, 256, 256]⟩
abbrev S12x1x58x256 : Shape := ⟨4, ![12, 1, 58, 256]⟩
abbrev S12x2x58x256 : Shape := ⟨4, ![12, 2, 58, 256]⟩
abbrev S12x2x1x58x256 : Shape := ⟨5, ![12, 2, 1, 58, 256]⟩
abbrev S12x2x2x58x256 : Shape := ⟨5, ![12, 2, 2, 58, 256]⟩
abbrev S1x1x2x58x256 : Shape := ⟨5, ![1, 1, 2, 58, 256]⟩
abbrev S1x1x1x58x256 : Shape := ⟨5, ![1, 1, 1, 58, 256]⟩
abbrev S58x256 : Shape := ⟨2, ![58, 256]⟩
abbrev S1x58x256 : Shape := ⟨3, ![1, 58, 256]⟩
abbrev S28x58x256 : Shape := ⟨3, ![28, 58, 256]⟩
abbrev S30x58x256 : Shape := ⟨3, ![30, 58, 256]⟩
abbrev S1x256x256 : Shape := ⟨3, ![1, 256, 256]⟩
abbrev S256x256 : Shape := ⟨2, ![256, 256]⟩

abbrev nBuf : Space → Nat
  | .hbm => 112
  | .vmem => 64
  | .smem => 0
  | _ => 0

abbrev bufTy : (tb : Table) → Fin (tcTables nBuf tb) → BufTy
  | .hbm, ⟨0, _⟩ => ⟨S12x3x224x224, .f32⟩
  | .hbm, ⟨1, _⟩ => ⟨S64x3x3x3, .f32⟩
  | .hbm, ⟨2, _⟩ => ⟨S64, .f32⟩
  | .hbm, ⟨3, _⟩ => ⟨S64x64x3x3, .f32⟩
  | .hbm, ⟨4, _⟩ => ⟨S64, .f32⟩
  | .hbm, ⟨5, _⟩ => ⟨S128x64x3x3, .f32⟩
  | .hbm, ⟨6, _⟩ => ⟨S128, .f32⟩
  | .hbm, ⟨7, _⟩ => ⟨S128x128x3x3, .f32⟩
  | .hbm, ⟨8, _⟩ => ⟨S128, .f32⟩
  | .hbm, ⟨9, _⟩ => ⟨S256x128x3x3, .f32⟩
  | .hbm, ⟨10, _⟩ => ⟨S256, .f32⟩
  | .hbm, ⟨11, _⟩ => ⟨S256x256x3x3, .f32⟩
  | .hbm, ⟨12, _⟩ => ⟨S256, .f32⟩
  | .hbm, ⟨13, _⟩ => ⟨S256x256x3x3, .f32⟩
  | .hbm, ⟨14, _⟩ => ⟨S256, .f32⟩
  | .hbm, ⟨15, _⟩ => ⟨S12x224x224x3, .f32⟩
  | .hbm, ⟨16, _⟩ => ⟨S_, .i32⟩
  | .hbm, ⟨17, _⟩ => ⟨S_, .f32⟩
  | .hbm, ⟨18, _⟩ => ⟨S12x224x226x3, .f32⟩
  | .hbm, ⟨19, _⟩ => ⟨S3x3x3x64, .f32⟩
  | .hbm, ⟨20, _⟩ => ⟨S9x192, .f32⟩
  | .hbm, ⟨21, _⟩ => ⟨S_, .f32⟩
  | .hbm, ⟨22, _⟩ => ⟨S12x1x226x3, .f32⟩
  | .hbm, ⟨23, _⟩ => ⟨S12x6x226x3, .f32⟩
  | .hbm, ⟨24, _⟩ => ⟨S12x7x226x3, .f32⟩
  | .hbm, ⟨25, _⟩ => ⟨S12x6x226x3, .f32⟩
  | .hbm, ⟨26, _⟩ => ⟨S12x7x226x3, .f32⟩
  | .hbm, ⟨27, _⟩ => ⟨S12x7x1x226x3, .f32⟩
  | .hbm, ⟨28, _⟩ => ⟨S12x7x1x226x3, .f32⟩
  | .hbm, ⟨29, _⟩ => ⟨S12x7x2x226x3, .f32⟩
  | .hbm, ⟨30, _⟩ => ⟨S1x64, .f32⟩
  | .hbm, ⟨31, _⟩ => ⟨S12x224x226x64, .f32⟩
  | .hbm, ⟨32, _⟩ => ⟨S3x64x3x64, .f32⟩
  | .hbm, ⟨33, _⟩ => ⟨S192x192, .f32⟩
  | .hbm, ⟨34, _⟩ => ⟨S_, .f32⟩
  | .hbm, ⟨35, _⟩ => ⟨S12x1x226x64, .f32⟩
  | .hbm, ⟨36, _⟩ => ⟨S12x6x226x64, .f32⟩
  | .hbm, ⟨37, _⟩ => ⟨S12x7x226x64, .f32⟩
  | .hbm, ⟨38, _⟩ => ⟨S12x6x226x64, .f32⟩
  | .hbm, ⟨39, _⟩ => ⟨S12x7x226x64, .f32⟩
  | .hbm, ⟨40, _⟩ => ⟨S12x7x1x226x64, .f32⟩
  | .hbm, ⟨41, _⟩ => ⟨S12x7x1x226x64, .f32⟩
  | .hbm, ⟨42, _⟩ => ⟨S12x7x2x226x64, .f32⟩
  | .hbm, ⟨43, _⟩ => ⟨S1x64, .f32⟩
  | .hbm, ⟨44, _⟩ => ⟨S12x224x226x64, .f32⟩
  | .hbm, ⟨45, _⟩ => ⟨S12x112x114x64, .f32⟩
  | .hbm, ⟨46, _⟩ => ⟨S3x64x3x128, .f32⟩
  | .hbm, ⟨47, _⟩ => ⟨S192x384, .f32⟩
  | .hbm, ⟨48, _⟩ => ⟨S_, .f32⟩
  | .hbm, ⟨49, _⟩ => ⟨S12x1x114x64, .f32⟩
  | .hbm, ⟨50, _⟩ => ⟨S12x1x114x64, .f32⟩
  | .hbm, ⟨51, _⟩ => ⟨S12x2x114x64, .f32⟩
  | .hbm, ⟨52, _⟩ => ⟨S12x1x114x64, .f32⟩
  | .hbm, ⟨53, _⟩ => ⟨S12x2x114x64, .f32⟩
  | .hbm, ⟨54, _⟩ => ⟨S12x2x1x114x64, .f32⟩
  | .hbm, ⟨55, _⟩ => ⟨S12x2x1x114x64, .f32⟩
  | .hbm, ⟨56, _⟩ => ⟨S12x2x2x114x64, .f32⟩
  | .hbm, ⟨57, _⟩ => ⟨S1x128, .f32⟩
  | .hbm, ⟨58, _⟩ => ⟨S12x112x114x128, .f32⟩
  | .hbm, ⟨59, _⟩ => ⟨S3x128x3x128, .f32⟩
  | .hbm, ⟨60, _⟩ => ⟨S384x384, .f32⟩
  | .hbm, ⟨61, _⟩ => ⟨S_, .f32⟩
  | .hbm, ⟨62, _⟩ => ⟨S12x1x114x128, .f32⟩
  | .hbm, ⟨63, _⟩ => ⟨S12x1x114x128, .f32⟩
  | .hbm, ⟨64, _⟩ => ⟨S12x2x114x128, .f32⟩
  | .hbm, ⟨65, _⟩ => ⟨S12x1x114x128, .f32⟩
  | .hbm, ⟨66, _⟩ => ⟨S12x2x114x128, .f32⟩
  | .hbm, ⟨67, _⟩ => ⟨S12x2x1x114x128, .f32⟩
  | .hbm, ⟨68, _⟩ => ⟨S12x2x1x114x128, .f32⟩
  | .hbm, ⟨69, _⟩ => ⟨S12x2x2x114x128, .f32⟩
  | .hbm, ⟨70, _⟩ => ⟨S1x128, .f32⟩
  | .hbm, ⟨71, _⟩ => ⟨S12x112x114x128, .f32⟩
  | .hbm, ⟨72, _⟩ => ⟨S12x56x58x128, .f32⟩
  | .hbm, ⟨73, _⟩ => ⟨S3x3x128x256, .f32⟩
  | .hbm, ⟨74, _⟩ => ⟨S9x128x256, .f32⟩
  | .hbm, ⟨75, _⟩ => ⟨S_, .f32⟩
  | .hbm, ⟨76, _⟩ => ⟨S12x1x58x128, .f32⟩
  | .hbm, ⟨77, _⟩ => ⟨S12x1x58x128, .f32⟩
  | .hbm, ⟨78, _⟩ => ⟨S12x2x58x128, .f32⟩
  | .hbm, ⟨79, _⟩ => ⟨S12x1x58x128, .f32⟩
  | .hbm, ⟨80, _⟩ => ⟨S12x2x58x128, .f32⟩
  | .hbm, ⟨81, _⟩ => ⟨S12x2x1x58x128, .f32⟩
  | .hbm, ⟨82, _⟩ => ⟨S12x2x1x58x128, .f32⟩
  | .hbm, ⟨83, _⟩ => ⟨S12x2x2x58x128, .f32⟩
  | .hbm, ⟨84, _⟩ => ⟨S1x256, .f32⟩
  | .hbm, ⟨85, _⟩ => ⟨S12x56x58x256, .f32⟩
  | .hbm, ⟨86, _⟩ => ⟨S3x3x256x256, .f32⟩
  | .hbm, ⟨87, _⟩ => ⟨S9x256x256, .f32⟩
  | .hbm, ⟨88, _⟩ => ⟨S_, .f32⟩
  | .hbm, ⟨89, _⟩ => ⟨S12x1x58x256, .f32⟩
  | .hbm, ⟨90, _⟩ => ⟨S12x1x58x256, .f32⟩
  | .hbm, ⟨91, _⟩ => ⟨S12x2x58x256, .f32⟩
  | .hbm, ⟨92, _⟩ => ⟨S12x1x58x256, .f32⟩
  | .hbm, ⟨93, _⟩ => ⟨S12x2x58x256, .f32⟩
  | .hbm, ⟨94, _⟩ => ⟨S12x2x1x58x256, .f32⟩
  | .hbm, ⟨95, _⟩ => ⟨S12x2x1x58x256, .f32⟩
  | .hbm, ⟨96, _⟩ => ⟨S12x2x2x58x256, .f32⟩
  | .hbm, ⟨97, _⟩ => ⟨S1x256, .f32⟩
  | .hbm, ⟨98, _⟩ => ⟨S12x56x58x256, .f32⟩
  | .hbm, ⟨99, _⟩ => ⟨S3x3x256x256, .f32⟩
  | .hbm, ⟨100, _⟩ => ⟨S9x256x256, .f32⟩
  | .hbm, ⟨101, _⟩ => ⟨S_, .f32⟩
  | .hbm, ⟨102, _⟩ => ⟨S12x1x58x256, .f32⟩
  | .hbm, ⟨103, _⟩ => ⟨S12x1x58x256, .f32⟩
  | .hbm, ⟨104, _⟩ => ⟨S12x2x58x256, .f32⟩
  | .hbm, ⟨105, _⟩ => ⟨S12x1x58x256, .f32⟩
  | .hbm, ⟨106, _⟩ => ⟨S12x2x58x256, .f32⟩
  | .hbm, ⟨107, _⟩ => ⟨S12x2x1x58x256, .f32⟩
  | .hbm, ⟨108, _⟩ => ⟨S12x2x1x58x256, .f32⟩
  | .hbm, ⟨109, _⟩ => ⟨S12x2x2x58x256, .f32⟩
  | .hbm, ⟨110, _⟩ => ⟨S1x256, .f32⟩
  | .hbm, ⟨111, _⟩ => ⟨S12x56x58x256, .f32⟩
  | .local _ .vmem, ⟨0, _⟩ => ⟨S1x32x226x3, .f32⟩
  | .local _ .vmem, ⟨1, _⟩ => ⟨S1x32x226x3, .f32⟩
  | .local _ .vmem, ⟨2, _⟩ => ⟨S1x1x2x226x3, .f32⟩
  | .local _ .vmem, ⟨3, _⟩ => ⟨S1x1x2x226x3, .f32⟩
  | .local _ .vmem, ⟨4, _⟩ => ⟨S9x192, .f32⟩
  | .local _ .vmem, ⟨5, _⟩ => ⟨S1x64, .f32⟩
  | .local _ .vmem, ⟨6, _⟩ => ⟨S1x32x226x64, .f32⟩
  | .local _ .vmem, ⟨7, _⟩ => ⟨S1x32x226x64, .f32⟩
  | .local _ .vmem, ⟨8, _⟩ => ⟨S1x32x226x64, .f32⟩
  | .local _ .vmem, ⟨9, _⟩ => ⟨S1x32x226x64, .f32⟩
  | .local _ .vmem, ⟨10, _⟩ => ⟨S1x1x2x226x64, .f32⟩
  | .local _ .vmem, ⟨11, _⟩ => ⟨S1x1x2x226x64, .f32⟩
  | .local _ .vmem, ⟨12, _⟩ => ⟨S192x192, .f32⟩
  | .local _ .vmem, ⟨13, _⟩ => ⟨S1x64, .f32⟩
  | .local _ .vmem, ⟨14, _⟩ => ⟨S1x32x226x64, .f32⟩
  | .local _ .vmem, ⟨15, _⟩ => ⟨S1x32x226x64, .f32⟩
  | .local _ .vmem, ⟨16, _⟩ => ⟨S1x32x226x64, .f32⟩
  | .local _ .vmem, ⟨17, _⟩ => ⟨S1x32x226x64, .f32⟩
  | .local _ .vmem, ⟨18, _⟩ => ⟨S1x16x114x64, .f32⟩
  | .local _ .vmem, ⟨19, _⟩ => ⟨S1x16x114x64, .f32⟩
  | .local _ .vmem, ⟨20, _⟩ => ⟨S1x56x114x64, .f32⟩
  | .local _ .vmem, ⟨21, _⟩ => ⟨S1x56x114x64, .f32⟩
  | .local _ .vmem, ⟨22, _⟩ => ⟨S1x1x2x114x64, .f32⟩
  | .local _ .vmem, ⟨23, _⟩ => ⟨S1x1x2x114x64, .f32⟩
  | .local _ .vmem, ⟨24, _⟩ => ⟨S192x384, .f32⟩
  | .local _ .vmem, ⟨25, _⟩ => ⟨S1x128, .f32⟩
  | .local _ .vmem, ⟨26, _⟩ => ⟨S1x56x114x128, .f32⟩
  | .local _ .vmem, ⟨27, _⟩ => ⟨S1x56x114x128, .f32⟩
  | .local _ .vmem, ⟨28, _⟩ => ⟨S1x56x114x128, .f32⟩
  | .local _ .vmem, ⟨29, _⟩ => ⟨S1x56x114x128, .f32⟩
  | .local _ .vmem, ⟨30, _⟩ => ⟨S1x1x2x114x128, .f32⟩
  | .local _ .vmem, ⟨31, _⟩ => ⟨S1x1x2x114x128, .f32⟩
  | .local _ .vmem, ⟨32, _⟩ => ⟨S384x384, .f32⟩
  | .local _ .vmem, ⟨33, _⟩ => ⟨S1x128, .f32⟩
  | .local _ .vmem, ⟨34, _⟩ => ⟨S1x56x114x128, .f32⟩
  | .local _ .vmem, ⟨35, _⟩ => ⟨S1x56x114x128, .f32⟩
  | .local _ .vmem, ⟨36, _⟩ => ⟨S1x28x114x128, .f32⟩
  | .local _ .vmem, ⟨37, _⟩ => ⟨S1x28x114x128, .f32⟩
  | .local _ .vmem, ⟨38, _⟩ => ⟨S1x14x58x128, .f32⟩
  | .local _ .vmem, ⟨39, _⟩ => ⟨S1x14x58x128, .f32⟩
  | .local _ .vmem, ⟨40, _⟩ => ⟨S1x28x58x128, .f32⟩
  | .local _ .vmem, ⟨41, _⟩ => ⟨S1x28x58x128, .f32⟩
  | .local _ .vmem, ⟨42, _⟩ => ⟨S1x1x2x58x128, .f32⟩
  | .local _ .vmem, ⟨43, _⟩ => ⟨S1x1x2x58x128, .f32⟩
  | .local _ .vmem, ⟨44, _⟩ => ⟨S9x128x256, .f32⟩
  | .local _ .vmem, ⟨45, _⟩ => ⟨S1x256, .f32⟩
  | .local _ .vmem, ⟨46, _⟩ => ⟨S1x28x58x256, .f32⟩
  | .local _ .vmem, ⟨47, _⟩ => ⟨S1x28x58x256, .f32⟩
  | .local _ .vmem, ⟨48, _⟩ => ⟨S1x28x58x256, .f32⟩
  | .local _ .vmem, ⟨49, _⟩ => ⟨S1x28x58x256, .f32⟩
  | .local _ .vmem, ⟨50, _⟩ => ⟨S1x1x2x58x256, .f32⟩
  | .local _ .vmem, ⟨51, _⟩ => ⟨S1x1x2x58x256, .f32⟩
  | .local _ .vmem, ⟨52, _⟩ => ⟨S9x256x256, .f32⟩
  | .local _ .vmem, ⟨53, _⟩ => ⟨S1x256, .f32⟩
  | .local _ .vmem, ⟨54, _⟩ => ⟨S1x28x58x256, .f32⟩
  | .local _ .vmem, ⟨55, _⟩ => ⟨S1x28x58x256, .f32⟩
  | .local _ .vmem, ⟨56, _⟩ => ⟨S1x28x58x256, .f32⟩
  | .local _ .vmem, ⟨57, _⟩ => ⟨S1x28x58x256, .f32⟩
  | .local _ .vmem, ⟨58, _⟩ => ⟨S1x1x2x58x256, .f32⟩
  | .local _ .vmem, ⟨59, _⟩ => ⟨S1x1x2x58x256, .f32⟩
  | .local _ .vmem, ⟨60, _⟩ => ⟨S9x256x256, .f32⟩
  | .local _ .vmem, ⟨61, _⟩ => ⟨S1x256, .f32⟩
  | .local _ .vmem, ⟨62, _⟩ => ⟨S1x28x58x256, .f32⟩
  | .local _ .vmem, ⟨63, _⟩ => ⟨S1x28x58x256, .f32⟩
  | _, _ => ⟨S12x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_3 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_4 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_5 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg4_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem4_1 : DmaSem sig := 63

abbrev nD : Nat := 1
abbrev τ : Topo := Topo.v7x

variable {F : FTy → Type} [FloatOps F]

abbrev grid0 : Pipeline.Grid := ⟨2, ![12, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x226x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x226x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S9x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x226x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![12, 7], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x226x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2x226x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S192x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x32x226x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![12, 7], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x226x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x114x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![12, 2], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x56x114x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x2x114x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S192x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x56x114x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![12, 2], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_1 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x56x114x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1x2x114x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S384x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x56x114x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![12, 4], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x28x114x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x14x58x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev grid6 : Pipeline.Grid := ⟨2, ![12, 2], ![false, false]⟩

def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc6_transform_1 (i : grid6.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x28x58x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x1x2x58x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S9x128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1x28x58x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![12, 2], ![false, false]⟩

def cc7_transform_0 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_1 (i : grid7.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x28x58x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x1x2x58x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S9x256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 2 → Memref sig .tc .vmem S1x28x58x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨2, ![12, 2], ![false, false]⟩

def cc8_transform_0 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc8_transform_1 (i : grid8.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x28x58x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x1x2x58x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S9x256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1x28x58x256 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]
-- ==== ReferenceIdeal.lean ====
abbrev S12x3x224x224 : Shape := ⟨4, ![12, 3, 224, 224]⟩
abbrev S64x3x3x3 : Shape := ⟨4, ![64, 3, 3, 3]⟩
abbrev S64 : Shape := ⟨1, ![64]⟩
abbrev S64x64x3x3 : Shape := ⟨4, ![64, 64, 3, 3]⟩
abbrev S128x64x3x3 : Shape := ⟨4, ![128, 64, 3, 3]⟩
abbrev S128 : Shape := ⟨1, ![128]⟩
abbrev S128x128x3x3 : Shape := ⟨4, ![128, 128, 3, 3]⟩
abbrev S256x128x3x3 : Shape := ⟨4, ![256, 128, 3, 3]⟩
abbrev S256 : Shape := ⟨1, ![256]⟩
abbrev S256x256x3x3 : Shape := ⟨4, ![256, 256, 3, 3]⟩
abbrev S12x224x224x3 : Shape := ⟨4, ![12, 224, 224, 3]⟩
abbrev S_ : Shape := ⟨0, ![]⟩
abbrev S12x226x226x3 : Shape := ⟨4, ![12, 226, 226, 3]⟩
abbrev S12x224x224x64 : Shape := ⟨4, ![12, 224, 224, 64]⟩
abbrev S64x3x1x1 : Shape := ⟨4, ![64, 3, 1, 1]⟩
abbrev S64x3 : Shape := ⟨2, ![64, 3]⟩
abbrev S1x1x1x64 : Shape := ⟨4, ![1, 1, 1, 64]⟩
abbrev S12x226x226x64 : Shape := ⟨4, ![12, 226, 226, 64]⟩
abbrev S64x64x1x1 : Shape := ⟨4, ![64, 64, 1, 1]⟩
abbrev S64x64 : Shape := ⟨2, ![64, 64]⟩
abbrev S12x112x112x64 : Shape := ⟨4, ![12, 112, 112, 64]⟩
abbrev S12x114x114x64 : Shape := ⟨4, ![12, 114, 114, 64]⟩
abbrev S12x112x112x128 : Shape := ⟨4, ![12, 112, 112, 128]⟩
abbrev S128x64x1x1 : Shape := ⟨4, ![128, 64, 1, 1]⟩
abbrev S128x64 : Shape := ⟨2, ![128, 64]⟩
abbrev S1x1x1x128 : Shape := ⟨4, ![1, 1, 1, 128]⟩
abbrev S12x114x114x128 : Shape := ⟨4, ![12, 114, 114, 128]⟩
abbrev S128x128x1x1 : Shape := ⟨4, ![128, 128, 1, 1]⟩
abbrev S128x128 : Shape := ⟨2, ![128, 128]⟩
abbrev S12x56x56x128 : Shape := ⟨4, ![12, 56, 56, 128]⟩
abbrev S12x58x58x128 : Shape := ⟨4, ![12, 58, 58, 128]⟩
abbrev S12x56x56x256 : Shape := ⟨4, ![12, 56, 56, 256]⟩
abbrev S256x128x1x1 : Shape := ⟨4, ![256, 128, 1, 1]⟩
abbrev S256x128 : Shape := ⟨2, ![256, 128]⟩
abbrev S1x1x1x256 : Shape := ⟨4, ![1, 1, 1, 256]⟩
abbrev S12x58x58x256 : Shape := ⟨4, ![12, 58, 58, 256]⟩
abbrev S256x256x1x1 : Shape := ⟨4, ![256, 256, 1, 1]⟩
abbrev S256x256 : Shape := ⟨2, ![256, 256]⟩
abbrev S12x224x226x64 : Shape := ⟨4, ![12, 224, 226, 64]⟩
abbrev S12x112x114x128 : Shape := ⟨4, ![12, 112, 114, 128]⟩
abbrev S12x56x58x256 : Shape := ⟨4, ![12, 56, 58, 256]⟩

abbrev nBuf : Space → Nat
  | .hbm => 423
  | .vmem => 0
  | .smem => 0
  | _ => 0

abbrev hbmTy0_0 (i : Nat) : BufTy := match i % 128 with
  | 0 => ⟨S12x3x224x224, .f32⟩
  | 1 => ⟨S64x3x3x3, .f32⟩
  | 2 => ⟨S64, .f32⟩
  | 3 => ⟨S64x64x3x3, .f32⟩
  | 4 => ⟨S64, .f32⟩
  | 5 => ⟨S128x64x3x3, .f32⟩
  | 6 => ⟨S128, .f32⟩
  | 7 => ⟨S128x128x3x3, .f32⟩
  | 8 => ⟨S128, .f32⟩
  | 9 => ⟨S256x128x3x3, .f32⟩
  | 10 => ⟨S256, .f32⟩
  | 11 => ⟨S256x256x3x3, .f32⟩
  | 12 => ⟨S256, .f32⟩
  | 13 => ⟨S256x256x3x3, .f32⟩
  | 14 => ⟨S256, .f32⟩
  | 15 => ⟨S12x224x224x3, .f32⟩
  | 16 => ⟨S_, .i32⟩
  | 17 => ⟨S_, .f32⟩
  | 18 => ⟨S12x226x226x3, .f32⟩
  | 19 => ⟨S_, .f32⟩
  | 20 => ⟨S12x224x224x64, .f32⟩
  | 21 => ⟨S12x224x224x3, .f32⟩
  | 22 => ⟨S64x3x1x1, .f32⟩
  | 23 => ⟨S64x3, .f32⟩
  | 24 => ⟨S12x224x224x64, .f32⟩
  | 25 => ⟨S12x224x224x64, .f32⟩
  | 26 => ⟨S12x224x224x3, .f32⟩
  | 27 => ⟨S64x3x1x1, .f32⟩
  | 28 => ⟨S64x3, .f32⟩
  | 29 => ⟨S12x224x224x64, .f32⟩
  | 30 => ⟨S12x224x224x64, .f32⟩
  | 31 => ⟨S12x224x224x3, .f32⟩
  | 32 => ⟨S64x3x1x1, .f32⟩
  | 33 => ⟨S64x3, .f32⟩
  | 34 => ⟨S12x224x224x64, .f32⟩
  | 35 => ⟨S12x224x224x64, .f32⟩
  | 36 => ⟨S12x224x224x3, .f32⟩
  | 37 => ⟨S64x3x1x1, .f32⟩
  | 38 => ⟨S64x3, .f32⟩
  | 39 => ⟨S12x224x224x64, .f32⟩
  | 40 => ⟨S12x224x224x64, .f32⟩
  | 41 => ⟨S12x224x224x3, .f32⟩
  | 42 => ⟨S64x3x1x1, .f32⟩
  | 43 => ⟨S64x3, .f32⟩
  | 44 => ⟨S12x224x224x64, .f32⟩
  | 45 => ⟨S12x224x224x64, .f32⟩
  | 46 => ⟨S12x224x224x3, .f32⟩
  | 47 => ⟨S64x3x1x1, .f32⟩
  | 48 => ⟨S64x3, .f32⟩
  | 49 => ⟨S12x224x224x64, .f32⟩
  | 50 => ⟨S12x224x224x64, .f32⟩
  | 51 => ⟨S12x224x224x3, .f32⟩
  | 52 => ⟨S64x3x1x1, .f32⟩
  | 53 => ⟨S64x3, .f32⟩
  | 54 => ⟨S12x224x224x64, .f32⟩
  | 55 => ⟨S12x224x224x64, .f32⟩
  | 56 => ⟨S12x224x224x3, .f32⟩
  | 57 => ⟨S64x3x1x1, .f32⟩
  | 58 => ⟨S64x3, .f32⟩
  | 59 => ⟨S12x224x224x64, .f32⟩
  | 60 => ⟨S12x224x224x64, .f32⟩
  | 61 => ⟨S12x224x224x3, .f32⟩
  | 62 => ⟨S64x3x1x1, .f32⟩
  | 63 => ⟨S64x3, .f32⟩
  | 64 => ⟨S12x224x224x64, .f32⟩
  | 65 => ⟨S12x224x224x64, .f32⟩
  | 66 => ⟨S1x1x1x64, .f32⟩
  | 67 => ⟨S12x224x224x64, .f32⟩
  | 68 => ⟨S12x224x224x64, .f32⟩
  | 69 => ⟨S_, .f32⟩
  | 70 => ⟨S12x224x224x64, .f32⟩
  | 71 => ⟨S12x224x224x64, .f32⟩
  | 72 => ⟨S_, .i32⟩
  | 73 => ⟨S_, .f32⟩
  | 74 => ⟨S12x226x226x64, .f32⟩
  | 75 => ⟨S_, .f32⟩
  | 76 => ⟨S12x224x224x64, .f32⟩
  | 77 => ⟨S12x224x224x64, .f32⟩
  | 78 => ⟨S64x64x1x1, .f32⟩
  | 79 => ⟨S64x64, .f32⟩
  | 80 => ⟨S12x224x224x64, .f32⟩
  | 81 => ⟨S12x224x224x64, .f32⟩
  | 82 => ⟨S12x224x224x64, .f32⟩
  | 83 => ⟨S64x64x1x1, .f32⟩
  | 84 => ⟨S64x64, .f32⟩
  | 85 => ⟨S12x224x224x64, .f32⟩
  | 86 => ⟨S12x224x224x64, .f32⟩
  | 87 => ⟨S12x224x224x64, .f32⟩
  | 88 => ⟨S64x64x1x1, .f32⟩
  | 89 => ⟨S64x64, .f32⟩
  | 90 => ⟨S12x224x224x64, .f32⟩
  | 91 => ⟨S12x224x224x64, .f32⟩
  | 92 => ⟨S12x224x224x64, .f32⟩
  | 93 => ⟨S64x64x1x1, .f32⟩
  | 94 => ⟨S64x64, .f32⟩
  | 95 => ⟨S12x224x224x64, .f32⟩
  | 96 => ⟨S12x224x224x64, .f32⟩
  | 97 => ⟨S12x224x224x64, .f32⟩
  | 98 => ⟨S64x64x1x1, .f32⟩
  | 99 => ⟨S64x64, .f32⟩
  | 100 => ⟨S12x224x224x64, .f32⟩
  | 101 => ⟨S12x224x224x64, .f32⟩
  | 102 => ⟨S12x224x224x64, .f32⟩
  | 103 => ⟨S64x64x1x1, .f32⟩
  | 104 => ⟨S64x64, .f32⟩
  | 105 => ⟨S12x224x224x64, .f32⟩
  | 106 => ⟨S12x224x224x64, .f32⟩
  | 107 => ⟨S12x224x224x64, .f32⟩
  | 108 => ⟨S64x64x1x1, .f32⟩
  | 109 => ⟨S64x64, .f32⟩
  | 110 => ⟨S12x224x224x64, .f32⟩
  | 111 => ⟨S12x224x224x64, .f32⟩
  | 112 => ⟨S12x224x224x64, .f32⟩
  | 113 => ⟨S64x64x1x1, .f32⟩
  | 114 => ⟨S64x64, .f32⟩
  | 115 => ⟨S12x224x224x64, .f32⟩
  | 116 => ⟨S12x224x224x64, .f32⟩
  | 117 => ⟨S12x224x224x64, .f32⟩
  | 118 => ⟨S64x64x1x1, .f32⟩
  | 119 => ⟨S64x64, .f32⟩
  | 120 => ⟨S12x224x224x64, .f32⟩
  | 121 => ⟨S12x224x224x64, .f32⟩
  | 122 => ⟨S1x1x1x64, .f32⟩
  | 123 => ⟨S12x224x224x64, .f32⟩
  | 124 => ⟨S12x224x224x64, .f32⟩
  | 125 => ⟨S_, .f32⟩
  | 126 => ⟨S12x224x224x64, .f32⟩
  | 127 => ⟨S12x224x224x64, .f32⟩
  | _ => ⟨S12x3x224x224, .f32⟩

abbrev hbmTy0_1 (i : Nat) : BufTy := match i % 128 with
  | 0 => ⟨S_, .f32⟩
  | 1 => ⟨S_, .f32⟩
  | 2 => ⟨S12x112x112x64, .f32⟩
  | 3 => ⟨S_, .i32⟩
  | 4 => ⟨S_, .f32⟩
  | 5 => ⟨S12x114x114x64, .f32⟩
  | 6 => ⟨S_, .f32⟩
  | 7 => ⟨S12x112x112x128, .f32⟩
  | 8 => ⟨S12x112x112x64, .f32⟩
  | 9 => ⟨S128x64x1x1, .f32⟩
  | 10 => ⟨S128x64, .f32⟩
  | 11 => ⟨S12x112x112x128, .f32⟩
  | 12 => ⟨S12x112x112x128, .f32⟩
  | 13 => ⟨S12x112x112x64, .f32⟩
  | 14 => ⟨S128x64x1x1, .f32⟩
  | 15 => ⟨S128x64, .f32⟩
  | 16 => ⟨S12x112x112x128, .f32⟩
  | 17 => ⟨S12x112x112x128, .f32⟩
  | 18 => ⟨S12x112x112x64, .f32⟩
  | 19 => ⟨S128x64x1x1, .f32⟩
  | 20 => ⟨S128x64, .f32⟩
  | 21 => ⟨S12x112x112x128, .f32⟩
  | 22 => ⟨S12x112x112x128, .f32⟩
  | 23 => ⟨S12x112x112x64, .f32⟩
  | 24 => ⟨S128x64x1x1, .f32⟩
  | 25 => ⟨S128x64, .f32⟩
  | 26 => ⟨S12x112x112x128, .f32⟩
  | 27 => ⟨S12x112x112x128, .f32⟩
  | 28 => ⟨S12x112x112x64, .f32⟩
  | 29 => ⟨S128x64x1x1, .f32⟩
  | 30 => ⟨S128x64, .f32⟩
  | 31 => ⟨S12x112x112x128, .f32⟩
  | 32 => ⟨S12x112x112x128, .f32⟩
  | 33 => ⟨S12x112x112x64, .f32⟩
  | 34 => ⟨S128x64x1x1, .f32⟩
  | 35 => ⟨S128x64, .f32⟩
  | 36 => ⟨S12x112x112x128, .f32⟩
  | 37 => ⟨S12x112x112x128, .f32⟩
  | 38 => ⟨S12x112x112x64, .f32⟩
  | 39 => ⟨S128x64x1x1, .f32⟩
  | 40 => ⟨S128x64, .f32⟩
  | 41 => ⟨S12x112x112x128, .f32⟩
  | 42 => ⟨S12x112x112x128, .f32⟩
  | 43 => ⟨S12x112x112x64, .f32⟩
  | 44 => ⟨S128x64x1x1, .f32⟩
  | 45 => ⟨S128x64, .f32⟩
  | 46 => ⟨S12x112x112x128, .f32⟩
  | 47 => ⟨S12x112x112x128, .f32⟩
  | 48 => ⟨S12x112x112x64, .f32⟩
  | 49 => ⟨S128x64x1x1, .f32⟩
  | 50 => ⟨S128x64, .f32⟩
  | 51 => ⟨S12x112x112x128, .f32⟩
  | 52 => ⟨S12x112x112x128, .f32⟩
  | 53 => ⟨S1x1x1x128, .f32⟩
  | 54 => ⟨S12x112x112x128, .f32⟩
  | 55 => ⟨S12x112x112x128, .f32⟩
  | 56 => ⟨S_, .f32⟩
  | 57 => ⟨S12x112x112x128, .f32⟩
  | 58 => ⟨S12x112x112x128, .f32⟩
  | 59 => ⟨S_, .i32⟩
  | 60 => ⟨S_, .f32⟩
  | 61 => ⟨S12x114x114x128, .f32⟩
  | 62 => ⟨S_, .f32⟩
  | 63 => ⟨S12x112x112x128, .f32⟩
  | 64 => ⟨S12x112x112x128, .f32⟩
  | 65 => ⟨S128x128x1x1, .f32⟩
  | 66 => ⟨S128x128, .f32⟩
  | 67 => ⟨S12x112x112x128, .f32⟩
  | 68 => ⟨S12x112x112x128, .f32⟩
  | 69 => ⟨S12x112x112x128, .f32⟩
  | 70 => ⟨S128x128x1x1, .f32⟩
  | 71 => ⟨S128x128, .f32⟩
  | 72 => ⟨S12x112x112x128, .f32⟩
  | 73 => ⟨S12x112x112x128, .f32⟩
  | 74 => ⟨S12x112x112x128, .f32⟩
  | 75 => ⟨S128x128x1x1, .f32⟩
  | 76 => ⟨S128x128, .f32⟩
  | 77 => ⟨S12x112x112x128, .f32⟩
  | 78 => ⟨S12x112x112x128, .f32⟩
  | 79 => ⟨S12x112x112x128, .f32⟩
  | 80 => ⟨S128x128x1x1, .f32⟩
  | 81 => ⟨S128x128, .f32⟩
  | 82 => ⟨S12x112x112x128, .f32⟩
  | 83 => ⟨S12x112x112x128, .f32⟩
  | 84 => ⟨S12x112x112x128, .f32⟩
  | 85 => ⟨S128x128x1x1, .f32⟩
  | 86 => ⟨S128x128, .f32⟩
  | 87 => ⟨S12x112x112x128, .f32⟩
  | 88 => ⟨S12x112x112x128, .f32⟩
  | 89 => ⟨S12x112x112x128, .f32⟩
  | 90 => ⟨S128x128x1x1, .f32⟩
  | 91 => ⟨S128x128, .f32⟩
  | 92 => ⟨S12x112x112x128, .f32⟩
  | 93 => ⟨S12x112x112x128, .f32⟩
  | 94 => ⟨S12x112x112x128, .f32⟩
  | 95 => ⟨S128x128x1x1, .f32⟩
  | 96 => ⟨S128x128, .f32⟩
  | 97 => ⟨S12x112x112x128, .f32⟩
  | 98 => ⟨S12x112x112x128, .f32⟩
  | 99 => ⟨S12x112x112x128, .f32⟩
  | 100 => ⟨S128x128x1x1, .f32⟩
  | 101 => ⟨S128x128, .f32⟩
  | 102 => ⟨S12x112x112x128, .f32⟩
  | 103 => ⟨S12x112x112x128, .f32⟩
  | 104 => ⟨S12x112x112x128, .f32⟩
  | 105 => ⟨S128x128x1x1, .f32⟩
  | 106 => ⟨S128x128, .f32⟩
  | 107 => ⟨S12x112x112x128, .f32⟩
  | 108 => ⟨S12x112x112x128, .f32⟩
  | 109 => ⟨S1x1x1x128, .f32⟩
  | 110 => ⟨S12x112x112x128, .f32⟩
  | 111 => ⟨S12x112x112x128, .f32⟩
  | 112 => ⟨S_, .f32⟩
  | 113 => ⟨S12x112x112x128, .f32⟩
  | 114 => ⟨S12x112x112x128, .f32⟩
  | 115 => ⟨S_, .f32⟩
  | 116 => ⟨S_, .f32⟩
  | 117 => ⟨S12x56x56x128, .f32⟩
  | 118 => ⟨S_, .i32⟩
  | 119 => ⟨S_, .f32⟩
  | 120 => ⟨S12x58x58x128, .f32⟩
  | 121 => ⟨S_, .f32⟩
  | 122 => ⟨S12x56x56x256, .f32⟩
  | 123 => ⟨S12x56x56x128, .f32⟩
  | 124 => ⟨S256x128x1x1, .f32⟩
  | 125 => ⟨S256x128, .f32⟩
  | 126 => ⟨S12x56x56x256, .f32⟩
  | 127 => ⟨S12x56x56x256, .f32⟩
  | _ => ⟨S12x3x224x224, .f32⟩

abbrev hbmTy0_2 (i : Nat) : BufTy := match i % 128 with
  | 0 => ⟨S12x56x56x128, .f32⟩
  | 1 => ⟨S256x128x1x1, .f32⟩
  | 2 => ⟨S256x128, .f32⟩
  | 3 => ⟨S12x56x56x256, .f32⟩
  | 4 => ⟨S12x56x56x256, .f32⟩
  | 5 => ⟨S12x56x56x128, .f32⟩
  | 6 => ⟨S256x128x1x1, .f32⟩
  | 7 => ⟨S256x128, .f32⟩
  | 8 => ⟨S12x56x56x256, .f32⟩
  | 9 => ⟨S12x56x56x256, .f32⟩
  | 10 => ⟨S12x56x56x128, .f32⟩
  | 11 => ⟨S256x128x1x1, .f32⟩
  | 12 => ⟨S256x128, .f32⟩
  | 13 => ⟨S12x56x56x256, .f32⟩
  | 14 => ⟨S12x56x56x256, .f32⟩
  | 15 => ⟨S12x56x56x128, .f32⟩
  | 16 => ⟨S256x128x1x1, .f32⟩
  | 17 => ⟨S256x128, .f32⟩
  | 18 => ⟨S12x56x56x256, .f32⟩
  | 19 => ⟨S12x56x56x256, .f32⟩
  | 20 => ⟨S12x56x56x128, .f32⟩
  | 21 => ⟨S256x128x1x1, .f32⟩
  | 22 => ⟨S256x128, .f32⟩
  | 23 => ⟨S12x56x56x256, .f32⟩
  | 24 => ⟨S12x56x56x256, .f32⟩
  | 25 => ⟨S12x56x56x128, .f32⟩
  | 26 => ⟨S256x128x1x1, .f32⟩
  | 27 => ⟨S256x128, .f32⟩
  | 28 => ⟨S12x56x56x256, .f32⟩
  | 29 => ⟨S12x56x56x256, .f32⟩
  | 30 => ⟨S12x56x56x128, .f32⟩
  | 31 => ⟨S256x128x1x1, .f32⟩
  | 32 => ⟨S256x128, .f32⟩
  | 33 => ⟨S12x56x56x256, .f32⟩
  | 34 => ⟨S12x56x56x256, .f32⟩
  | 35 => ⟨S12x56x56x128, .f32⟩
  | 36 => ⟨S256x128x1x1, .f32⟩
  | 37 => ⟨S256x128, .f32⟩
  | 38 => ⟨S12x56x56x256, .f32⟩
  | 39 => ⟨S12x56x56x256, .f32⟩
  | 40 => ⟨S1x1x1x256, .f32⟩
  | 41 => ⟨S12x56x56x256, .f32⟩
  | 42 => ⟨S12x56x56x256, .f32⟩
  | 43 => ⟨S_, .f32⟩
  | 44 => ⟨S12x56x56x256, .f32⟩
  | 45 => ⟨S12x56x56x256, .f32⟩
  | 46 => ⟨S_, .i32⟩
  | 47 => ⟨S_, .f32⟩
  | 48 => ⟨S12x58x58x256, .f32⟩
  | 49 => ⟨S_, .f32⟩
  | 50 => ⟨S12x56x56x256, .f32⟩
  | 51 => ⟨S12x56x56x256, .f32⟩
  | 52 => ⟨S256x256x1x1, .f32⟩
  | 53 => ⟨S256x256, .f32⟩
  | 54 => ⟨S12x56x56x256, .f32⟩
  | 55 => ⟨S12x56x56x256, .f32⟩
  | 56 => ⟨S12x56x56x256, .f32⟩
  | 57 => ⟨S256x256x1x1, .f32⟩
  | 58 => ⟨S256x256, .f32⟩
  | 59 => ⟨S12x56x56x256, .f32⟩
  | 60 => ⟨S12x56x56x256, .f32⟩
  | 61 => ⟨S12x56x56x256, .f32⟩
  | 62 => ⟨S256x256x1x1, .f32⟩
  | 63 => ⟨S256x256, .f32⟩
  | 64 => ⟨S12x56x56x256, .f32⟩
  | 65 => ⟨S12x56x56x256, .f32⟩
  | 66 => ⟨S12x56x56x256, .f32⟩
  | 67 => ⟨S256x256x1x1, .f32⟩
  | 68 => ⟨S256x256, .f32⟩
  | 69 => ⟨S12x56x56x256, .f32⟩
  | 70 => ⟨S12x56x56x256, .f32⟩
  | 71 => ⟨S12x56x56x256, .f32⟩
  | 72 => ⟨S256x256x1x1, .f32⟩
  | 73 => ⟨S256x256, .f32⟩
  | 74 => ⟨S12x56x56x256, .f32⟩
  | 75 => ⟨S12x56x56x256, .f32⟩
  | 76 => ⟨S12x56x56x256, .f32⟩
  | 77 => ⟨S256x256x1x1, .f32⟩
  | 78 => ⟨S256x256, .f32⟩
  | 79 => ⟨S12x56x56x256, .f32⟩
  | 80 => ⟨S12x56x56x256, .f32⟩
  | 81 => ⟨S12x56x56x256, .f32⟩
  | 82 => ⟨S256x256x1x1, .f32⟩
  | 83 => ⟨S256x256, .f32⟩
  | 84 => ⟨S12x56x56x256, .f32⟩
  | 85 => ⟨S12x56x56x256, .f32⟩
  | 86 => ⟨S12x56x56x256, .f32⟩
  | 87 => ⟨S256x256x1x1, .f32⟩
  | 88 => ⟨S256x256, .f32⟩
  | 89 => ⟨S12x56x56x256, .f32⟩
  | 90 => ⟨S12x56x56x256, .f32⟩
  | 91 => ⟨S12x56x56x256, .f32⟩
  | 92 => ⟨S256x256x1x1, .f32⟩
  | 93 => ⟨S256x256, .f32⟩
  | 94 => ⟨S12x56x56x256, .f32⟩
  | 95 => ⟨S12x56x56x256, .f32⟩
  | 96 => ⟨S1x1x1x256, .f32⟩
  | 97 => ⟨S12x56x56x256, .f32⟩
  | 98 => ⟨S12x56x56x256, .f32⟩
  | 99 => ⟨S_, .f32⟩
  | 100 => ⟨S12x56x56x256, .f32⟩
  | 101 => ⟨S12x56x56x256, .f32⟩
  | 102 => ⟨S_, .i32⟩
  | 103 => ⟨S_, .f32⟩
  | 104 => ⟨S12x58x58x256, .f32⟩
  | 105 => ⟨S_, .f32⟩
  | 106 => ⟨S12x56x56x256, .f32⟩
  | 107 => ⟨S12x56x56x256, .f32⟩
  | 108 => ⟨S256x256x1x1, .f32⟩
  | 109 => ⟨S256x256, .f32⟩
  | 110 => ⟨S12x56x56x256, .f32⟩
  | 111 => ⟨S12x56x56x256, .f32⟩
  | 112 => ⟨S12x56x56x256, .f32⟩
  | 113 => ⟨S256x256x1x1, .f32⟩
  | 114 => ⟨S256x256, .f32⟩
  | 115 => ⟨S12x56x56x256, .f32⟩
  | 116 => ⟨S12x56x56x256, .f32⟩
  | 117 => ⟨S12x56x56x256, .f32⟩
  | 118 => ⟨S256x256x1x1, .f32⟩
  | 119 => ⟨S256x256, .f32⟩
  | 120 => ⟨S12x56x56x256, .f32⟩
  | 121 => ⟨S12x56x56x256, .f32⟩
  | 122 => ⟨S12x56x56x256, .f32⟩
  | 123 => ⟨S256x256x1x1, .f32⟩
  | 124 => ⟨S256x256, .f32⟩
  | 125 => ⟨S12x56x56x256, .f32⟩
  | 126 => ⟨S12x56x56x256, .f32⟩
  | 127 => ⟨S12x56x56x256, .f32⟩
  | _ => ⟨S12x3x224x224, .f32⟩

abbrev hbmTy0_3 (i : Nat) : BufTy := match i % 128 with
  | 0 => ⟨S256x256x1x1, .f32⟩
  | 1 => ⟨S256x256, .f32⟩
  | 2 => ⟨S12x56x56x256, .f32⟩
  | 3 => ⟨S12x56x56x256, .f32⟩
  | 4 => ⟨S12x56x56x256, .f32⟩
  | 5 => ⟨S256x256x1x1, .f32⟩
  | 6 => ⟨S256x256, .f32⟩
  | 7 => ⟨S12x56x56x256, .f32⟩
  | 8 => ⟨S12x56x56x256, .f32⟩
  | 9 => ⟨S12x56x56x256, .f32⟩
  | 10 => ⟨S256x256x1x1, .f32⟩
  | 11 => ⟨S256x256, .f32⟩
  | 12 => ⟨S12x56x56x256, .f32⟩
  | 13 => ⟨S12x56x56x256, .f32⟩
  | 14 => ⟨S12x56x56x256, .f32⟩
  | 15 => ⟨S256x256x1x1, .f32⟩
  | 16 => ⟨S256x256, .f32⟩
  | 17 => ⟨S12x56x56x256, .f32⟩
  | 18 => ⟨S12x56x56x256, .f32⟩
  | 19 => ⟨S12x56x56x256, .f32⟩
  | 20 => ⟨S256x256x1x1, .f32⟩
  | 21 => ⟨S256x256, .f32⟩
  | 22 => ⟨S12x56x56x256, .f32⟩
  | 23 => ⟨S12x56x56x256, .f32⟩
  | 24 => ⟨S1x1x1x256, .f32⟩
  | 25 => ⟨S12x56x56x256, .f32⟩
  | 26 => ⟨S12x56x56x256, .f32⟩
  | 27 => ⟨S_, .f32⟩
  | 28 => ⟨S12x56x56x256, .f32⟩
  | 29 => ⟨S12x56x56x256, .f32⟩
  | 30 => ⟨S_, .i32⟩
  | 31 => ⟨S_, .f32⟩
  | 32 => ⟨S12x224x226x64, .f32⟩
  | 33 => ⟨S_, .i32⟩
  | 34 => ⟨S_, .f32⟩
  | 35 => ⟨S12x112x114x128, .f32⟩
  | 36 => ⟨S_, .i32⟩
  | 37 => ⟨S_, .f32⟩
  | 38 => ⟨S12x56x58x256, .f32⟩
  | _ => ⟨S12x3x224x224, .f32⟩

abbrev hbmTy (i : Nat) : BufTy := match i / 128 with
  | 0 => hbmTy0_0 i
  | 1 => hbmTy0_1 i
  | 2 => hbmTy0_2 i
  | 3 => hbmTy0_3 i
  | _ => ⟨S12x3x224x224, .f32⟩

abbrev bufTy : (tb : Table) → Fin (tcTables nBuf tb) → BufTy
  | .hbm, ⟨i, _⟩ => hbmTy i
  | _, _ => ⟨S12x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_0 : Ref sig .tc := ⟨.hbm, 69, rfl⟩
abbrev main_v51 : Ref sig .tc := ⟨.hbm, 70, rfl⟩
abbrev main_v52 : Ref sig .tc := ⟨.hbm, 71, rfl⟩
abbrev main_c_1 : Ref sig .tc := ⟨.hbm, 72, rfl⟩
abbrev main_call1_v0 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_3 : Ref sig .tc := ⟨.hbm, 125, rfl⟩
abbrev main_v103 : Ref sig .tc := ⟨.hbm, 126, rfl⟩
abbrev main_v104 : Ref sig .tc := ⟨.hbm, 127, rfl⟩
abbrev main_cst_4 : Ref sig .tc := ⟨.hbm, 128, rfl⟩
abbrev main_v105 : Ref sig .tc := ⟨.hbm, 129, rfl⟩
abbrev main_v106 : Ref sig .tc := ⟨.hbm, 130, rfl⟩
abbrev main_c_5 : Ref sig .tc := ⟨.hbm, 131, rfl⟩
abbrev main_call2_v0 : Ref sig .tc := ⟨.hbm, 132, rfl⟩
abbrev main_v107 : Ref sig .tc := ⟨.hbm, 133, rfl⟩
abbrev main_cst_6 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_7 : Ref sig .tc := ⟨.hbm, 184, rfl⟩
abbrev main_v157 : Ref sig .tc := ⟨.hbm, 185, rfl⟩
abbrev main_v158 : Ref sig .tc := ⟨.hbm, 186, rfl⟩
abbrev main_c_8 : Ref sig .tc := ⟨.hbm, 187, rfl⟩
abbrev main_call3_v0 : Ref sig .tc := ⟨.hbm, 188, rfl⟩
abbrev main_v159 : Ref sig .tc := ⟨.hbm, 189, rfl⟩
abbrev main_cst_9 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_cst_10 : Ref sig .tc := ⟨.hbm, 240, rfl⟩
abbrev main_v209 : Ref sig .tc := ⟨.hbm, 241, rfl⟩
abbrev main_v210 : Ref sig .tc := ⟨.hbm, 242, rfl⟩
abbrev main_cst_11 : Ref sig .tc := ⟨.hbm, 243, rfl⟩
abbrev main_v211 : Ref sig .tc := ⟨.hbm, 244, rfl⟩
abbrev main_v212 : Ref sig .tc := ⟨.hbm, 245, rfl⟩
abbrev main_c_12 : Ref sig .tc := ⟨.hbm, 246, rfl⟩
abbrev main_call4_v0 : Ref sig .tc := ⟨.hbm, 247, rfl⟩
abbrev main_v213 : Ref sig .tc := ⟨.hbm, 248, rfl⟩
abbrev main_cst_13 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_cst_14 : Ref sig .tc := ⟨.hbm, 299, rfl⟩
abbrev main_v263 : Ref sig .tc := ⟨.hbm, 300, rfl⟩
abbrev main_v264 : Ref sig .tc := ⟨.hbm, 301, rfl⟩
abbrev main_c_15 : Ref sig .tc := ⟨.hbm, 302, rfl⟩
abbrev main_call5_v0 : Ref sig .tc := ⟨.hbm, 303, rfl⟩
abbrev main_v265 : Ref sig .tc := ⟨.hbm, 304, rfl⟩
abbrev main_cst_16 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_cst_17 : Ref sig .tc := ⟨.hbm, 355, rfl⟩
abbrev main_v315 : Ref sig .tc := ⟨.hbm, 356, rfl⟩
abbrev main_v316 : Ref sig .tc := ⟨.hbm, 357, rfl⟩
abbrev main_c_18 : Ref sig .tc := ⟨.hbm, 358, rfl⟩
abbrev main_call6_v0 : Ref sig .tc := ⟨.hbm, 359, rfl⟩
abbrev main_v317 : Ref sig .tc := ⟨.hbm, 360, rfl⟩
abbrev main_cst_19 : Ref sig .tc := ⟨.hbm, 361, rfl⟩
abbrev main_v318 : Ref sig .tc := ⟨.hbm, 362, rfl⟩
abbrev main_v319 : Ref sig .tc := ⟨.hbm, 363, rfl⟩
abbrev main_v320 : Ref sig .tc := ⟨.hbm, 364, rfl⟩
abbrev main_v321 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_v344 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_v354 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_v362 : Ref sig .tc := ⟨.hbm, 406, rfl⟩
abbrev main_v363 : Ref sig .tc := ⟨.hbm, 407, rfl⟩
abbrev main_v364 : Ref sig .tc := ⟨.hbm, 408, rfl⟩
abbrev main_v365 : Ref sig .tc := ⟨.hbm, 409, rfl⟩
abbrev main_v366 : Ref sig .tc := ⟨.hbm, 410, rfl⟩
abbrev main_cst_20 : Ref sig .tc := ⟨.hbm, 411, rfl⟩
abbrev main_v367 : Ref sig .tc := ⟨.hbm, 412, rfl⟩
abbrev main_v368 : Ref sig .tc := ⟨.hbm, 413, rfl⟩
abbrev main_c_21 : Ref sig .tc := ⟨.hbm, 414, rfl⟩
abbrev main_call7_v0 : Ref sig .tc := ⟨.hbm, 415, rfl⟩
abbrev main_v369 : Ref sig .tc := ⟨.hbm, 416, rfl⟩
abbrev main_c_22 : Ref sig .tc := ⟨.hbm, 417, rfl⟩
abbrev main_call8_v0 : Ref sig .tc := ⟨.hbm, 418, rfl⟩
abbrev main_v370 : Ref sig .tc := ⟨.hbm, 419, rfl⟩
abbrev main_c_23 : Ref sig .tc := ⟨.hbm, 420, rfl⟩
abbrev main_call9_v0 : Ref sig .tc := ⟨.hbm, 421, rfl⟩
abbrev main_v371 : Ref sig .tc := ⟨.hbm, 422, rfl⟩

abbrev nD : Nat := 1
abbrev τ : Topo := Topo.v7x

variable {F : FTy → Type} [FloatOps F]
-- ==== Kernel2.lean ====
abbrev S12x56x58x256 : Shape := ⟨4, ![12, 56, 58, 256]⟩
abbrev S512x256x3x3 : Shape := ⟨4, ![512, 256, 3, 3]⟩
abbrev S512 : Shape := ⟨1, ![512]⟩
abbrev S512x512x3x3 : Shape := ⟨4, ![512, 512, 3, 3]⟩
abbrev S12x28x30x256 : Shape := ⟨4, ![12, 28, 30, 256]⟩
abbrev S1x28x58x256 : Shape := ⟨4, ![1, 28, 58, 256]⟩
abbrev S1x14x30x256 : Shape := ⟨4, ![1, 14, 30, 256]⟩
abbrev S1x28x56x256 : Shape := ⟨4, ![1, 28, 56, 256]⟩
abbrev S28x56x256 : Shape := ⟨3, ![28, 56, 256]⟩
abbrev S14x2x56x256 : Shape := ⟨4, ![14, 2, 56, 256]⟩
abbrev S14x56x256 : Shape := ⟨3, ![14, 56, 256]⟩
abbrev S14x28x2x256 : Shape := ⟨4, ![14, 28, 2, 256]⟩
abbrev S14x28x256 : Shape := ⟨3, ![14, 28, 256]⟩
abbrev S1x14x28x256 : Shape := ⟨4, ![1, 14, 28, 256]⟩
abbrev S14x1x256 : Shape := ⟨3, ![14, 1, 256]⟩
abbrev S1x14x1x256 : Shape := ⟨4, ![1, 14, 1, 256]⟩
abbrev S3x3x256x512 : Shape := ⟨4, ![3, 3, 256, 512]⟩
abbrev S9x256x512 : Shape := ⟨3, ![9, 256, 512]⟩
abbrev S_ : Shape := ⟨0, ![]⟩
abbrev S12x1x30x256 : Shape := ⟨4, ![12, 1, 30, 256]⟩
abbrev S12x1x1x30x256 : Shape := ⟨5, ![12, 1, 1, 30, 256]⟩
abbrev S12x1x2x30x256 : Shape := ⟨5, ![12, 1, 2, 30, 256]⟩
abbrev S1x512 : Shape := ⟨2, ![1, 512]⟩
abbrev S12x28x30x512 : Shape := ⟨4, ![12, 28, 30, 512]⟩
abbrev S1x28x30x256 : Shape := ⟨4, ![1, 28, 30, 256]⟩
abbrev S1x1x2x30x256 : Shape := ⟨5, ![1, 1, 2, 30, 256]⟩
abbrev S1x28x30x512 : Shape := ⟨4, ![1, 28, 30, 512]⟩
abbrev S1x1x1x30x256 : Shape := ⟨5, ![1, 1, 1, 30, 256]⟩
abbrev S30x256 : Shape := ⟨2, ![30, 256]⟩
abbrev S1x30x256 : Shape := ⟨3, ![1, 30, 256]⟩
abbrev S28x30x256 : Shape := ⟨3, ![28, 30, 256]⟩
abbrev S30x30x256 : Shape := ⟨3, ![30, 30, 256]⟩
abbrev S784x512 : Shape := ⟨2, ![784, 512]⟩
abbrev S28x28x256 : Shape := ⟨3, ![28, 28, 256]⟩
abbrev S784x256 : Shape := ⟨2, ![784, 256]⟩
abbrev S1x256x512 : Shape := ⟨3, ![1, 256, 512]⟩
abbrev S256x512 : Shape := ⟨2, ![256, 512]⟩
abbrev S28x28x512 : Shape := ⟨3, ![28, 28, 512]⟩
abbrev S1x28x28x512 : Shape := ⟨4, ![1, 28, 28, 512]⟩
abbrev S28x1x512 : Shape := ⟨3, ![28, 1, 512]⟩
abbrev S1x28x1x512 : Shape := ⟨4, ![1, 28, 1, 512]⟩
abbrev S3x3x512x512 : Shape := ⟨4, ![3, 3, 512, 512]⟩
abbrev S9x512x512 : Shape := ⟨3, ![9, 512, 512]⟩
abbrev S12x1x30x512 : Shape := ⟨4, ![12, 1, 30, 512]⟩
abbrev S12x1x1x30x512 : Shape := ⟨5, ![12, 1, 1, 30, 512]⟩
abbrev S12x1x2x30x512 : Shape := ⟨5, ![12, 1, 2, 30, 512]⟩
abbrev S1x1x2x30x512 : Shape := ⟨5, ![1, 1, 2, 30, 512]⟩
abbrev S1x1x1x30x512 : Shape := ⟨5, ![1, 1, 1, 30, 512]⟩
abbrev S30x512 : Shape := ⟨2, ![30, 512]⟩
abbrev S1x30x512 : Shape := ⟨3, ![1, 30, 512]⟩
abbrev S28x30x512 : Shape := ⟨3, ![28, 30, 512]⟩
abbrev S30x30x512 : Shape := ⟨3, ![30, 30, 512]⟩
abbrev S1x512x512 : Shape := ⟨3, ![1, 512, 512]⟩
abbrev S512x512 : Shape := ⟨2, ![512, 512]⟩

abbrev nBuf : Space → Nat
  | .hbm => 35
  | .vmem => 28
  | .smem => 0
  | _ => 0

abbrev bufTy : (tb : Table) → Fin (tcTables nBuf tb) → BufTy
  | .hbm, ⟨0, _⟩ => ⟨S12x56x58x256, .f32⟩
  | .hbm, ⟨1, _⟩ => ⟨S512x256x3x3, .f32⟩
  | .hbm, ⟨2, _⟩ => ⟨S512, .f32⟩
  | .hbm, ⟨3, _⟩ => ⟨S512x512x3x3, .f32⟩
  | .hbm, ⟨4, _⟩ => ⟨S512, .f32⟩
  | .hbm, ⟨5, _⟩ => ⟨S512x512x3x3, .f32⟩
  | .hbm, ⟨6, _⟩ => ⟨S512, .f32⟩
  | .hbm, ⟨7, _⟩ => ⟨S12x28x30x256, .f32⟩
  | .hbm, ⟨8, _⟩ => ⟨S3x3x256x512, .f32⟩
  | .hbm, ⟨9, _⟩ => ⟨S9x256x512, .f32⟩
  | .hbm, ⟨10, _⟩ => ⟨S_, .f32⟩
  | .hbm, ⟨11, _⟩ => ⟨S12x1x30x256, .f32⟩
  | .hbm, ⟨12, _⟩ => ⟨S12x1x1x30x256, .f32⟩
  | .hbm, ⟨13, _⟩ => ⟨S12x1x1x30x256, .f32⟩
  | .hbm, ⟨14, _⟩ => ⟨S12x1x2x30x256, .f32⟩
  | .hbm, ⟨15, _⟩ => ⟨S1x512, .f32⟩
  | .hbm, ⟨16, _⟩ => ⟨S12x28x30x512, .f32⟩
  | .hbm, ⟨17, _⟩ => ⟨S3x3x512x512, .f32⟩
  | .hbm, ⟨18, _⟩ => ⟨S9x512x512, .f32⟩
  | .hbm, ⟨19, _⟩ => ⟨S_, .f32⟩
  | .hbm, ⟨20, _⟩ => ⟨S12x1x30x512, .f32⟩
  | .hbm, ⟨21, _⟩ => ⟨S12x1x1x30x512, .f32⟩
  | .hbm, ⟨22, _⟩ => ⟨S12x1x1x30x512, .f32⟩
  | .hbm, ⟨23, _⟩ => ⟨S12x1x2x30x512, .f32⟩
  | .hbm, ⟨24, _⟩ => ⟨S1x512, .f32⟩
  | .hbm, ⟨25, _⟩ => ⟨S12x28x30x512, .f32⟩
  | .hbm, ⟨26, _⟩ => ⟨S3x3x512x512, .f32⟩
  | .hbm, ⟨27, _⟩ => ⟨S9x512x512, .f32⟩
  | .hbm, ⟨28, _⟩ => ⟨S_, .f32⟩
  | .hbm, ⟨29, _⟩ => ⟨S12x1x30x512, .f32⟩
  | .hbm, ⟨30, _⟩ => ⟨S12x1x1x30x512, .f32⟩
  | .hbm, ⟨31, _⟩ => ⟨S12x1x1x30x512, .f32⟩
  | .hbm, ⟨32, _⟩ => ⟨S12x1x2x30x512, .f32⟩
  | .hbm, ⟨33, _⟩ => ⟨S1x512, .f32⟩
  | .hbm, ⟨34, _⟩ => ⟨S12x28x30x512, .f32⟩
  | .local _ .vmem, ⟨0, _⟩ => ⟨S1x28x58x256, .f32⟩
  | .local _ .vmem, ⟨1, _⟩ => ⟨S1x28x58x256, .f32⟩
  | .local _ .vmem, ⟨2, _⟩ => ⟨S1x14x30x256, .f32⟩
  | .local _ .vmem, ⟨3, _⟩ => ⟨S1x14x30x256, .f32⟩
  | .local _ .vmem, ⟨4, _⟩ => ⟨S1x28x30x256, .f32⟩
  | .local _ .vmem, ⟨5, _⟩ => ⟨S1x28x30x256, .f32⟩
  | .local _ .vmem, ⟨6, _⟩ => ⟨S1x1x2x30x256, .f32⟩
  | .local _ .vmem, ⟨7, _⟩ => ⟨S1x1x2x30x256, .f32⟩
  | .local _ .vmem, ⟨8, _⟩ => ⟨S9x256x512, .f32⟩
  | .local _ .vmem, ⟨9, _⟩ => ⟨S1x512, .f32⟩
  | .local _ .vmem, ⟨10, _⟩ => ⟨S1x28x30x512, .f32⟩
  | .local _ .vmem, ⟨11, _⟩ => ⟨S1x28x30x512, .f32⟩
  | .local _ .vmem, ⟨12, _⟩ => ⟨S1x28x30x512, .f32⟩
  | .local _ .vmem, ⟨13, _⟩ => ⟨S1x28x30x512, .f32⟩
  | .local _ .vmem, ⟨14, _⟩ => ⟨S1x1x2x30x512, .f32⟩
  | .local _ .vmem, ⟨15, _⟩ => ⟨S1x1x2x30x512, .f32⟩
  | .local _ .vmem, ⟨16, _⟩ => ⟨S9x512x512, .f32⟩
  | .local _ .vmem, ⟨17, _⟩ => ⟨S1x512, .f32⟩
  | .local _ .vmem, ⟨18, _⟩ => ⟨S1x28x30x512, .f32⟩
  | .local _ .vmem, ⟨19, _⟩ => ⟨S1x28x30x512, .f32⟩
  | .local _ .vmem, ⟨20, _⟩ => ⟨S1x28x30x512, .f32⟩
  | .local _ .vmem, ⟨21, _⟩ => ⟨S1x28x30x512, .f32⟩
  | .local _ .vmem, ⟨22, _⟩ => ⟨S1x1x2x30x512, .f32⟩
  | .local _ .vmem, ⟨23, _⟩ => ⟨S1x1x2x30x512, .f32⟩
  | .local _ .vmem, ⟨24, _⟩ => ⟨S9x512x512, .f32⟩
  | .local _ .vmem, ⟨25, _⟩ => ⟨S1x512, .f32⟩
  | .local _ .vmem, ⟨26, _⟩ => ⟨S1x28x30x512, .f32⟩
  | .local _ .vmem, ⟨27, _⟩ => ⟨S1x28x30x512, .f32⟩
  | _, _ => ⟨S12x56x58x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨2, ![12, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x28x58x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x14x30x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![12, 1], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x28x30x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2x30x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S9x256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x28x30x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![12, 1], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x28x30x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x2x30x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S9x512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x28x30x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![12, 1], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x28x30x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x2x30x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S9x512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x28x30x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== Reference2Ideal.lean ====
abbrev S12x56x58x256 : Shape := ⟨4, ![12, 56, 58, 256]⟩
abbrev S512x256x3x3 : Shape := ⟨4, ![512, 256, 3, 3]⟩
abbrev S512 : Shape := ⟨1, ![512]⟩
abbrev S512x512x3x3 : Shape := ⟨4, ![512, 512, 3, 3]⟩
abbrev S12x56x56x256 : Shape := ⟨4, ![12, 56, 56, 256]⟩
abbrev S_ : Shape := ⟨0, ![]⟩
abbrev S12x28x28x256 : Shape := ⟨4, ![12, 28, 28, 256]⟩
abbrev S12x30x30x256 : Shape := ⟨4, ![12, 30, 30, 256]⟩
abbrev S12x28x28x512 : Shape := ⟨4, ![12, 28, 28, 512]⟩
abbrev S512x256x1x1 : Shape := ⟨4, ![512, 256, 1, 1]⟩
abbrev S512x256 : Shape := ⟨2, ![512, 256]⟩
abbrev S1x1x1x512 : Shape := ⟨4, ![1, 1, 1, 512]⟩
abbrev S12x30x30x512 : Shape := ⟨4, ![12, 30, 30, 512]⟩
abbrev S512x512x1x1 : Shape := ⟨4, ![512, 512, 1, 1]⟩
abbrev S512x512 : Shape := ⟨2, ![512, 512]⟩
abbrev S12x28x30x512 : Shape := ⟨4, ![12, 28, 30, 512]⟩

abbrev nBuf : Space → Nat
  | .hbm => 182
  | .vmem => 0
  | .smem => 0
  | _ => 0

abbrev hbmTy0_0 (i : Nat) : BufTy := match i % 128 with
  | 0 => ⟨S12x56x58x256, .f32⟩
  | 1 => ⟨S512x256x3x3, .f32⟩
  | 2 => ⟨S512, .f32⟩
  | 3 => ⟨S512x512x3x3, .f32⟩
  | 4 => ⟨S512, .f32⟩
  | 5 => ⟨S512x512x3x3, .f32⟩
  | 6 => ⟨S512, .f32⟩
  | 7 => ⟨S12x56x56x256, .f32⟩
  | 8 => ⟨S_, .f32⟩
  | 9 => ⟨S_, .f32⟩
  | 10 => ⟨S12x28x28x256, .f32⟩
  | 11 => ⟨S_, .i32⟩
  | 12 => ⟨S_, .f32⟩
  | 13 => ⟨S12x30x30x256, .f32⟩
  | 14 => ⟨S_, .f32⟩
  | 15 => ⟨S12x28x28x512, .f32⟩
  | 16 => ⟨S12x28x28x256, .f32⟩
  | 17 => ⟨S512x256x1x1, .f32⟩
  | 18 => ⟨S512x256, .f32⟩
  | 19 => ⟨S12x28x28x512, .f32⟩
  | 20 => ⟨S12x28x28x512, .f32⟩
  | 21 => ⟨S12x28x28x256, .f32⟩
  | 22 => ⟨S512x256x1x1, .f32⟩
  | 23 => ⟨S512x256, .f32⟩
  | 24 => ⟨S12x28x28x512, .f32⟩
  | 25 => ⟨S12x28x28x512, .f32⟩
  | 26 => ⟨S12x28x28x256, .f32⟩
  | 27 => ⟨S512x256x1x1, .f32⟩
  | 28 => ⟨S512x256, .f32⟩
  | 29 => ⟨S12x28x28x512, .f32⟩
  | 30 => ⟨S12x28x28x512, .f32⟩
  | 31 => ⟨S12x28x28x256, .f32⟩
  | 32 => ⟨S512x256x1x1, .f32⟩
  | 33 => ⟨S512x256, .f32⟩
  | 34 => ⟨S12x28x28x512, .f32⟩
  | 35 => ⟨S12x28x28x512, .f32⟩
  | 36 => ⟨S12x28x28x256, .f32⟩
  | 37 => ⟨S512x256x1x1, .f32⟩
  | 38 => ⟨S512x256, .f32⟩
  | 39 => ⟨S12x28x28x512, .f32⟩
  | 40 => ⟨S12x28x28x512, .f32⟩
  | 41 => ⟨S12x28x28x256, .f32⟩
  | 42 => ⟨S512x256x1x1, .f32⟩
  | 43 => ⟨S512x256, .f32⟩
  | 44 => ⟨S12x28x28x512, .f32⟩
  | 45 => ⟨S12x28x28x512, .f32⟩
  | 46 => ⟨S12x28x28x256, .f32⟩
  | 47 => ⟨S512x256x1x1, .f32⟩
  | 48 => ⟨S512x256, .f32⟩
  | 49 => ⟨S12x28x28x512, .f32⟩
  | 50 => ⟨S12x28x28x512, .f32⟩
  | 51 => ⟨S12x28x28x256, .f32⟩
  | 52 => ⟨S512x256x1x1, .f32⟩
  | 53 => ⟨S512x256, .f32⟩
  | 54 => ⟨S12x28x28x512, .f32⟩
  | 55 => ⟨S12x28x28x512, .f32⟩
  | 56 => ⟨S12x28x28x256, .f32⟩
  | 57 => ⟨S512x256x1x1, .f32⟩
  | 58 => ⟨S512x256, .f32⟩
  | 59 => ⟨S12x28x28x512, .f32⟩
  | 60 => ⟨S12x28x28x512, .f32⟩
  | 61 => ⟨S1x1x1x512, .f32⟩
  | 62 => ⟨S12x28x28x512, .f32⟩
  | 63 => ⟨S12x28x28x512, .f32⟩
  | 64 => ⟨S_, .f32⟩
  | 65 => ⟨S12x28x28x512, .f32⟩
  | 66 => ⟨S12x28x28x512, .f32⟩
  | 67 => ⟨S_, .i32⟩
  | 68 => ⟨S_, .f32⟩
  | 69 => ⟨S12x30x30x512, .f32⟩
  | 70 => ⟨S_, .f32⟩
  | 71 => ⟨S12x28x28x512, .f32⟩
  | 72 => ⟨S12x28x28x512, .f32⟩
  | 73 => ⟨S512x512x1x1, .f32⟩
  | 74 => ⟨S512x512, .f32⟩
  | 75 => ⟨S12x28x28x512, .f32⟩
  | 76 => ⟨S12x28x28x512, .f32⟩
  | 77 => ⟨S12x28x28x512, .f32⟩
  | 78 => ⟨S512x512x1x1, .f32⟩
  | 79 => ⟨S512x512, .f32⟩
  | 80 => ⟨S12x28x28x512, .f32⟩
  | 81 => ⟨S12x28x28x512, .f32⟩
  | 82 => ⟨S12x28x28x512, .f32⟩
  | 83 => ⟨S512x512x1x1, .f32⟩
  | 84 => ⟨S512x512, .f32⟩
  | 85 => ⟨S12x28x28x512, .f32⟩
  | 86 => ⟨S12x28x28x512, .f32⟩
  | 87 => ⟨S12x28x28x512, .f32⟩
  | 88 => ⟨S512x512x1x1, .f32⟩
  | 89 => ⟨S512x512, .f32⟩
  | 90 => ⟨S12x28x28x512, .f32⟩
  | 91 => ⟨S12x28x28x512, .f32⟩
  | 92 => ⟨S12x28x28x512, .f32⟩
  | 93 => ⟨S512x512x1x1, .f32⟩
  | 94 => ⟨S512x512, .f32⟩
  | 95 => ⟨S12x28x28x512, .f32⟩
  | 96 => ⟨S12x28x28x512, .f32⟩
  | 97 => ⟨S12x28x28x512, .f32⟩
  | 98 => ⟨S512x512x1x1, .f32⟩
  | 99 => ⟨S512x512, .f32⟩
  | 100 => ⟨S12x28x28x512, .f32⟩
  | 101 => ⟨S12x28x28x512, .f32⟩
  | 102 => ⟨S12x28x28x512, .f32⟩
  | 103 => ⟨S512x512x1x1, .f32⟩
  | 104 => ⟨S512x512, .f32⟩
  | 105 => ⟨S12x28x28x512, .f32⟩
  | 106 => ⟨S12x28x28x512, .f32⟩
  | 107 => ⟨S12x28x28x512, .f32⟩
  | 108 => ⟨S512x512x1x1, .f32⟩
  | 109 => ⟨S512x512, .f32⟩
  | 110 => ⟨S12x28x28x512, .f32⟩
  | 111 => ⟨S12x28x28x512, .f32⟩
  | 112 => ⟨S12x28x28x512, .f32⟩
  | 113 => ⟨S512x512x1x1, .f32⟩
  | 114 => ⟨S512x512, .f32⟩
  | 115 => ⟨S12x28x28x512, .f32⟩
  | 116 => ⟨S12x28x28x512, .f32⟩
  | 117 => ⟨S1x1x1x512, .f32⟩
  | 118 => ⟨S12x28x28x512, .f32⟩
  | 119 => ⟨S12x28x28x512, .f32⟩
  | 120 => ⟨S_, .f32⟩
  | 121 => ⟨S12x28x28x512, .f32⟩
  | 122 => ⟨S12x28x28x512, .f32⟩
  | 123 => ⟨S_, .i32⟩
  | 124 => ⟨S_, .f32⟩
  | 125 => ⟨S12x30x30x512, .f32⟩
  | 126 => ⟨S_, .f32⟩
  | 127 => ⟨S12x28x28x512, .f32⟩
  | _ => ⟨S12x56x58x256, .f32⟩

abbrev hbmTy0_1 (i : Nat) : BufTy := match i % 128 with
  | 0 => ⟨S12x28x28x512, .f32⟩
  | 1 => ⟨S512x512x1x1, .f32⟩
  | 2 => ⟨S512x512, .f32⟩
  | 3 => ⟨S12x28x28x512, .f32⟩
  | 4 => ⟨S12x28x28x512, .f32⟩
  | 5 => ⟨S12x28x28x512, .f32⟩
  | 6 => ⟨S512x512x1x1, .f32⟩
  | 7 => ⟨S512x512, .f32⟩
  | 8 => ⟨S12x28x28x512, .f32⟩
  | 9 => ⟨S12x28x28x512, .f32⟩
  | 10 => ⟨S12x28x28x512, .f32⟩
  | 11 => ⟨S512x512x1x1, .f32⟩
  | 12 => ⟨S512x512, .f32⟩
  | 13 => ⟨S12x28x28x512, .f32⟩
  | 14 => ⟨S12x28x28x512, .f32⟩
  | 15 => ⟨S12x28x28x512, .f32⟩
  | 16 => ⟨S512x512x1x1, .f32⟩
  | 17 => ⟨S512x512, .f32⟩
  | 18 => ⟨S12x28x28x512, .f32⟩
  | 19 => ⟨S12x28x28x512, .f32⟩
  | 20 => ⟨S12x28x28x512, .f32⟩
  | 21 => ⟨S512x512x1x1, .f32⟩
  | 22 => ⟨S512x512, .f32⟩
  | 23 => ⟨S12x28x28x512, .f32⟩
  | 24 => ⟨S12x28x28x512, .f32⟩
  | 25 => ⟨S12x28x28x512, .f32⟩
  | 26 => ⟨S512x512x1x1, .f32⟩
  | 27 => ⟨S512x512, .f32⟩
  | 28 => ⟨S12x28x28x512, .f32⟩
  | 29 => ⟨S12x28x28x512, .f32⟩
  | 30 => ⟨S12x28x28x512, .f32⟩
  | 31 => ⟨S512x512x1x1, .f32⟩
  | 32 => ⟨S512x512, .f32⟩
  | 33 => ⟨S12x28x28x512, .f32⟩
  | 34 => ⟨S12x28x28x512, .f32⟩
  | 35 => ⟨S12x28x28x512, .f32⟩
  | 36 => ⟨S512x512x1x1, .f32⟩
  | 37 => ⟨S512x512, .f32⟩
  | 38 => ⟨S12x28x28x512, .f32⟩
  | 39 => ⟨S12x28x28x512, .f32⟩
  | 40 => ⟨S12x28x28x512, .f32⟩
  | 41 => ⟨S512x512x1x1, .f32⟩
  | 42 => ⟨S512x512, .f32⟩
  | 43 => ⟨S12x28x28x512, .f32⟩
  | 44 => ⟨S12x28x28x512, .f32⟩
  | 45 => ⟨S1x1x1x512, .f32⟩
  | 46 => ⟨S12x28x28x512, .f32⟩
  | 47 => ⟨S12x28x28x512, .f32⟩
  | 48 => ⟨S_, .f32⟩
  | 49 => ⟨S12x28x28x512, .f32⟩
  | 50 => ⟨S12x28x28x512, .f32⟩
  | 51 => ⟨S_, .i32⟩
  | 52 => ⟨S_, .f32⟩
  | 53 => ⟨S12x28x30x512, .f32⟩
  | _ => ⟨S12x56x58x256, .f32⟩

abbrev hbmTy (i : Nat) : BufTy := match i / 128 with
  | 0 => hbmTy0_0 i
  | 1 => hbmTy0_1 i
  | _ => ⟨S12x56x58x256, .f32⟩

abbrev bufTy : (tb : Table) → Fin (tcTables nBuf tb) → BufTy
  | .hbm, ⟨i, _⟩ => hbmTy i
  | _, _ => ⟨S12x56x58x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_1 : Ref sig .tc := ⟨.hbm, 64, rfl⟩
abbrev main_v53 : Ref sig .tc := ⟨.hbm, 65, rfl⟩
abbrev main_v54 : Ref sig .tc := ⟨.hbm, 66, rfl⟩
abbrev main_c_2 : Ref sig .tc := ⟨.hbm, 67, rfl⟩
abbrev main_call1_v0 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_4 : Ref sig .tc := ⟨.hbm, 120, rfl⟩
abbrev main_v105 : Ref sig .tc := ⟨.hbm, 121, rfl⟩
abbrev main_v106 : Ref sig .tc := ⟨.hbm, 122, rfl⟩
abbrev main_c_5 : Ref sig .tc := ⟨.hbm, 123, rfl⟩
abbrev main_call2_v0 : Ref sig .tc := ⟨.hbm, 124, rfl⟩
abbrev main_v107 : Ref sig .tc := ⟨.hbm, 125, rfl⟩
abbrev main_cst_6 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_cst_7 : Ref sig .tc := ⟨.hbm, 176, rfl⟩
abbrev main_v157 : Ref sig .tc := ⟨.hbm, 177, rfl⟩
abbrev main_v158 : Ref sig .tc := ⟨.hbm, 178, rfl⟩
abbrev main_c_8 : Ref sig .tc := ⟨.hbm, 179, rfl⟩
abbrev main_call3_v0 : Ref sig .tc := ⟨.hbm, 180, rfl⟩
abbrev main_v159 : Ref sig .tc := ⟨.hbm, 181, rfl⟩

abbrev nD : Nat := 1
abbrev τ : Topo := Topo.v7x

variable {F : FTy → Type} [FloatOps F]
-- ==== Kernel3.lean ====
abbrev S12x112x114x128 : Shape := ⟨4, ![12, 112, 114, 128]⟩
abbrev S3x1x2 : Shape := ⟨3, ![3, 1, 2]⟩
abbrev S1x28x114x128 : Shape := ⟨4, ![1, 28, 114, 128]⟩
abbrev S1x1x2 : Shape := ⟨3, ![1, 1, 2]⟩
abbrev S3x128x128 : Shape := ⟨3, ![3, 128, 128]⟩
abbrev S1x28x112x128 : Shape := ⟨4, ![1, 28, 112, 128]⟩
abbrev S28x112x128 : Shape := ⟨3, ![28, 112, 128]⟩
abbrev S3136x128 : Shape := ⟨2, ![3136, 128]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 2
  | .vmem => 9
  | .smem => 2
  | _ => 0

abbrev bufTy : (tb : Table) → Fin (tcTables nBuf tb) → BufTy
  | .hbm, ⟨0, _⟩ => ⟨S12x112x114x128, .f32⟩
  | .hbm, ⟨1, _⟩ => ⟨S3x1x2, .f32⟩
  | .local _ .vmem, ⟨0, _⟩ => ⟨S1x28x114x128, .f32⟩
  | .local _ .vmem, ⟨1, _⟩ => ⟨S1x28x114x128, .f32⟩
  | .local _ .vmem, ⟨2, _⟩ => ⟨S1x28x114x128, .f32⟩
  | .local _ .vmem, ⟨3, _⟩ => ⟨S1x28x114x128, .f32⟩
  | .local _ .vmem, ⟨4, _⟩ => ⟨S1x28x114x128, .f32⟩
  | .local _ .vmem, ⟨5, _⟩ => ⟨S1x28x114x128, .f32⟩
  | .local _ .vmem, ⟨6, _⟩ => ⟨S1x28x114x128, .f32⟩
  | .local _ .vmem, ⟨7, _⟩ => ⟨S1x28x114x128, .f32⟩
  | .local _ .vmem, ⟨8, _⟩ => ⟨S3x128x128, .f32⟩
  | .local _ .smem, ⟨0, _⟩ => ⟨S1x1x2, .f32⟩
  | .local _ .smem, ⟨1, _⟩ => ⟨S1x1x2, .f32⟩
  | _, _ => ⟨S12x112x114x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_37 : BitVec 32 := 0#32
  let v44 : BitVec 1 := Scalar.cmpi .ne v43 c0_i32_37
  v44

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x28x114x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x114x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x28x114x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x28x114x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .smem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S12x112x114x128 : Shape := ⟨4, ![12, 112, 114, 128]⟩
abbrev S12x112x112x128 : Shape := ⟨4, ![12, 112, 112, 128]⟩
abbrev S3x2x2x12544x128 : Shape := ⟨5, ![3, 2, 2, 12544, 128]⟩
abbrev S3x2x2x128x12544 : Shape := ⟨5, ![3, 2, 2, 128, 12544]⟩
abbrev S3x2x256x12544 : Shape := ⟨4, ![3, 2, 256, 12544]⟩
abbrev S3x2x256x256 : Shape := ⟨4, ![3, 2, 256, 256]⟩
abbrev S3x1x256x256 : Shape := ⟨4, ![3, 1, 256, 256]⟩
abbrev S3x256x256 : Shape := ⟨3, ![3, 256, 256]⟩
abbrev S_ : Shape := ⟨0, ![]⟩
abbrev S3 : Shape := ⟨1, ![3]⟩
abbrev S3x1x1 : Shape := ⟨3, ![3, 1, 1]⟩
abbrev S3x1x2 : Shape := ⟨3, ![3, 1, 2]⟩

abbrev nBuf : Space → Nat
  | .hbm => 18
  | .vmem => 0
  | .smem => 0
  | _ => 0

abbrev bufTy : (tb : Table) → Fin (tcTables nBuf tb) → BufTy
  | .hbm, ⟨0, _⟩ => ⟨S12x112x114x128, .f32⟩
  | .hbm, ⟨1, _⟩ => ⟨S12x112x112x128, .f32⟩
  | .hbm, ⟨2, _⟩ => ⟨S3x2x2x12544x128, .f32⟩
  | .hbm, ⟨3, _⟩ => ⟨S3x2x2x128x12544, .f32⟩
  | .hbm, ⟨4, _⟩ => ⟨S3x2x256x12544, .f32⟩
  | .hbm, ⟨5, _⟩ => ⟨S3x2x256x256, .f32⟩
  | .hbm, ⟨6, _⟩ => ⟨S3x1x256x256, .f32⟩
  | .hbm, ⟨7, _⟩ => ⟨S3x256x256, .f32⟩
  | .hbm, ⟨8, _⟩ => ⟨S3x1x256x256, .f32⟩
  | .hbm, ⟨9, _⟩ => ⟨S3x256x256, .f32⟩
  | .hbm, ⟨10, _⟩ => ⟨S3x256x256, .f32⟩
  | .hbm, ⟨11, _⟩ => ⟨S3x256x256, .f32⟩
  | .hbm, ⟨12, _⟩ => ⟨S_, .f32⟩
  | .hbm, ⟨13, _⟩ => ⟨S3, .f32⟩
  | .hbm, ⟨14, _⟩ => ⟨S3x1x1, .f32⟩
  | .hbm, ⟨15, _⟩ => ⟨S_, .i32⟩
  | .hbm, ⟨16, _⟩ => ⟨S_, .f32⟩
  | .hbm, ⟨17, _⟩ => ⟨S3x1x2, .f32⟩
  | _, _ => ⟨S12x112x114x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel4.lean ====
abbrev S12x56x58x256 : Shape := ⟨4, ![12, 56, 58, 256]⟩
abbrev S3x1x2 : Shape := ⟨3, ![3, 1, 2]⟩
abbrev S1x28x58x256 : Shape := ⟨4, ![1, 28, 58, 256]⟩
abbrev S1x1x2 : Shape := ⟨3, ![1, 1, 2]⟩
abbrev S3x256x256 : Shape := ⟨3, ![3, 256, 256]⟩
abbrev S1x28x56x256 : Shape := ⟨4, ![1, 28, 56, 256]⟩
abbrev S28x56x256 : Shape := ⟨3, ![28, 56, 256]⟩
abbrev S1568x256 : Shape := ⟨2, ![1568, 256]⟩
abbrev S256x256 : Shape := ⟨2, ![256, 256]⟩
abbrev S1x256x256 : Shape := ⟨3, ![1, 256, 256]⟩
abbrev S1 : Shape := ⟨1, ![1]⟩
abbrev S1x1x1 : Shape := ⟨3, ![1, 1, 1]⟩

abbrev nBuf : Space → Nat
  | .hbm => 2
  | .vmem => 9
  | .smem => 2
  | _ => 0

abbrev bufTy : (tb : Table) → Fin (tcTables nBuf tb) → BufTy
  | .hbm, ⟨0, _⟩ => ⟨S12x56x58x256, .f32⟩
  | .hbm, ⟨1, _⟩ => ⟨S3x1x2, .f32⟩
  | .local _ .vmem, ⟨0, _⟩ => ⟨S1x28x58x256, .f32⟩
  | .local _ .vmem, ⟨1, _⟩ => ⟨S1x28x58x256, .f32⟩
  | .local _ .vmem, ⟨2, _⟩ => ⟨S1x28x58x256, .f32⟩
  | .local _ .vmem, ⟨3, _⟩ => ⟨S1x28x58x256, .f32⟩
  | .local _ .vmem, ⟨4, _⟩ => ⟨S1x28x58x256, .f32⟩
  | .local _ .vmem, ⟨5, _⟩ => ⟨S1x28x58x256, .f32⟩
  | .local _ .vmem, ⟨6, _⟩ => ⟨S1x28x58x256, .f32⟩
  | .local _ .vmem, ⟨7, _⟩ => ⟨S1x28x58x256, .f32⟩
  | .local _ .vmem, ⟨8, _⟩ => ⟨S3x256x256, .f32⟩
  | .local _ .smem, ⟨0, _⟩ => ⟨S1x1x2, .f32⟩
  | .local _ .smem, ⟨1, _⟩ => ⟨S1x1x2, .f32⟩
  | _, _ => ⟨S12x56x58x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 2], ![false, false]⟩

def k0_cond2 (i : grid0.Coords) : BitVec 1 :=
  let arg1 : BitVec 32 := BitVec.ofNat 32 (i 1).val
  let c1_i32 : BitVec 32 := 1#32
  let v42 : BitVec 1 := Scalar.cmpi .eq arg1 c1_i32
  let v43 : BitVec 32 := Scalar.extui v42
  let c0_i32_37 : BitVec 32 := 0#32
  let v44 : BitVec 1 := Scalar.cmpi .ne v43 c0_i32_37
  v44

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x28x58x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x58x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x28x58x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x28x58x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .smem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S12x56x58x256 : Shape := ⟨4, ![12, 56, 58, 256]⟩
abbrev S12x56x56x256 : Shape := ⟨4, ![12, 56, 56, 256]⟩
abbrev S3x2x2x3136x256 : Shape := ⟨5, ![3, 2, 2, 3136, 256]⟩
abbrev S3x2x2x256x3136 : Shape := ⟨5, ![3, 2, 2, 256, 3136]⟩
abbrev S3x2x512x3136 : Shape := ⟨4, ![3, 2, 512, 3136]⟩
abbrev S3x2x512x512 : Shape := ⟨4, ![3, 2, 512, 512]⟩
abbrev S3x1x512x512 : Shape := ⟨4, ![3, 1, 512, 512]⟩
abbrev S3x512x512 : Shape := ⟨3, ![3, 512, 512]⟩
abbrev S_ : Shape := ⟨0, ![]⟩
abbrev S3 : Shape := ⟨1, ![3]⟩
abbrev S3x1x1 : Shape := ⟨3, ![3, 1, 1]⟩
abbrev S3x1x2 : Shape := ⟨3, ![3, 1, 2]⟩

abbrev nBuf : Space → Nat
  | .hbm => 18
  | .vmem => 0
  | .smem => 0
  | _ => 0

abbrev bufTy : (tb : Table) → Fin (tcTables nBuf tb) → BufTy
  | .hbm, ⟨0, _⟩ => ⟨S12x56x58x256, .f32⟩
  | .hbm, ⟨1, _⟩ => ⟨S12x56x56x256, .f32⟩
  | .hbm, ⟨2, _⟩ => ⟨S3x2x2x3136x256, .f32⟩
  | .hbm, ⟨3, _⟩ => ⟨S3x2x2x256x3136, .f32⟩
  | .hbm, ⟨4, _⟩ => ⟨S3x2x512x3136, .f32⟩
  | .hbm, ⟨5, _⟩ => ⟨S3x2x512x512, .f32⟩
  | .hbm, ⟨6, _⟩ => ⟨S3x1x512x512, .f32⟩
  | .hbm, ⟨7, _⟩ => ⟨S3x512x512, .f32⟩
  | .hbm, ⟨8, _⟩ => ⟨S3x1x512x512, .f32⟩
  | .hbm, ⟨9, _⟩ => ⟨S3x512x512, .f32⟩
  | .hbm, ⟨10, _⟩ => ⟨S3x512x512, .f32⟩
  | .hbm, ⟨11, _⟩ => ⟨S3x512x512, .f32⟩
  | .hbm, ⟨12, _⟩ => ⟨S_, .f32⟩
  | .hbm, ⟨13, _⟩ => ⟨S3, .f32⟩
  | .hbm, ⟨14, _⟩ => ⟨S3x1x1, .f32⟩
  | .hbm, ⟨15, _⟩ => ⟨S_, .i32⟩
  | .hbm, ⟨16, _⟩ => ⟨S_, .f32⟩
  | .hbm, ⟨17, _⟩ => ⟨S3x1x2, .f32⟩
  | _, _ => ⟨S12x56x58x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S12x28x30x512 : Shape := ⟨4, ![12, 28, 30, 512]⟩
abbrev S3x1x2 : Shape := ⟨3, ![3, 1, 2]⟩
abbrev S1x28x30x512 : Shape := ⟨4, ![1, 28, 30, 512]⟩
abbrev S1x1x2 : Shape := ⟨3, ![1, 1, 2]⟩
abbrev S3x512x512 : Shape := ⟨3, ![3, 512, 512]⟩
abbrev S1x28x28x512 : Shape := ⟨4, ![1, 28, 28, 512]⟩
abbrev S28x28x512 : Shape := ⟨3, ![28, 28, 512]⟩
abbrev S784x512 : Shape := ⟨2, ![784, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 2
  | .vmem => 9
  | .smem => 2
  | _ => 0

abbrev bufTy : (tb : Table) → Fin (tcTables nBuf tb) → BufTy
  | .hbm, ⟨0, _⟩ => ⟨S12x28x30x512, .f32⟩
  | .hbm, ⟨1, _⟩ => ⟨S3x1x2, .f32⟩
  | .local _ .vmem, ⟨0, _⟩ => ⟨S1x28x30x512, .f32⟩
  | .local _ .vmem, ⟨1, _⟩ => ⟨S1x28x30x512, .f32⟩
  | .local _ .vmem, ⟨2, _⟩ => ⟨S1x28x30x512, .f32⟩
  | .local _ .vmem, ⟨3, _⟩ => ⟨S1x28x30x512, .f32⟩
  | .local _ .vmem, ⟨4, _⟩ => ⟨S1x28x30x512, .f32⟩
  | .local _ .vmem, ⟨5, _⟩ => ⟨S1x28x30x512, .f32⟩
  | .local _ .vmem, ⟨6, _⟩ => ⟨S1x28x30x512, .f32⟩
  | .local _ .vmem, ⟨7, _⟩ => ⟨S1x28x30x512, .f32⟩
  | .local _ .vmem, ⟨8, _⟩ => ⟨S3x512x512, .f32⟩
  | .local _ .smem, ⟨0, _⟩ => ⟨S1x1x2, .f32⟩
  | .local _ .smem, ⟨1, _⟩ => ⟨S1x1x2, .f32⟩
  | _, _ => ⟨S12x28x30x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 1], ![false, false]⟩

def k0_cond2 (i : grid0.Coords) : BitVec 1 :=
  let arg1 : BitVec 32 := BitVec.ofNat 32 (i 1).val
  let c0_i32_37 : BitVec 32 := 0#32
  let v42 : BitVec 1 := Scalar.cmpi .eq arg1 c0_i32_37
  let v43 : BitVec 32 := Scalar.extui v42
  let c0_i32_38 : BitVec 32 := 0#32
  let v44 : BitVec 1 := Scalar.cmpi .ne v43 c0_i32_38
  v44

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x28x30x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x28x30x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x28x30x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .smem S1x1x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S12x28x30x512 : Shape := ⟨4, ![12, 28, 30, 512]⟩
abbrev S12x28x28x512 : Shape := ⟨4, ![12, 28, 28, 512]⟩
abbrev S3x2x2x784x512 : Shape := ⟨5, ![3, 2, 2, 784, 512]⟩
abbrev S3x2x2x512x784 : Shape := ⟨5, ![3, 2, 2, 512, 784]⟩
abbrev S3x2x1024x784 : Shape := ⟨4, ![3, 2, 1024, 784]⟩
abbrev S3x2x1024x1024 : Shape := ⟨4, ![3, 2, 1024, 1024]⟩
abbrev S3x1x1024x1024 : Shape := ⟨4, ![3, 1, 1024, 1024]⟩
abbrev S3x1024x1024 : Shape := ⟨3, ![3, 1024, 1024]⟩
abbrev S_ : Shape := ⟨0, ![]⟩
abbrev S3 : Shape := ⟨1, ![3]⟩
abbrev S3x1x1 : Shape := ⟨3, ![3, 1, 1]⟩
abbrev S3x1x2 : Shape := ⟨3, ![3, 1, 2]⟩

abbrev nBuf : Space → Nat
  | .hbm => 18
  | .vmem => 0
  | .smem => 0
  | _ => 0

abbrev bufTy : (tb : Table) → Fin (tcTables nBuf tb) → BufTy
  | .hbm, ⟨0, _⟩ => ⟨S12x28x30x512, .f32⟩
  | .hbm, ⟨1, _⟩ => ⟨S12x28x28x512, .f32⟩
  | .hbm, ⟨2, _⟩ => ⟨S3x2x2x784x512, .f32⟩
  | .hbm, ⟨3, _⟩ => ⟨S3x2x2x512x784, .f32⟩
  | .hbm, ⟨4, _⟩ => ⟨S3x2x1024x784, .f32⟩
  | .hbm, ⟨5, _⟩ => ⟨S3x2x1024x1024, .f32⟩
  | .hbm, ⟨6, _⟩ => ⟨S3x1x1024x1024, .f32⟩
  | .hbm, ⟨7, _⟩ => ⟨S3x1024x1024, .f32⟩
  | .hbm, ⟨8, _⟩ => ⟨S3x1x1024x1024, .f32⟩
  | .hbm, ⟨9, _⟩ => ⟨S3x1024x1024, .f32⟩
  | .hbm, ⟨10, _⟩ => ⟨S3x1024x1024, .f32⟩
  | .hbm, ⟨11, _⟩ => ⟨S3x1024x1024, .f32⟩
  | .hbm, ⟨12, _⟩ => ⟨S_, .f32⟩
  | .hbm, ⟨13, _⟩ => ⟨S3, .f32⟩
  | .hbm, ⟨14, _⟩ => ⟨S3x1x1, .f32⟩
  | .hbm, ⟨15, _⟩ => ⟨S_, .i32⟩
  | .hbm, ⟨16, _⟩ => ⟨S_, .f32⟩
  | .hbm, ⟨17, _⟩ => ⟨S3x1x2, .f32⟩
  | _, _ => ⟨S12x28x30x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Spec.lean ====
/- The layers of the feature stack as plain functions of arrays, and reading an array at natural-number
coordinates. Nothing here mentions a program. -/
module

public import Idealize.ShloMosaic.Lib.Pointwise
public import Idealize.ShloMosaic.Lib.Pointwise.IndexVar
public import Idealize.ShloMosaic.Lib.Pipeline.ValueKit

@[expose] public section

noncomputable section

namespace Cert.Vgg

open Idealize.ShloMosaic

/-- A vector of extended reals read at a coordinate; zero outside it. -/
def rd1 {a : ℕ} (x : (⟨1, ![a]⟩ : Shape).Idx → EReal) (p : ℕ) : EReal :=
  if h : p < a then x (ix1 ⟨p, h⟩) else 0

/-- A matrix read at coordinates; zero outside it. -/
def rd2 {a b : ℕ} (x : (⟨2, ![a, b]⟩ : Shape).Idx → EReal) (p q : ℕ) : EReal :=
  if h : p < a ∧ q < b then x (ix2 ⟨p, h.1⟩ ⟨q, h.2⟩) else 0

/-- A rank-three array read at coordinates; zero outside it. -/
def rd3 {a b c : ℕ} (x : (⟨3, ![a, b, c]⟩ : Shape).Idx → EReal) (p q r : ℕ) : EReal :=
  if h : p < a ∧ q < b ∧ r < c then x (ix3 ⟨p, h.1⟩ ⟨q, h.2.1⟩ ⟨r, h.2.2⟩) else 0

/-- A rank-four array read at coordinates; zero outside it. -/
def rd4 {a b c d : ℕ} (x : (⟨4, ![a, b, c, d]⟩ : Shape).Idx → EReal) (p q r s : ℕ) : EReal :=
  if h : p < a ∧ q < b ∧ r < c ∧ s < d then x (ix4 ⟨p, h.1⟩ ⟨q, h.2.1⟩ ⟨r, h.2.2.1⟩ ⟨s, h.2.2.2⟩) else 0

/-- A rank-five array read at coordinates; zero outside it. -/
def rd5 {a b c d e : ℕ} (x : (⟨5, ![a, b, c, d, e]⟩ : Shape).Idx → EReal) (p q r s t : ℕ) : EReal :=
  if h : p < a ∧ q < b ∧ r < c ∧ s < d ∧ t < e then
    x (ix5 ⟨p, h.1⟩ ⟨q, h.2.1⟩ ⟨r, h.2.2.1⟩ ⟨s, h.2.2.2.1⟩ ⟨t, h.2.2.2.2⟩) else 0

theorem eq_rd1 {a : ℕ} (x : (⟨1, ![a]⟩ : Shape).Idx → EReal) (j : (⟨1, ![a]⟩ : Shape).Idx) {p : ℕ}
    (hp : (j 0).val = p) : x j = rd1 x p := by
  subst hp
  have h : (j 0).val < a := (j 0).isLt
  rw [rd1, dif_pos h]
  exact congrArg x (eq_ix1 j)

theorem eq_rd2 {a b : ℕ} (x : (⟨2, ![a, b]⟩ : Shape).Idx → EReal) (j : (⟨2, ![a, b]⟩ : Shape).Idx) {p q : ℕ}
    (hp : (j 0).val = p) (hq : (j 1).val = q) : x j = rd2 x p q := by
  subst hp; subst hq
  have h : (j 0).val < a ∧ (j 1).val < b := ⟨(j 0).isLt, (j 1).isLt⟩
  rw [rd2, dif_pos h]
  exact congrArg x (eq_ix2 j)

theorem eq_rd3 {a b c : ℕ} (x : (⟨3, ![a, b, c]⟩ : Shape).Idx → EReal) (j : (⟨3, ![a, b, c]⟩ : Shape).Idx)
    {p q r : ℕ} (hp : (j 0).val = p) (hq : (j 1).val = q) (hr : (j 2).val = r) : x j = rd3 x p q r := by
  subst hp; subst hq; subst hr
  have h : (j 0).val < a ∧ (j 1).val < b ∧ (j 2).val < c := ⟨(j 0).isLt, (j 1).isLt, (j 2).isLt⟩
  rw [rd3, dif_pos h]
  exact congrArg x (eq_ix3 j)

theorem eq_rd4 {a b c d : ℕ} (x : (⟨4, ![a, b, c, d]⟩ : Shape).Idx → EReal)
    (j : (⟨4, ![a, b, c, d]⟩ : Shape).Idx) {p q r s : ℕ} (hp : (j 0).val = p) (hq : (j 1).val = q)
    (hr : (j 2).val = r) (hs : (j 3).val = s) : x j = rd4 x p q r s := by
  subst hp; subst hq; subst hr; subst hs
  have h : (j 0).val < a ∧ (j 1).val < b ∧ (j 2).val < c ∧ (j 3).val < d :=
    ⟨(j 0).isLt, (j 1).isLt, (j 2).isLt, (j 3).isLt⟩
  rw [rd4, dif_pos h]
  exact congrArg x (eq_ix4 j)

theorem eq_rd5 {a b c d e : ℕ} (x : (⟨5, ![a, b, c, d, e]⟩ : Shape).Idx → EReal)
    (j : (⟨5, ![a, b, c, d, e]⟩ : Shape).Idx) {p q r s t : ℕ} (hp : (j 0).val = p) (hq : (j 1).val = q)
    (hr : (j 2).val = r) (hs : (j 3).val = s) (ht : (j 4).val = t) : x j = rd5 x p q r s t := by
  subst hp; subst hq; subst hr; subst hs; subst ht
  have h : (j 0).val < a ∧ (j 1).val < b ∧ (j 2).val < c ∧ (j 3).val < d ∧ (j 4).val < e :=
    ⟨(j 0).isLt, (j 1).isLt, (j 2).isLt, (j 3).isLt, (j 4).isLt⟩
  rw [rd5, dif_pos h]
  exact congrArg x (eq_ix5 j)

/-- A rank-two array read inside is its element there. -/
theorem rd2_in {a b : ℕ} (x : (⟨2, ![a, b]⟩ : Shape).Idx → EReal) {p q : ℕ} (hp : p < a) (hq : q < b) :
    rd2 x p q = x (ix2 ⟨p, hp⟩ ⟨q, hq⟩) := dif_pos ⟨hp, hq⟩

/-- A rank-three array read inside is its element there. -/
theorem rd3_in {a b c : ℕ} (x : (⟨3, ![a, b, c]⟩ : Shape).Idx → EReal) {p q r : ℕ} (hp : p < a) (hq : q < b)
    (hr : r < c) : rd3 x p q r = x (ix3 ⟨p, hp⟩ ⟨q, hq⟩ ⟨r, hr⟩) := dif_pos ⟨hp, hq, hr⟩

/-- A rank-four array read inside is its element there. -/
theorem rd4_in {a b c d : ℕ} (x : (⟨4, ![a, b, c, d]⟩ : Shape).Idx → EReal) {p q r s : ℕ} (hp : p < a) (hq : q < b)
    (hr : r < c) (hs : s < d) : rd4 x p q r s = x (ix4 ⟨p, hp⟩ ⟨q, hq⟩ ⟨r, hr⟩ ⟨s, hs⟩) := dif_pos ⟨hp, hq, hr, hs⟩

/-- A rank-five array read inside is its element there. -/
theorem rd5_in {a b c d e : ℕ} (x : (⟨5, ![a, b, c, d, e]⟩ : Shape).Idx → EReal) {p q r s t : ℕ} (hp : p < a)
    (hq : q < b) (hr : r < c) (hs : s < d) (ht : t < e) :
    rd5 x p q r s t = x (ix5 ⟨p, hp⟩ ⟨q, hq⟩ ⟨r, hr⟩ ⟨s, hs⟩ ⟨t, ht⟩) := dif_pos ⟨hp, hq, hr, hs, ht⟩

/-- An image batch `[N, H, W, C]` read at a row and a column counted from one, zero outside: the image with a border of
zeros around it. -/
def rdp {N H W C : ℕ} (x : (⟨4, ![N, H, W, C]⟩ : Shape).Idx → EReal) (n p q i : ℕ) : EReal :=
  if 1 ≤ p ∧ 1 ≤ q then rd4 x n (p - 1) (q - 1) i else 0

/-- Before bias and activation: the three-by-three convolution at row `h`, column `c` and output channel `o`. -/
def tapSum {N H W Ci Co : ℕ} (x : (⟨4, ![N, H, W, Ci]⟩ : Shape).Idx → EReal)
    (w : (⟨4, ![Co, Ci, 3, 3]⟩ : Shape).Idx → EReal) (n h c o : ℕ) : EReal :=
  ∑ dy : Fin 3, ∑ dx : Fin 3, ∑ i : Fin Ci, rdp x n (h + dy) (c + dx) i * rd4 w o i dy dx

/-- One layer at an output element: convolution, bias, and the maximum with zero. -/
def convAt {N H W Ci Co : ℕ} (x : (⟨4, ![N, H, W, Ci]⟩ : Shape).Idx → EReal)
    (w : (⟨4, ![Co, Ci, 3, 3]⟩ : Shape).Idx → EReal) (b : (⟨1, ![Co]⟩ : Shape).Idx → EReal) (n h c o : ℕ) : EReal :=
  max (tapSum x w n h c o + rd1 b o) 0

/-- One layer: a zero-padded three-by-three convolution, bias, and the maximum with zero. -/
def conv {N H W Ci Co : ℕ} (x : (⟨4, ![N, H, W, Ci]⟩ : Shape).Idx → EReal)
    (w : (⟨4, ![Co, Ci, 3, 3]⟩ : Shape).Idx → EReal) (b : (⟨1, ![Co]⟩ : Shape).Idx → EReal) :
    (⟨4, ![N, H, W, Co]⟩ : Shape).Idx → EReal :=
  fun j => convAt x w b (j 0).val (j 1).val (j 2).val (j 3).val

/-- The two-by-two maximum at an output element. -/
def poolAt {N H W C : ℕ} (x : (⟨4, ![N, H, W, C]⟩ : Shape).Idx → EReal) (n h c i : ℕ) : EReal :=
  max (max (rd4 x n (2 * h) (2 * c) i) (rd4 x n (2 * h) (2 * c + 1) i))
    (max (rd4 x n (2 * h + 1) (2 * c) i) (rd4 x n (2 * h + 1) (2 * c + 1) i))

/-- Two-by-two maximum pooling at stride two. -/
def pool {N H W C : ℕ} (h' w' : ℕ) (x : (⟨4, ![N, H, W, C]⟩ : Shape).Idx → EReal) :
    (⟨4, ![N, h', w', C]⟩ : Shape).Idx → EReal :=
  fun j => poolAt x (j 0).val (j 1).val (j 2).val (j 3).val

/-- An image batch with a column of zeros on its left and, where `Wp` is two more than the width, on its right. -/
def padW {N H W C : ℕ} (Wp : ℕ) (x : (⟨4, ![N, H, W, C]⟩ : Shape).Idx → EReal) :
    (⟨4, ![N, H, Wp, C]⟩ : Shape).Idx → EReal :=
  fun j => rdp x (j 0).val ((j 1).val + 1) (j 2).val (j 3).val

end Cert.Vgg

end
-- ==== Proof.Body.lean ====
/- The operations a layer's body and its host preparation are made of, read at coordinates, at any sizes. -/
module

public import proofs.«01_k».proof.Proof.Spec
public import Idealize.ShloMosaic.Lib.MatmulPlain

@[expose] public section

noncomputable section

namespace Cert.Vgg

open Idealize.ShloMosaic

/-! ## Reshapes -/

section Reshape
variable {a b c d e m : ℕ}

/-- Splitting or merging: two rank-three axes merged into a matrix's rows. -/
theorem cast_rows (x : (⟨3, ![a, b, c]⟩ : Shape).Idx → EReal)
    (h : (⟨3, ![a, b, c]⟩ : Shape).ShapeCasts ⟨2, ![m, c]⟩) (hm : m = a * b) {p q r : ℕ} (hp : p < a) (hq : q < b)
    (hr : r < c) : rd2 (shapeCast ⟨2, ![m, c]⟩ x h) (p * b + q) r = rd3 x p q r := by
  have hpq : p * b + q < m := by subst hm; nlinarith
  rw [rd2_in _ hpq hr, rd3_in _ hp hq hr]
  refine shapeCast_apply x h _ _ ?_
  rw [Shape.rowMajor_val_two, Shape.rowMajor_val_three]; rfl

/-- A matrix's rows split into two axes. -/
theorem cast_unrows (x : (⟨2, ![m, c]⟩ : Shape).Idx → EReal)
    (h : (⟨2, ![m, c]⟩ : Shape).ShapeCasts ⟨3, ![a, b, c]⟩) (hm : m = a * b) {p q r : ℕ} (hp : p < a) (hq : q < b)
    (hr : r < c) : rd3 (shapeCast ⟨3, ![a, b, c]⟩ x h) p q r = rd2 x (p * b + q) r := by
  have hpq : p * b + q < m := by subst hm; nlinarith
  rw [rd2_in _ hpq hr, rd3_in _ hp hq hr]
  refine shapeCast_apply x h _ _ ?_
  rw [Shape.rowMajor_val_two, Shape.rowMajor_val_three]; rfl

/-- A leading unit axis added. -/
theorem cast_lead (x : (⟨3, ![a, b, c]⟩ : Shape).Idx → EReal)
    (h : (⟨3, ![a, b, c]⟩ : Shape).ShapeCasts ⟨4, ![1, a, b, c]⟩) {p q r : ℕ} (hp : p < a) (hq : q < b)
    (hr : r < c) : rd4 (shapeCast ⟨4, ![1, a, b, c]⟩ x h) 0 p q r = rd3 x p q r := by
  rw [rd4_in _ Nat.one_pos hp hq hr, rd3_in _ hp hq hr]
  refine shapeCast_apply x h _ _ ?_
  rw [Shape.rowMajor_val_three, Shape.rowMajor_val_four]; show (p * b + q) * c + r = ((0 * a + p) * b + q) * c + r; simp

/-- A leading unit axis dropped. -/
theorem cast_unlead (x : (⟨4, ![1, a, b, c]⟩ : Shape).Idx → EReal)
    (h : (⟨4, ![1, a, b, c]⟩ : Shape).ShapeCasts ⟨3, ![a, b, c]⟩) {p q r : ℕ} (hp : p < a) (hq : q < b)
    (hr : r < c) : rd3 (shapeCast ⟨3, ![a, b, c]⟩ x h) p q r = rd4 x 0 p q r := by
  rw [rd4_in _ Nat.one_pos hp hq hr, rd3_in _ hp hq hr]
  refine shapeCast_apply x h _ _ ?_
  rw [Shape.rowMajor_val_three, Shape.rowMajor_val_four]; show ((0 * a + p) * b + q) * c + r = (p * b + q) * c + r; simp

/-- A leading unit axis of a rank-three array dropped. -/
theorem cast_unlead3 (x : (⟨3, ![1, a, b]⟩ : Shape).Idx → EReal)
    (h : (⟨3, ![1, a, b]⟩ : Shape).ShapeCasts ⟨2, ![a, b]⟩) {p q : ℕ} (hp : p < a) (hq : q < b) :
    rd2 (shapeCast ⟨2, ![a, b]⟩ x h) p q = rd3 x 0 p q := by
  rw [rd3_in _ Nat.one_pos hp hq, rd2_in _ hp hq]
  refine shapeCast_apply x h _ _ ?_
  rw [Shape.rowMajor_val_two, Shape.rowMajor_val_three]; show (0 * a + p) * b + q = p * b + q; simp

/-- A leading unit axis added to a matrix. -/
theorem cast_lead2 (x : (⟨2, ![a, b]⟩ : Shape).Idx → EReal)
    (h : (⟨2, ![a, b]⟩ : Shape).ShapeCasts ⟨3, ![1, a, b]⟩) {p q : ℕ} (hp : p < a) (hq : q < b) :
    rd3 (shapeCast ⟨3, ![1, a, b]⟩ x h) 0 p q = rd2 x p q := by
  rw [rd3_in _ Nat.one_pos hp hq, rd2_in _ hp hq]
  refine shapeCast_apply x h _ _ ?_
  rw [Shape.rowMajor_val_two, Shape.rowMajor_val_three]; show p * b + q = (0 * a + p) * b + q; simp

/-- Three leading unit axes dropped. -/
theorem cast_row (x : (⟨5, ![1, 1, 1, a, b]⟩ : Shape).Idx → EReal)
    (h : (⟨5, ![1, 1, 1, a, b]⟩ : Shape).ShapeCasts ⟨2, ![a, b]⟩) {p q : ℕ} (hp : p < a) (hq : q < b) :
    rd2 (shapeCast ⟨2, ![a, b]⟩ x h) p q = rd5 x 0 0 0 p q := by
  rw [rd5_in _ Nat.one_pos Nat.one_pos Nat.one_pos hp hq, rd2_in _ hp hq]
  refine shapeCast_apply x h _ _ ?_
  rw [Shape.rowMajor_val_two, Shape.rowMajor_val_five]; show (((0 * 1 + 0) * 1 + 0) * a + p) * b + q = p * b + q; simp

/-- A reshape to the same shape. -/
theorem cast_same2 (x : (⟨2, ![a, b]⟩ : Shape).Idx → EReal)
    (h : (⟨2, ![a, b]⟩ : Shape).ShapeCasts ⟨2, ![a, b]⟩) : shapeCast ⟨2, ![a, b]⟩ x h = x :=
  funext fun j => shapeCast_apply x h j j rfl

/-- A bias row laid out as a vector and then as a rank-three array. -/
theorem cast_bias (x : (⟨2, ![1, a]⟩ : Shape).Idx → EReal)
    (h : (⟨2, ![1, a]⟩ : Shape).ShapeCasts ⟨1, ![a]⟩) (h' : (⟨1, ![a]⟩ : Shape).ShapeCasts ⟨3, ![1, 1, a]⟩) {p : ℕ}
    (hp : p < a) : rd3 (shapeCast ⟨3, ![1, 1, a]⟩ (shapeCast ⟨1, ![a]⟩ x h) h') 0 0 p = rd2 x 0 p := by
  rw [rd3_in _ Nat.one_pos Nat.one_pos hp, rd2_in _ Nat.one_pos hp]
  refine (shapeCast_apply _ h' _ (ix1 ⟨p, hp⟩) ?_).trans (shapeCast_apply x h _ _ ?_)
  · rw [Shape.rowMajor_val_one, Shape.rowMajor_val_three]; show p = (0 * 1 + 0) * a + p; simp
  · rw [Shape.rowMajor_val_one, Shape.rowMajor_val_two]; show 0 * a + p = p; simp

/-- A bias vector laid out as a row. -/
theorem cast_vec (x : (⟨1, ![a]⟩ : Shape).Idx → EReal)
    (h : (⟨1, ![a]⟩ : Shape).ShapeCasts ⟨2, ![1, a]⟩) {p : ℕ}
    (hp : p < a) : rd2 (shapeCast ⟨2, ![1, a]⟩ x h) 0 p = rd1 x p := by
  rw [rd2_in _ Nat.one_pos hp, rd1, dif_pos hp]
  refine shapeCast_apply x h _ _ ?_
  rw [Shape.rowMajor_val_one, Shape.rowMajor_val_two]; show p = 0 * a + p; simp

/-- The two-level pooling layouts: a rank-three array's leading axis split in two. -/
theorem cast_split_rows (x : (⟨3, ![m, b, c]⟩ : Shape).Idx → EReal)
    (h : (⟨3, ![m, b, c]⟩ : Shape).ShapeCasts ⟨4, ![a, 2, b, c]⟩) (hm : m = a * 2) {p u q r : ℕ} (hp : p < a) (hu : u < 2)
    (hq : q < b) (hr : r < c) : rd4 (shapeCast ⟨4, ![a, 2, b, c]⟩ x h) p u q r = rd3 x (2 * p + u) q r := by
  have hpq : 2 * p + u < m := by omega
  rw [rd4_in _ hp hu hq hr, rd3_in _ hpq hq hr]
  refine shapeCast_apply x h _ _ ?_
  rw [Shape.rowMajor_val_three, Shape.rowMajor_val_four]; show ((2 * p + u) * b + q) * c + r = ((p * 2 + u) * b + q) * c + r; rw [Nat.mul_comm 2 p]

/-- The two-level pooling layouts: a rank-three array's middle axis split in two. -/
theorem cast_split_cols (x : (⟨3, ![a, m, c]⟩ : Shape).Idx → EReal)
    (h : (⟨3, ![a, m, c]⟩ : Shape).ShapeCasts ⟨4, ![a, b, 2, c]⟩) (hm : m = b * 2) {p q u r : ℕ} (hp : p < a) (hq : q < b)
    (hu : u < 2) (hr : r < c) : rd4 (shapeCast ⟨4, ![a, b, 2, c]⟩ x h) p q u r = rd3 x p (2 * q + u) r := by
  have hpq : 2 * q + u < m := by omega
  rw [rd4_in _ hp hq hu hr, rd3_in _ hp hpq hr]
  refine shapeCast_apply x h _ _ ?_
  rw [Shape.rowMajor_val_three, Shape.rowMajor_val_four]
  subst hm
  show (p * (b * 2) + (2 * q + u)) * c + r = ((p * b + q) * 2 + u) * c + r; ring

end Reshape

/-! ## Slices, concatenations and broadcasts -/

section Layout
variable {a b c d e a' b' c' d' : ℕ}

/-- A rank-three window read at coordinates. -/
theorem slice3 (off : Fin 3 → ℕ) (x : (⟨3, ![a, b, c]⟩ : Shape).Idx → EReal)
    (h : (⟨3, ![a, b, c]⟩ : Shape).Slices off ⟨3, ![a', b', c']⟩) {p q r : ℕ} (hp : p < a') (hq : q < b') (hr : r < c') :
    rd3 (extractStridedSlice ⟨3, ![a', b', c']⟩ off x h) p q r = rd3 x (off 0 + p) (off 1 + q) (off 2 + r) := by
  rw [rd3_in _ hp hq hr, Pointwise.extractStridedSlice_apply]
  exact eq_rd3 _ _ rfl rfl rfl

/-- A rank-four window read at coordinates. -/
theorem slice4 (off : Fin 4 → ℕ) (x : (⟨4, ![a, b, c, d]⟩ : Shape).Idx → EReal)
    (h : (⟨4, ![a, b, c, d]⟩ : Shape).Slices off ⟨4, ![a', b', c', d']⟩) {p q r s : ℕ} (hp : p < a') (hq : q < b')
    (hr : r < c') (hs : s < d') :
    rd4 (extractStridedSlice ⟨4, ![a', b', c', d']⟩ off x h) p q r s
      = rd4 x (off 0 + p) (off 1 + q) (off 2 + r) (off 3 + s) := by
  rw [rd4_in _ hp hq hr hs, Pointwise.extractStridedSlice_apply]
  exact eq_rd4 _ _ rfl rfl rfl rfl

/-- A strided rank-four window read at coordinates. -/
theorem hslice4 (off st : Fin 4 → ℕ) (x : (⟨4, ![a, b, c, d]⟩ : Shape).Idx → EReal)
    (h : (⟨4, ![a, b, c, d]⟩ : Shape).SlicesBy off st ⟨4, ![a', b', c', d']⟩) {p q r s : ℕ} (hp : p < a') (hq : q < b')
    (hr : r < c') (hs : s < d') :
    rd4 (Host.slice ⟨4, ![a', b', c', d']⟩ off st x h) p q r s
      = rd4 x (off 0 + st 0 * p) (off 1 + st 1 * q) (off 2 + st 2 * r) (off 3 + st 3 * s) := by
  rw [rd4_in _ hp hq hr hs, Host.slice_apply]
  exact eq_rd4 _ _ rfl rfl rfl rfl

/-- A block of rows with one row above and one below. -/
theorem cat_halo {a2 : ℕ} (x z : (⟨3, ![1, b, c]⟩ : Shape).Idx → EReal) (y : (⟨3, ![a, b, c]⟩ : Shape).Idx → EReal)
    (h : Shape.Concatenates [⟨3, ![1, b, c]⟩, ⟨3, ![a, b, c]⟩, ⟨3, ![1, b, c]⟩] ⟨3, ![a2, b, c]⟩ 0) (ha : a2 = a + 2)
    {p q r : ℕ} (hp : p < a2) (hq : q < b) (hr : r < c) :
    rd3 (concatenate ⟨3, ![a2, b, c]⟩ 0 [⟨⟨3, ![1, b, c]⟩, x⟩, ⟨⟨3, ![a, b, c]⟩, y⟩, ⟨⟨3, ![1, b, c]⟩, z⟩] h) p q r
      = if p = 0 then rd3 x 0 q r else if p ≤ a then rd3 y (p - 1) q r else rd3 z 0 q r := by
  rw [rd3_in _ hp hq hr]
  refine (concatenate_cons_apply _ _ ⟨_, x⟩ ⟨_, y⟩ [⟨_, z⟩] h _).trans ((concatenateAt_cons _ _ _ _ _ _ _ _).trans ?_)
  by_cases h1 : p < 1
  · rw [if_pos (by omega)]
    exact (dif_pos h1).trans (eq_rd3 _ _ (show p = 0 by omega) rfl rfl)
  · rw [if_neg (by omega)]
    refine (dif_neg h1).trans ((concatenateAt_cons _ _ _ _ _ _ _ _).trans ?_)
    by_cases h2 : p - 1 < a
    · rw [if_pos (by omega)]
      exact (dif_pos h2).trans (eq_rd3 _ _ rfl rfl rfl)
    · rw [if_neg (by omega)]
      exact (dif_neg h2).trans ((concatenateAt_singleton _ _ _ _ _ _).trans
        (eq_rd3 _ _ (show p - 1 - a = 0 by omega) rfl rfl))

/-- Three arrays side by side along the last axis. -/
theorem cat_chan {c3 : ℕ} (x y z : (⟨3, ![a, b, c]⟩ : Shape).Idx → EReal)
    (h : Shape.Concatenates [⟨3, ![a, b, c]⟩, ⟨3, ![a, b, c]⟩, ⟨3, ![a, b, c]⟩] ⟨3, ![a, b, c3]⟩ 2) (hc : c3 = 3 * c)
    {p q : ℕ} (hp : p < a) (hq : q < b) (dy : Fin 3) (i : Fin c) :
    rd3 (concatenate ⟨3, ![a, b, c3]⟩ 2 [⟨⟨3, ![a, b, c]⟩, x⟩, ⟨⟨3, ![a, b, c]⟩, y⟩, ⟨⟨3, ![a, b, c]⟩, z⟩] h) p q (dy * c + i)
      = rd3 (![x, y, z] dy) p q i := by
  have hi := i.isLt
  have hk : dy.val * c + i.val < c3 := by
    subst hc; have := dy.isLt; nlinarith
  rw [rd3_in _ hp hq hk]
  refine (concatenate_cons_apply _ _ ⟨_, x⟩ ⟨_, y⟩ [⟨_, z⟩] h _).trans ((concatenateAt_cons _ _ _ _ _ _ _ _).trans ?_)
  match dy, hk with
  | ⟨0, _⟩, hk =>
    have h1 : 0 * c + i.val < c := by omega
    exact (dif_pos h1).trans (eq_rd3 _ _ rfl rfl (show 0 * c + i.val = i.val by omega))
  | ⟨1, _⟩, hk =>
    have h1 : ¬ 1 * c + i.val < c := by omega
    have h2 : 1 * c + i.val - c < c := by omega
    exact (dif_neg h1).trans ((concatenateAt_cons _ _ _ _ _ _ _ _).trans
      ((dif_pos h2).trans (eq_rd3 _ _ rfl rfl (show 1 * c + i.val - c = i.val by omega))))
  | ⟨2, _⟩, hk =>
    have h1 : ¬ 2 * c + i.val < c := by omega
    have h2 : ¬ 2 * c + i.val - c < c := by omega
    exact (dif_neg h1).trans ((concatenateAt_cons _ _ _ _ _ _ _ _).trans
      ((dif_neg h2).trans ((concatenateAt_singleton _ _ _ _ _ _).trans
        (eq_rd3 _ _ rfl rfl (show 2 * c + i.val - c - c = i.val by omega)))))

/-- A sum over three blocks of `c` terms. -/
theorem sum_three {k : ℕ} (hk : k = 3 * c) (f : ℕ → EReal) :
    ∑ i : Fin k, f i = ∑ dy : Fin 3, ∑ i : Fin c, f (dy * c + i) := by
  subst hk
  rw [Fin.sum_univ_three]
  simp only [Fin.sum_univ_eq_sum_range f, Fin.sum_univ_eq_sum_range (fun i => f (_ + i))]
  rw [show 3 * c = c + c + c by ring, Finset.sum_range_add, Finset.sum_range_add]
  simp [two_mul, Finset.sum_range]

/-- A matrix product onto zero, read at coordinates. -/
theorem matmul_rd {M K N : ℕ} (prec : Option ContractPrecision) (l : FVec Ideal ⟨2, ![M, K]⟩ .f32)
    (r : FVec Ideal ⟨2, ![K, N]⟩ .f32) {p q : ℕ} (hp : p < M) (hq : q < N) :
    rd2 (matmul (F := Ideal) (DotDims.plain M K N) prec l r (constant ⟨2, ![M, N]⟩ .f32 0x00000000#32)) p q
      = ∑ k : Fin K, rd2 l p k * rd2 r k q := by
  rw [rd2_in _ hp hq]
  refine (Ideal.matmul_plain_apply prec l r _ _ _).trans ?_
  refine (congrArg₂ (· + ·) (Ideal.ofBits_zero_f32 : _ = (0 : EReal)) (Finset.sum_congr rfl fun k _ => ?_)).trans (zero_add _)
  rw [rd2_in l hp k.isLt, rd2_in r k.isLt hq]; rfl

end Layout

/-! ## The bodies of the convolution calls -/

section Conv
variable {A A2 Wp W C O K N M : ℕ}

/-- The row block a body works on, row by row: the row above, the block's own rows, the row below. -/
def haloAt (top : (⟨5, ![1, 1, 1, Wp, C]⟩ : Shape).Idx → EReal) (mid : (⟨4, ![1, A, Wp, C]⟩ : Shape).Idx → EReal)
    (bot : (⟨5, ![1, 1, 1, Wp, C]⟩ : Shape).Idx → EReal) (r c i : ℕ) : EReal :=
  if r = 0 then rd5 top 0 0 0 c i else if r ≤ A then rd4 mid 0 (r - 1) c i else rd5 bot 0 0 0 c i

/-- The concatenated row block read at coordinates. -/
theorem full_rd (top : (⟨5, ![1, 1, 1, Wp, C]⟩ : Shape).Idx → EReal) (mid : (⟨4, ![1, A, Wp, C]⟩ : Shape).Idx → EReal)
    (bot : (⟨5, ![1, 1, 1, Wp, C]⟩ : Shape).Idx → EReal) (hA : A2 = A + 2)
    (h1 : (⟨5, ![1, 1, 1, Wp, C]⟩ : Shape).ShapeCasts ⟨2, ![Wp, C]⟩)
    (h2 : (⟨2, ![Wp, C]⟩ : Shape).ShapeCasts ⟨3, ![1, Wp, C]⟩)
    (h3 : (⟨4, ![1, A, Wp, C]⟩ : Shape).ShapeCasts ⟨3, ![A, Wp, C]⟩)
    (h : Shape.Concatenates [⟨3, ![1, Wp, C]⟩, ⟨3, ![A, Wp, C]⟩, ⟨3, ![1, Wp, C]⟩] ⟨3, ![A2, Wp, C]⟩ 0)
    {r c i : ℕ} (hr : r < A2) (hc : c < Wp) (hi : i < C) :
    rd3 (concatenate ⟨3, ![A2, Wp, C]⟩ 0
      [⟨⟨3, ![1, Wp, C]⟩, shapeCast ⟨3, ![1, Wp, C]⟩ (shapeCast ⟨2, ![Wp, C]⟩ top h1) h2⟩,
       ⟨⟨3, ![A, Wp, C]⟩, shapeCast ⟨3, ![A, Wp, C]⟩ mid h3⟩,
       ⟨⟨3, ![1, Wp, C]⟩, shapeCast ⟨3, ![1, Wp, C]⟩ (shapeCast ⟨2, ![Wp, C]⟩ bot h1) h2⟩] h) r c i
      = haloAt top mid bot r c i := by
  rw [cat_halo _ _ _ h hA hr hc hi, haloAt]
  split
  · rw [cast_lead2 _ h2 hc hi, cast_row _ h1 hc hi]
  · split
    · rw [cast_unlead _ h3 (by omega) hc hi]
    · rw [cast_lead2 _ h2 hc hi, cast_row _ h1 hc hi]

/-- A body's bias broadcast over the block. -/
theorem bias_rd (x : (⟨2, ![1, O]⟩ : Shape).Idx → EReal)
    (h : (⟨2, ![1, O]⟩ : Shape).ShapeCasts ⟨1, ![O]⟩) (h' : (⟨1, ![O]⟩ : Shape).ShapeCasts ⟨3, ![1, 1, O]⟩)
    (hb : (⟨3, ![1, 1, O]⟩ : Shape).Broadcasts ⟨3, ![A, W, O]⟩) {r c o : ℕ} (hr : r < A) (hc : c < W) (ho : o < O) :
    rd3 (broadcastTo ⟨3, ![A, W, O]⟩ (shapeCast ⟨3, ![1, 1, O]⟩ (shapeCast ⟨1, ![O]⟩ x h) h') hb) r c o = rd2 x 0 o := by
  rw [rd3_in _ hr hc ho, ← cast_bias x h h' ho, rd3_in _ Nat.one_pos Nat.one_pos ho]
  refine broadcastTo_apply _ hb _ _ fun a => ?_
  match a with
  | ⟨0, _⟩ => rfl
  | ⟨1, _⟩ => rfl
  | ⟨2, _⟩ =>
    show o = if O = 1 then 0 else o
    split <;> omega

/-- A sum of elements at one position, read at coordinates. -/
theorem addf_rd3 {a b c : ℕ} (x y : FVec Ideal ⟨3, ![a, b, c]⟩ .f32) (p q r : ℕ) :
    rd3 (addf x y) p q r = rd3 x p q r + rd3 y p q r := by
  unfold rd3; split
  · rfl
  · exact (add_zero 0).symm

theorem addf_rd2 {a b : ℕ} (x y : FVec Ideal ⟨2, ![a, b]⟩ .f32) (p q : ℕ) :
    rd2 (addf x y) p q = rd2 x p q + rd2 y p q := by
  unfold rd2; split
  · rfl
  · exact (add_zero 0).symm

/-- The maximum with a zero array, read at coordinates. -/
theorem relu_rd3 {a b c : ℕ} (x : FVec Ideal ⟨3, ![a, b, c]⟩ .f32) (p q r : ℕ) :
    rd3 (maximumf x (broadcast ⟨3, ![a, b, c]⟩ (Scalar.ofBits (F := Ideal) .f32 0x00000000#32))) p q r = max (rd3 x p q r) 0 := by
  unfold rd3; split
  · exact congrArg (max _) Ideal.ofBits_zero_f32
  · exact (max_self 0).symm

theorem relu_rd2 {a b : ℕ} (x : FVec Ideal ⟨2, ![a, b]⟩ .f32) (p q : ℕ) :
    rd2 (maximumf x (broadcast ⟨2, ![a, b]⟩ (Scalar.ofBits (F := Ideal) .f32 0x00000000#32))) p q = max (rd2 x p q) 0 := by
  unfold rd2; split
  · exact congrArg (max _) Ideal.ofBits_zero_f32
  · exact (max_self 0).symm

/-- The packed body: three row-shifted copies of the block side by side in the channels, one product against the packed
weights, and three column-shifted slices of the result added. Here its product, read at a column group. -/
theorem packed_rd (full : FVec Ideal ⟨3, ![A2, Wp, C]⟩ .f32) (w : FVec Ideal ⟨2, ![K, N]⟩ .f32) (hA : A2 = A + 2)
    (hK : K = 3 * C) (hN : N = 3 * O) (hM : M = A * Wp)
    (s0 : (⟨3, ![A2, Wp, C]⟩ : Shape).Slices ![0, 0, 0] ⟨3, ![A, Wp, C]⟩)
    (s1 : (⟨3, ![A2, Wp, C]⟩ : Shape).Slices ![1, 0, 0] ⟨3, ![A, Wp, C]⟩)
    (s2 : (⟨3, ![A2, Wp, C]⟩ : Shape).Slices ![2, 0, 0] ⟨3, ![A, Wp, C]⟩)
    (hcat : Shape.Concatenates [⟨3, ![A, Wp, C]⟩, ⟨3, ![A, Wp, C]⟩, ⟨3, ![A, Wp, C]⟩] ⟨3, ![A, Wp, K]⟩ 2)
    (h1 : (⟨3, ![A, Wp, K]⟩ : Shape).ShapeCasts ⟨2, ![M, K]⟩) (h2 : (⟨2, ![K, N]⟩ : Shape).ShapeCasts ⟨2, ![K, N]⟩)
    (h3 : (⟨2, ![M, N]⟩ : Shape).ShapeCasts ⟨3, ![A, Wp, N]⟩) {r c o : ℕ} (hr : r < A) (hc : c < Wp) (dx : Fin 3) (ho : o < O) :
    rd3 (shapeCast ⟨3, ![A, Wp, N]⟩ (matmul (F := Ideal) (DotDims.plain M K N) none
      (shapeCast ⟨2, ![M, K]⟩ (concatenate ⟨3, ![A, Wp, K]⟩ 2
        [⟨⟨3, ![A, Wp, C]⟩, extractStridedSlice ⟨3, ![A, Wp, C]⟩ ![0, 0, 0] full s0⟩,
         ⟨⟨3, ![A, Wp, C]⟩, extractStridedSlice ⟨3, ![A, Wp, C]⟩ ![1, 0, 0] full s1⟩,
         ⟨⟨3, ![A, Wp, C]⟩, extractStridedSlice ⟨3, ![A, Wp, C]⟩ ![2, 0, 0] full s2⟩] hcat) h1)
      (shapeCast ⟨2, ![K, N]⟩ w h2) (constant ⟨2, ![M, N]⟩ .f32 0x00000000#32)) h3) r c (dx * O + o)
      = ∑ dy : Fin 3, ∑ i : Fin C, rd3 full (r + dy) c i * rd2 w (dy * C + i) (dx * O + o) := by
  have hn : dx.val * O + o < N := by subst hN; have := dx.isLt; nlinarith
  have hm : r * Wp + c < M := by subst hM; nlinarith
  rw [cast_unrows _ h3 hM hr hc hn, matmul_rd none _ _ hm hn, cast_same2, sum_three hK fun k => rd2 _ _ k * rd2 w k _]
  refine Finset.sum_congr rfl fun dy _ => Finset.sum_congr rfl fun i _ => ?_
  have hk : dy.val * C + i.val < K := by subst hK; have := dy.isLt; have := i.isLt; nlinarith
  rw [cast_rows _ h1 hM hr hc hk, cat_chan _ _ _ hcat hK hr hc dy i]
  refine congrArg (· * _) ?_
  match dy with
  | ⟨0, _⟩ => exact (slice3 _ full s0 hr hc i.isLt).trans (by simp)
  | ⟨1, _⟩ => exact (slice3 _ full s1 hr hc i.isLt).trans (by simp [Nat.add_comm])
  | ⟨2, _⟩ => exact (slice3 _ full s2 hr hc i.isLt).trans (by simp [Nat.add_comm])

/-- The packed body's output: its product's three column groups, shifted and added, the bias, the maximum with zero. -/
theorem packed_out (out : FVec Ideal ⟨3, ![A, Wp, N]⟩ .f32) (b : FVec Ideal ⟨2, ![1, O]⟩ .f32) (off1 off2 : ℕ)
    (h1 : off1 = O) (h2 : off2 = 2 * O)
    (s0 : (⟨3, ![A, Wp, N]⟩ : Shape).Slices ![0, 0, 0] ⟨3, ![A, W, O]⟩)
    (s1 : (⟨3, ![A, Wp, N]⟩ : Shape).Slices ![0, 1, off1] ⟨3, ![A, W, O]⟩)
    (s2 : (⟨3, ![A, Wp, N]⟩ : Shape).Slices ![0, 2, off2] ⟨3, ![A, W, O]⟩)
    (hb1 : (⟨2, ![1, O]⟩ : Shape).ShapeCasts ⟨1, ![O]⟩) (hb2 : (⟨1, ![O]⟩ : Shape).ShapeCasts ⟨3, ![1, 1, O]⟩)
    (hb3 : (⟨3, ![1, 1, O]⟩ : Shape).Broadcasts ⟨3, ![A, W, O]⟩)
    (hl : (⟨3, ![A, W, O]⟩ : Shape).ShapeCasts ⟨4, ![1, A, W, O]⟩) {r c o : ℕ} (hr : r < A) (hc : c < W) (ho : o < O) :
    rd4 (shapeCast ⟨4, ![1, A, W, O]⟩ (maximumf (F := Ideal) (addf (addf (addf
        (extractStridedSlice ⟨3, ![A, W, O]⟩ ![0, 0, 0] out s0) (extractStridedSlice ⟨3, ![A, W, O]⟩ ![0, 1, off1] out s1))
        (extractStridedSlice ⟨3, ![A, W, O]⟩ ![0, 2, off2] out s2))
        (broadcastTo ⟨3, ![A, W, O]⟩ (shapeCast ⟨3, ![1, 1, O]⟩ (shapeCast ⟨1, ![O]⟩ b hb1) hb2) hb3))
        (broadcast ⟨3, ![A, W, O]⟩ (Scalar.ofBits (F := Ideal) .f32 0x00000000#32))) hl) 0 r c o
      = max ((∑ dx : Fin 3, rd3 out r (c + dx) (dx * O + o)) + rd2 b 0 o) 0 := by
  subst h1; subst h2
  rw [cast_lead _ hl hr hc ho, relu_rd3, addf_rd3, addf_rd3, addf_rd3, slice3 _ _ s0 hr hc ho, slice3 _ _ s1 hr hc ho,
    slice3 _ _ s2 hr hc ho, bias_rd b hb1 hb2 hb3 hr hc ho, Fin.sum_univ_three]
  simp [Nat.add_comm]

/-- One tap of the other body: a shifted window of the block against one slab of the weights. -/
theorem tap_rd (full : FVec Ideal ⟨3, ![A2, Wp, C]⟩ .f32) (w : FVec Ideal ⟨3, ![1, C, O]⟩ .f32) (off : Fin 3 → ℕ)
    (h0 : off 2 = 0) (hM : M = A * W)
    (s : (⟨3, ![A2, Wp, C]⟩ : Shape).Slices off ⟨3, ![A, W, C]⟩)
    (h1 : (⟨3, ![A, W, C]⟩ : Shape).ShapeCasts ⟨2, ![M, C]⟩) (h2 : (⟨3, ![1, C, O]⟩ : Shape).ShapeCasts ⟨2, ![C, O]⟩)
    {r c o : ℕ} (hr : r < A) (hc : c < W) (ho : o < O) :
    rd2 (matmul (F := Ideal) (DotDims.plain M C O) none
      (shapeCast ⟨2, ![M, C]⟩ (extractStridedSlice ⟨3, ![A, W, C]⟩ off full s) h1)
      (shapeCast ⟨2, ![C, O]⟩ w h2) (constant ⟨2, ![M, O]⟩ .f32 0x00000000#32)) (r * W + c) o
      = ∑ i : Fin C, rd3 full (r + off 0) (c + off 1) i * rd3 w 0 i o := by
  have hm : r * W + c < M := by subst hM; nlinarith
  rw [matmul_rd none _ _ hm ho]
  refine Finset.sum_congr rfl fun i _ => ?_
  rw [cast_rows _ h1 hM hr hc i.isLt, cast_unlead3 _ h2 i.isLt ho, slice3 off full s hr hc i.isLt, h0, Nat.zero_add,
    Nat.add_comm r, Nat.add_comm c]

/-- The other body's output: bias, the maximum with zero, and the block's layout. -/
theorem taps_out (acc : FVec Ideal ⟨2, ![M, O]⟩ .f32) (b : FVec Ideal ⟨2, ![1, O]⟩ .f32) (hM : M = A * W)
    (hs : (⟨2, ![1, O]⟩ : Shape).ShapeCasts ⟨2, ![1, O]⟩)
    (hb : (⟨2, ![1, O]⟩ : Shape).Broadcasts ⟨2, ![M, O]⟩) (h1 : (⟨2, ![M, O]⟩ : Shape).ShapeCasts ⟨3, ![A, W, O]⟩)
    (hl : (⟨3, ![A, W, O]⟩ : Shape).ShapeCasts ⟨4, ![1, A, W, O]⟩) {r c o : ℕ} (hr : r < A) (hc : c < W) (ho : o < O) :
    rd4 (shapeCast ⟨4, ![1, A, W, O]⟩ (shapeCast ⟨3, ![A, W, O]⟩ (maximumf (F := Ideal)
      (addf acc (broadcastTo ⟨2, ![M, O]⟩ (shapeCast ⟨2, ![1, O]⟩ b hs) hb))
      (broadcast ⟨2, ![M, O]⟩ (Scalar.ofBits (F := Ideal) .f32 0x00000000#32))) h1) hl) 0 r c o
      = max (rd2 acc (r * W + c) o + rd2 b 0 o) 0 := by
  have hm : r * W + c < M := by subst hM; nlinarith
  rw [cast_lead _ hl hr hc ho, cast_unrows _ h1 hM hr hc ho, relu_rd2, addf_rd2, cast_same2]
  refine congrArg (fun t => max (_ + t) 0) ?_
  rw [rd2_in _ hm ho, rd2_in _ Nat.one_pos ho]
  refine broadcastTo_apply _ hb _ _ fun a => ?_
  match a with
  | ⟨0, _⟩ => rfl
  | ⟨1, _⟩ =>
    show o = if O = 1 then 0 else o
    split <;> omega

end Conv

end Cert.Vgg

end
-- ==== Proof.Layer.lean ====
/- What a block of a convolution call holds, from what its inputs hold, at any sizes: the body's payload is the layer's
output, and the stored block is the padded layer. -/
module

public import proofs.«01_k».proof.Proof.Body

@[expose] public section

noncomputable section

namespace Cert.Vgg

open Idealize.ShloMosaic

section Pad
variable {N H W C Co Wp : ℕ}

/-- The padded image's left column is zero. -/
theorem padW_left (x : (⟨4, ![N, H, W, C]⟩ : Shape).Idx → EReal) (j : (⟨4, ![N, H, Wp, C]⟩ : Shape).Idx)
    (h : (j 2).val = 0) : padW Wp x j = 0 := by
  unfold padW rdp
  rw [if_neg (by omega)]

/-- The padded image's right column is zero. -/
theorem padW_right (x : (⟨4, ![N, H, W, C]⟩ : Shape).Idx → EReal) (j : (⟨4, ![N, H, Wp, C]⟩ : Shape).Idx)
    (h : W < (j 2).val) : padW Wp x j = 0 := by
  unfold padW rdp
  split
  · rw [rd4, dif_neg (by omega)]
  · rfl

/-- The padded image inside. -/
theorem padW_mid (x : (⟨4, ![N, H, W, C]⟩ : Shape).Idx → EReal) (j : (⟨4, ![N, H, Wp, C]⟩ : Shape).Idx) {n h c i : ℕ}
    (h0 : (j 0).val = n) (h1 : (j 1).val = h) (h2 : (j 2).val = 1 + c) (h3 : (j 3).val = i) :
    padW Wp x j = rd4 x n h c i := by
  unfold padW rdp
  rw [if_pos (by omega), h0, h1, h2, h3, Nat.add_sub_cancel, Nat.add_sub_cancel_left]

/-- The padded image read at coordinates. -/
theorem rd4_padW (x : (⟨4, ![N, H, W, C]⟩ : Shape).Idx → EReal) {n h c i : ℕ} (hn : n < N) (hh : h < H) (hc : c < Wp)
    (hi : i < C) : rd4 (padW Wp x) n h c i = rdp x n (h + 1) c i := by
  rw [rd4_in _ hn hh hc hi]; rfl

/-- Outside the rows the bordered image is zero. -/
theorem rdp_above (x : (⟨4, ![N, H, W, C]⟩ : Shape).Idx → EReal) (n c i : ℕ) : rdp x n 0 c i = 0 := by
  rw [rdp, if_neg (by omega)]

theorem rdp_below (x : (⟨4, ![N, H, W, C]⟩ : Shape).Idx → EReal) {n h c i : ℕ} (hh : H < h) : rdp x n h c i = 0 := by
  unfold rdp; split
  · rw [rd4, dif_neg (by omega)]
  · rfl

/-- A layer read at coordinates. -/
theorem rd4_conv (x : (⟨4, ![N, H, W, C]⟩ : Shape).Idx → EReal) (w : (⟨4, ![Co, C, 3, 3]⟩ : Shape).Idx → EReal)
    (b : (⟨1, ![Co]⟩ : Shape).Idx → EReal) {n h c o : ℕ} (hn : n < N) (hh : h < H) (hc : c < W) (ho : o < Co) :
    rd4 (conv x w b) n h c o = convAt x w b n h c o := by
  rw [rd4_in _ hn hh hc ho]; rfl

/-- A pooled image read at coordinates. -/
theorem rd4_pool {h' w' : ℕ} (x : (⟨4, ![N, H, W, C]⟩ : Shape).Idx → EReal) {n h c i : ℕ} (hn : n < N) (hh : h < h')
    (hc : c < w') (hi : i < C) : rd4 (pool h' w' x) n h c i = poolAt x n h c i := by
  rw [rd4_in _ hn hh hc hi]; rfl

end Pad

section Block
variable {N H W C O A A2 Wp K N3 M R : ℕ}

/-- The row block a body works on is the bordered image's rows from the block's first. -/
theorem halo_block (x : (⟨4, ![N, H, W, C]⟩ : Shape).Idx → EReal)
    (xp : (⟨4, ![N, H, Wp, C]⟩ : Shape).Idx → EReal) (xb : (⟨5, ![N, R, 2, Wp, C]⟩ : Shape).Idx → EReal)
    (top : (⟨5, ![1, 1, 1, Wp, C]⟩ : Shape).Idx → EReal) (mid : (⟨4, ![1, A, Wp, C]⟩ : Shape).Idx → EReal)
    (bot : (⟨5, ![1, 1, 1, Wp, C]⟩ : Shape).Idx → EReal) {n ρ : ℕ} (hn : n < N) (hρ : ρ < R) (hH : H = R * A)
    (hxp : xp = padW Wp x)
    (hxb : ∀ n ρ k c i, n < N → ρ < R → k < 2 → c < Wp → i < C → rd5 xb n ρ k c i = rdp x n (ρ * A + k * (A + 1)) c i)
    (htop : ∀ c i, c < Wp → i < C → rd5 top 0 0 0 c i = rd5 xb n ρ 0 c i)
    (hmid : ∀ r c i, r < A → c < Wp → i < C → rd4 mid 0 r c i = rd4 xp n (ρ * A + r) c i)
    (hbot : ∀ c i, c < Wp → i < C → rd5 bot 0 0 0 c i = rd5 xb n ρ 1 c i) {r c i : ℕ} (hr : r < A + 2) (hc : c < Wp)
    (hi : i < C) : haloAt top mid bot r c i = rdp x n (ρ * A + r) c i := by
  unfold haloAt
  split
  · next h => rw [htop c i hc hi, hxb n ρ 0 c i hn hρ (by omega) hc hi, h, Nat.zero_mul]
  · split
    · have hh : ρ * A + (r - 1) < H := by
        have h2 := Nat.mul_le_mul_right A (show ρ + 1 ≤ R from hρ)
        rw [Nat.add_mul] at h2
        omega
      rw [hmid _ c i (by omega) hc hi, hxp, rd4_padW x hn hh hc hi, show ρ * A + (r - 1) + 1 = ρ * A + r by omega]
    · rw [hbot c i hc hi, hxb n ρ 1 c i hn hρ (by omega) hc hi, show ρ * A + 1 * (A + 1) = ρ * A + r by omega]

/-- The packed body's payload is the layer's output. -/
theorem packed_block (x : (⟨4, ![N, H, W, C]⟩ : Shape).Idx → EReal) (w : (⟨4, ![O, C, 3, 3]⟩ : Shape).Idx → EReal)
    (b : (⟨1, ![O]⟩ : Shape).Idx → EReal) {n base off1 off2 : ℕ} (hA : A2 = A + 2) (hW : Wp = W + 2) (hK : K = 3 * C)
    (hN : N3 = 3 * O) (hM : M = A * Wp) (ho1 : off1 = O) (ho2 : off2 = 2 * O)
    (top : FVec Ideal ⟨5, ![1, 1, 1, Wp, C]⟩ .f32) (mid : FVec Ideal ⟨4, ![1, A, Wp, C]⟩ .f32)
    (bot : FVec Ideal ⟨5, ![1, 1, 1, Wp, C]⟩ .f32) (wt : FVec Ideal ⟨2, ![K, N3]⟩ .f32) (br : FVec Ideal ⟨2, ![1, O]⟩ .f32)
    (hF : ∀ r c i, r < A + 2 → c < Wp → i < C → haloAt top mid bot r c i = rdp x n (base + r) c i)
    (hw : ∀ (dy dx : Fin 3) (i : Fin C) o, o < O → rd2 wt (dy * C + i) (dx * O + o) = rd4 w o i dy dx)
    (hb : ∀ o, o < O → rd2 br 0 o = rd1 b o)
    (g1 : (⟨5, ![1, 1, 1, Wp, C]⟩ : Shape).ShapeCasts ⟨2, ![Wp, C]⟩)
    (g2 : (⟨2, ![Wp, C]⟩ : Shape).ShapeCasts ⟨3, ![1, Wp, C]⟩)
    (g3 : (⟨4, ![1, A, Wp, C]⟩ : Shape).ShapeCasts ⟨3, ![A, Wp, C]⟩)
    (g4 : Shape.Concatenates [⟨3, ![1, Wp, C]⟩, ⟨3, ![A, Wp, C]⟩, ⟨3, ![1, Wp, C]⟩] ⟨3, ![A2, Wp, C]⟩ 0)
    (s0 : (⟨3, ![A2, Wp, C]⟩ : Shape).Slices ![0, 0, 0] ⟨3, ![A, Wp, C]⟩)
    (s1 : (⟨3, ![A2, Wp, C]⟩ : Shape).Slices ![1, 0, 0] ⟨3, ![A, Wp, C]⟩)
    (s2 : (⟨3, ![A2, Wp, C]⟩ : Shape).Slices ![2, 0, 0] ⟨3, ![A, Wp, C]⟩)
    (hcat : Shape.Concatenates [⟨3, ![A, Wp, C]⟩, ⟨3, ![A, Wp, C]⟩, ⟨3, ![A, Wp, C]⟩] ⟨3, ![A, Wp, K]⟩ 2)
    (h1 : (⟨3, ![A, Wp, K]⟩ : Shape).ShapeCasts ⟨2, ![M, K]⟩) (h2 : (⟨2, ![K, N3]⟩ : Shape).ShapeCasts ⟨2, ![K, N3]⟩)
    (h3 : (⟨2, ![M, N3]⟩ : Shape).ShapeCasts ⟨3, ![A, Wp, N3]⟩)
    (t0 : (⟨3, ![A, Wp, N3]⟩ : Shape).Slices ![0, 0, 0] ⟨3, ![A, W, O]⟩)
    (t1 : (⟨3, ![A, Wp, N3]⟩ : Shape).Slices ![0, 1, off1] ⟨3, ![A, W, O]⟩)
    (t2 : (⟨3, ![A, Wp, N3]⟩ : Shape).Slices ![0, 2, off2] ⟨3, ![A, W, O]⟩)
    (hb1 : (⟨2, ![1, O]⟩ : Shape).ShapeCasts ⟨1, ![O]⟩) (hb2 : (⟨1, ![O]⟩ : Shape).ShapeCasts ⟨3, ![1, 1, O]⟩)
    (hb3 : (⟨3, ![1, 1, O]⟩ : Shape).Broadcasts ⟨3, ![A, W, O]⟩)
    (hl : (⟨3, ![A, W, O]⟩ : Shape).ShapeCasts ⟨4, ![1, A, W, O]⟩) {r c o : ℕ} (hr : r < A) (hc : c < W) (ho : o < O) :
    let full : FVec Ideal ⟨3, ![A2, Wp, C]⟩ .f32 := concatenate ⟨3, ![A2, Wp, C]⟩ 0
      [⟨⟨3, ![1, Wp, C]⟩, shapeCast ⟨3, ![1, Wp, C]⟩ (shapeCast ⟨2, ![Wp, C]⟩ top g1) g2⟩,
       ⟨⟨3, ![A, Wp, C]⟩, shapeCast ⟨3, ![A, Wp, C]⟩ mid g3⟩,
       ⟨⟨3, ![1, Wp, C]⟩, shapeCast ⟨3, ![1, Wp, C]⟩ (shapeCast ⟨2, ![Wp, C]⟩ bot g1) g2⟩] g4
    let out : FVec Ideal ⟨3, ![A, Wp, N3]⟩ .f32 := shapeCast ⟨3, ![A, Wp, N3]⟩ (matmul (F := Ideal) (DotDims.plain M K N3) none
      (shapeCast ⟨2, ![M, K]⟩ (concatenate ⟨3, ![A, Wp, K]⟩ 2
        [⟨⟨3, ![A, Wp, C]⟩, extractStridedSlice ⟨3, ![A, Wp, C]⟩ ![0, 0, 0] full s0⟩,
         ⟨⟨3, ![A, Wp, C]⟩, extractStridedSlice ⟨3, ![A, Wp, C]⟩ ![1, 0, 0] full s1⟩,
         ⟨⟨3, ![A, Wp, C]⟩, extractStridedSlice ⟨3, ![A, Wp, C]⟩ ![2, 0, 0] full s2⟩] hcat) h1)
      (shapeCast ⟨2, ![K, N3]⟩ wt h2) (constant ⟨2, ![M, N3]⟩ .f32 0x00000000#32)) h3
    rd4 (shapeCast ⟨4, ![1, A, W, O]⟩ (maximumf (F := Ideal) (addf (addf (addf
        (extractStridedSlice ⟨3, ![A, W, O]⟩ ![0, 0, 0] out t0) (extractStridedSlice ⟨3, ![A, W, O]⟩ ![0, 1, off1] out t1))
        (extractStridedSlice ⟨3, ![A, W, O]⟩ ![0, 2, off2] out t2))
        (broadcastTo ⟨3, ![A, W, O]⟩ (shapeCast ⟨3, ![1, 1, O]⟩ (shapeCast ⟨1, ![O]⟩ br hb1) hb2) hb3))
        (broadcast ⟨3, ![A, W, O]⟩ (Scalar.ofBits (F := Ideal) .f32 0x00000000#32))) hl) 0 r c o
      = convAt x w b n (base + r) c o := by
  intro full out
  rw [packed_out out br off1 off2 ho1 ho2 t0 t1 t2 hb1 hb2 hb3 hl hr hc ho, hb o ho, convAt, tapSum, Finset.sum_comm]
  refine congrArg (fun t => max (t + _) 0) (Finset.sum_congr rfl fun dx _ => ?_)
  have hdx := dx.isLt
  refine (packed_rd full wt hA hK hN hM s0 s1 s2 hcat h1 h2 h3 hr (by omega) dx ho).trans ?_
  refine Finset.sum_congr rfl fun dy _ => Finset.sum_congr rfl fun i _ => ?_
  have hdy := dy.isLt
  rw [full_rd top mid bot hA g1 g2 g3 g4 (by omega) (by omega) i.isLt, hF _ _ _ (by omega) (by omega) i.isLt,
    hw dy dx i o ho, Nat.add_assoc]

/-- A stored block: the body's payload in the inner columns, zeros in the first and the last, is the padded layer's block. -/
theorem padded_block (Y : (⟨4, ![N, H, W, O]⟩ : Shape).Idx → EReal) (y : (⟨4, ![1, A, Wp, O]⟩ : Shape).Idx)
    (j : (⟨4, ![N, H, Wp, O]⟩ : Shape).Idx) {n base off : ℕ} (hW : Wp = W + 2) (hoff : off = W + 1)
    (i1 : ∀ a, (![0, 0, off, 0] : Fin 4 → ℕ) a + (![1, A, 1, O] : Fin 4 → ℕ) a ≤ (⟨4, ![1, A, Wp, O]⟩ : Shape).size a)
    (i2 : ∀ a, (![0, 0, 0, 0] : Fin 4 → ℕ) a + (![1, A, 1, O] : Fin 4 → ℕ) a ≤ (⟨4, ![1, A, Wp, O]⟩ : Shape).size a)
    (i3 : ∀ a, (![0, 0, 1, 0] : Fin 4 → ℕ) a + (![1, A, W, O] : Fin 4 → ℕ) a ≤ (⟨4, ![1, A, Wp, O]⟩ : Shape).size a)
    (z1 z2 : FVec Ideal ⟨4, ![1, A, 1, O]⟩ .f32) (p : FVec Ideal ⟨4, ![1, A, W, O]⟩ .f32)
    (hz1 : ∀ x, z1 x = 0) (hz2 : ∀ x, z2 x = 0)
    (hp : ∀ r c o, r < A → c < W → o < O → rd4 p 0 r c o = rd4 Y n (base + r) c o)
    (e0 : (j 0).val = n) (e1 : (j 1).val = base + (y 1).val) (e2 : (j 2).val = (y 2).val) (e3 : (j 3).val = (y 3).val) :
    View.canon (Val := Elt Ideal) (s := ⟨4, ![1, A, Wp, O]⟩) (e := .f32)
      [⟨Rect.unit ![0, 0, off, 0] ![1, A, 1, O] i1, z1⟩, ⟨Rect.unit ![0, 0, 0, 0] ![1, A, 1, O] i2, z2⟩,
       ⟨Rect.unit ![0, 0, 1, 0] ![1, A, W, O] i3, p⟩] y = padW Wp Y j := by
  have l0 : (y 0).val < 1 := (y 0).isLt
  have l1 : (y 1).val < A := (y 1).isLt
  have l2 : (y 2).val < Wp := (y 2).isLt
  have l3 : (y 3).val < O := (y 3).isLt
  refine View.canon_eq_of_allAt _ y _ ?_ (View.allAt_cons_unit _ _ _ _ _ (fun x hx => ?_)
    (View.allAt_cons_unit _ _ _ _ _ (fun x hx => ?_) (View.allAt_cons_unit _ _ _ _ _ (fun x hx => ?_) (View.allAt_nil _ _))))
  · by_cases h1 : (y 2).val = off
    · refine ⟨_, List.mem_cons_self, (Rect.mem_set_unit (inb := i1)).2 fun a => ?_⟩
      match a with
      | ⟨0, _⟩ => exact ⟨Nat.zero_le _, show (y 0).val < 0 + 1 by omega⟩
      | ⟨1, _⟩ => exact ⟨Nat.zero_le _, show (y 1).val < 0 + A by omega⟩
      | ⟨2, _⟩ => exact ⟨show off ≤ (y 2).val by omega, show (y 2).val < off + 1 by omega⟩
      | ⟨3, _⟩ => exact ⟨Nat.zero_le _, show (y 3).val < 0 + O by omega⟩
    · by_cases h2 : (y 2).val = 0
      · refine ⟨_, List.mem_cons_of_mem _ List.mem_cons_self, (Rect.mem_set_unit (inb := i2)).2 fun a => ?_⟩
        match a with
        | ⟨0, _⟩ => exact ⟨Nat.zero_le _, show (y 0).val < 0 + 1 by omega⟩
        | ⟨1, _⟩ => exact ⟨Nat.zero_le _, show (y 1).val < 0 + A by omega⟩
        | ⟨2, _⟩ => exact ⟨Nat.zero_le _, show (y 2).val < 0 + 1 by omega⟩
        | ⟨3, _⟩ => exact ⟨Nat.zero_le _, show (y 3).val < 0 + O by omega⟩
      · refine ⟨_, List.mem_cons_of_mem _ (List.mem_cons_of_mem _ List.mem_cons_self), (Rect.mem_set_unit (inb := i3)).2 fun a => ?_⟩
        match a with
        | ⟨0, _⟩ => exact ⟨Nat.zero_le _, show (y 0).val < 0 + 1 by omega⟩
        | ⟨1, _⟩ => exact ⟨Nat.zero_le _, show (y 1).val < 0 + A by omega⟩
        | ⟨2, _⟩ => exact ⟨show 1 ≤ (y 2).val by omega, show (y 2).val < 1 + W by omega⟩
        | ⟨3, _⟩ => exact ⟨Nat.zero_le _, show (y 3).val < 0 + O by omega⟩
  · have q2 : (y 2).val = off + (x 2).val := hx 2
    exact (hz1 x).trans (padW_right _ _ (by omega)).symm
  · have q2 : (y 2).val = 0 + (x 2).val := hx 2
    have m2 : (x 2).val < 1 := (x 2).isLt
    exact (hz2 x).trans (padW_left _ _ (by omega)).symm
  · have q0 : (y 0).val = 0 + (x 0).val := hx 0
    have q1 : (y 1).val = 0 + (x 1).val := hx 1
    have q2 : (y 2).val = 1 + (x 2).val := hx 2
    have q3 : (y 3).val = 0 + (x 3).val := hx 3
    have m2 : (x 2).val < W := (x 2).isLt
    rw [padW_mid Y j e0 e1 (e2.trans q2) e3, ← hp _ _ _ l1 m2 l3]
    exact eq_rd4 _ _ (by omega) (by omega) rfl (by omega)

/-- The nine-tap body's payload is the layer's output. -/
theorem taps_block (x : (⟨4, ![N, H, W, C]⟩ : Shape).Idx → EReal) (w : (⟨4, ![O, C, 3, 3]⟩ : Shape).Idx → EReal)
    (b : (⟨1, ![O]⟩ : Shape).Idx → EReal) {n base : ℕ} (hA : A2 = A + 2) (hW : Wp = W + 2) (hM : M = A * W)
    (top : FVec Ideal ⟨5, ![1, 1, 1, Wp, C]⟩ .f32) (mid : FVec Ideal ⟨4, ![1, A, Wp, C]⟩ .f32)
    (bot : FVec Ideal ⟨5, ![1, 1, 1, Wp, C]⟩ .f32) (w0 w1 w2 w3 w4 w5 w6 w7 w8 : FVec Ideal ⟨3, ![1, C, O]⟩ .f32)
    (br : FVec Ideal ⟨2, ![1, O]⟩ .f32)
    (hF : ∀ r c i, r < A + 2 → c < Wp → i < C → haloAt top mid bot r c i = rdp x n (base + r) c i)
    (hw : ∀ (dy dx : Fin 3) (i : Fin C) o, o < O →
      rd3 (![![w0, w1, w2], ![w3, w4, w5], ![w6, w7, w8]] dy dx) 0 i o = rd4 w o i dy dx)
    (hb : ∀ o, o < O → rd2 br 0 o = rd1 b o)
    (g1 : (⟨5, ![1, 1, 1, Wp, C]⟩ : Shape).ShapeCasts ⟨2, ![Wp, C]⟩)
    (g2 : (⟨2, ![Wp, C]⟩ : Shape).ShapeCasts ⟨3, ![1, Wp, C]⟩)
    (g3 : (⟨4, ![1, A, Wp, C]⟩ : Shape).ShapeCasts ⟨3, ![A, Wp, C]⟩)
    (g4 : Shape.Concatenates [⟨3, ![1, Wp, C]⟩, ⟨3, ![A, Wp, C]⟩, ⟨3, ![1, Wp, C]⟩] ⟨3, ![A2, Wp, C]⟩ 0)
    (s : ∀ dy dx : Fin 3, (⟨3, ![A2, Wp, C]⟩ : Shape).Slices ![dy.val, dx.val, 0] ⟨3, ![A, W, C]⟩)
    (h1 : (⟨3, ![A, W, C]⟩ : Shape).ShapeCasts ⟨2, ![M, C]⟩) (h2 : (⟨3, ![1, C, O]⟩ : Shape).ShapeCasts ⟨2, ![C, O]⟩)
    (hs : (⟨2, ![1, O]⟩ : Shape).ShapeCasts ⟨2, ![1, O]⟩)
    (hb3 : (⟨2, ![1, O]⟩ : Shape).Broadcasts ⟨2, ![M, O]⟩) (h3 : (⟨2, ![M, O]⟩ : Shape).ShapeCasts ⟨3, ![A, W, O]⟩)
    (hl : (⟨3, ![A, W, O]⟩ : Shape).ShapeCasts ⟨4, ![1, A, W, O]⟩) {r c o : ℕ} (hr : r < A) (hc : c < W) (ho : o < O) :
    let full : FVec Ideal ⟨3, ![A2, Wp, C]⟩ .f32 := concatenate ⟨3, ![A2, Wp, C]⟩ 0
      [⟨⟨3, ![1, Wp, C]⟩, shapeCast ⟨3, ![1, Wp, C]⟩ (shapeCast ⟨2, ![Wp, C]⟩ top g1) g2⟩,
       ⟨⟨3, ![A, Wp, C]⟩, shapeCast ⟨3, ![A, Wp, C]⟩ mid g3⟩,
       ⟨⟨3, ![1, Wp, C]⟩, shapeCast ⟨3, ![1, Wp, C]⟩ (shapeCast ⟨2, ![Wp, C]⟩ bot g1) g2⟩] g4
    let tap (dy dx : Fin 3) (wv : FVec Ideal ⟨3, ![1, C, O]⟩ .f32) : FVec Ideal ⟨2, ![M, O]⟩ .f32 :=
      matmul (F := Ideal) (DotDims.plain M C O) none
        (shapeCast ⟨2, ![M, C]⟩ (extractStridedSlice ⟨3, ![A, W, C]⟩ ![dy.val, dx.val, 0] full (s dy dx)) h1)
        (shapeCast ⟨2, ![C, O]⟩ wv h2) (constant ⟨2, ![M, O]⟩ .f32 0x00000000#32)
    rd4 (shapeCast ⟨4, ![1, A, W, O]⟩ (shapeCast ⟨3, ![A, W, O]⟩ (maximumf (F := Ideal)
      (addf (addf (addf (addf (addf (addf (addf (addf (addf (addf
          (broadcast ⟨2, ![M, O]⟩ (Scalar.ofBits (F := Ideal) .f32 0x00000000#32))
          (tap 0 0 w0)) (tap 0 1 w1)) (tap 0 2 w2)) (tap 1 0 w3)) (tap 1 1 w4)) (tap 1 2 w5)) (tap 2 0 w6)) (tap 2 1 w7))
          (tap 2 2 w8)) (broadcastTo ⟨2, ![M, O]⟩ (shapeCast ⟨2, ![1, O]⟩ br hs) hb3))
      (broadcast ⟨2, ![M, O]⟩ (Scalar.ofBits (F := Ideal) .f32 0x00000000#32))) h3) hl) 0 r c o
      = convAt x w b n (base + r) c o := by
  intro full tap
  have hm : r * W + c < M := by subst hM; nlinarith
  have ht : ∀ (dy dx : Fin 3), rd2 (tap dy dx (![![w0, w1, w2], ![w3, w4, w5], ![w6, w7, w8]] dy dx)) (r * W + c) o
      = ∑ i : Fin C, rdp x n (base + r + dy) (c + dx) i * rd4 w o i dy dx := fun dy dx => by
    have hdy := dy.isLt
    have hdx := dx.isLt
    refine (tap_rd full _ _ rfl hM (s dy dx) h1 h2 hr hc ho).trans (Finset.sum_congr rfl fun i _ => ?_)
    rw [hw dy dx i o ho]
    refine congrArg (· * _) ?_
    show rd3 full (r + dy.val) (c + dx.val) i = _
    rw [full_rd top mid bot hA g1 g2 g3 g4 (by omega) (by omega) i.isLt, hF _ _ _ (by omega) (by omega) i.isLt,
      Nat.add_assoc]
  rw [taps_out _ br hM hs hb3 h3 hl hr hc ho, hb o ho, convAt, tapSum]
  refine congrArg (fun t => max (t + _) 0) ?_
  simp only [addf_rd2, Fin.sum_univ_three]
  have hz : rd2 (broadcast ⟨2, ![M, O]⟩ (Scalar.ofBits (F := Ideal) .f32 0x00000000#32) : FVec Ideal ⟨2, ![M, O]⟩ .f32) (r * W + c) o = 0 := by
    rw [rd2_in _ hm ho]; exact Ideal.ofBits_zero_f32
  rw [hz, zero_add]
  have t00 := ht 0 0
  have t01 := ht 0 1
  have t02 := ht 0 2
  have t10 := ht 1 0
  have t11 := ht 1 1
  have t12 := ht 1 2
  have t20 := ht 2 0
  have t21 := ht 2 1
  have t22 := ht 2 2
  simp only [Matrix.cons_val_zero, Matrix.cons_val_one, Matrix.cons_val_two, Matrix.cons_val, Matrix.head_cons, Matrix.tail_cons] at t00 t01 t02 t10 t11 t12 t20 t21 t22
  rw [t00, t01, t02, t10, t11, t12, t20, t21, t22]
  simp only [add_assoc]

end Block

/-- Row `k` of halo pair `ρ` is the bordered image's row above (`k = 0`) or below (`k = 1`) the block of `A` rows. -/
def IsHalo {N H W C R Wp : ℕ} (A : ℕ) (x : (⟨4, ![N, H, W, C]⟩ : Shape).Idx → EReal)
    (xb : (⟨5, ![N, R, 2, Wp, C]⟩ : Shape).Idx → EReal) : Prop :=
  ∀ n ρ k c i, n < N → ρ < R → k < 2 → c < Wp → i < C → rd5 xb n ρ k c i = rdp x n (ρ * A + k * (A + 1)) c i

section Load
variable {a b c d e a' b' c' d' e' : ℕ}

/-- A load through a unit rectangle of a rank-five block. -/
theorem ld_rd5 (x : FVec Ideal ⟨5, ![a, b, c, d, e]⟩ .f32) (off : Fin 5 → ℕ)
    (inb : ∀ k, off k + (![a', b', c', d', e'] : Fin 5 → ℕ) k ≤ (⟨5, ![a, b, c, d, e]⟩ : Shape).size k) {p q r s t : ℕ} (hp : p < a')
    (hq : q < b') (hr : r < c') (hs : s < d') (ht : t < e') :
    rd5 (View.ld (Val := Elt Ideal) (e' := .f32) x (Rect.unit (s := ⟨5, ![a, b, c, d, e]⟩) off ![a', b', c', d', e'] inb)
        : FVec Ideal ⟨5, ![a', b', c', d', e']⟩ .f32) p q r s t
      = rd5 x (off 0 + p) (off 1 + q) (off 2 + r) (off 3 + s) (off 4 + t) := by
  rw [rd5_in _ hp hq hr hs ht]
  exact eq_rd5 x _ (congrArg (off 0 + ·) (Nat.one_mul p)) (congrArg (off 1 + ·) (Nat.one_mul q)) (congrArg (off 2 + ·) (Nat.one_mul r)) (congrArg (off 3 + ·) (Nat.one_mul s)) (congrArg (off 4 + ·) (Nat.one_mul t))

/-- A load through a unit rectangle of a rank-three block. -/
theorem ld_rd3 (x : FVec Ideal ⟨3, ![a, b, c]⟩ .f32) (off : Fin 3 → ℕ)
    (inb : ∀ k, off k + (![a', b', c'] : Fin 3 → ℕ) k ≤ (⟨3, ![a, b, c]⟩ : Shape).size k) {p q r : ℕ} (hp : p < a')
    (hq : q < b') (hr : r < c') :
    rd3 (View.ld (Val := Elt Ideal) (e' := .f32) x (Rect.unit (s := ⟨3, ![a, b, c]⟩) off ![a', b', c'] inb)
        : FVec Ideal ⟨3, ![a', b', c']⟩ .f32) p q r = rd3 x (off 0 + p) (off 1 + q) (off 2 + r) := by
  rw [rd3_in _ hp hq hr]
  exact eq_rd3 x _ (congrArg (off 0 + ·) (Nat.one_mul p)) (congrArg (off 1 + ·) (Nat.one_mul q)) (congrArg (off 2 + ·) (Nat.one_mul r))

/-- A load through a unit rectangle of a rank-four block. -/
theorem ld_rd4 (x : FVec Ideal ⟨4, ![a, b, c, d]⟩ .f32) (off : Fin 4 → ℕ)
    (inb : ∀ k, off k + (![a', b', c', d'] : Fin 4 → ℕ) k ≤ (⟨4, ![a, b, c, d]⟩ : Shape).size k) {p q r s : ℕ} (hp : p < a')
    (hq : q < b') (hr : r < c') (hs : s < d') :
    rd4 (View.ld (Val := Elt Ideal) (e' := .f32) x (Rect.unit (s := ⟨4, ![a, b, c, d]⟩) off ![a', b', c', d'] inb)
        : FVec Ideal ⟨4, ![a', b', c', d']⟩ .f32) p q r s = rd4 x (off 0 + p) (off 1 + q) (off 2 + r) (off 3 + s) := by
  rw [rd4_in _ hp hq hr hs]
  exact eq_rd4 x _ (congrArg (off 0 + ·) (Nat.one_mul p)) (congrArg (off 1 + ·) (Nat.one_mul q)) (congrArg (off 2 + ·) (Nat.one_mul r)) (congrArg (off 3 + ·) (Nat.one_mul s))

/-- One halo row out of the two in a block. -/
theorem ld_halo (x : FVec Ideal ⟨5, ![1, 1, c, d, e]⟩ .f32) (k : ℕ)
    (inb : ∀ l, (![0, 0, k, 0, 0] : Fin 5 → ℕ) l + (![1, 1, 1, d, e] : Fin 5 → ℕ) l ≤ (⟨5, ![1, 1, c, d, e]⟩ : Shape).size l) {q i : ℕ}
    (hq : q < d) (hi : i < e) :
    rd5 (View.ld (Val := Elt Ideal) (e' := .f32) x (Rect.unit (s := ⟨5, ![1, 1, c, d, e]⟩) ![0, 0, k, 0, 0] ![1, 1, 1, d, e] inb)
        : FVec Ideal ⟨5, ![1, 1, 1, d, e]⟩ .f32) 0 0 0 q i = rd5 x 0 0 k q i := by
  rw [ld_rd5 _ _ _ Nat.one_pos Nat.one_pos Nat.one_pos hq hi]
  show rd5 x (0 + 0) (0 + 0) (k + 0) (0 + q) (0 + i) = _
  simp only [Nat.zero_add, Nat.add_zero]

/-- A block's inside columns, read from a padded image. -/
theorem ld_inside {N H W : ℕ} (x : (⟨4, ![N, H, W, d]⟩ : Shape).Idx → EReal) (v : FVec Ideal ⟨4, ![1, b, c, d]⟩ .f32)
    {n base : ℕ} (hW : c = W + 2) (hn : n < N) (hb : base + b ≤ H)
    (hv : ∀ r q i, r < b → q < c → i < d → rd4 v 0 r q i = rd4 (padW c x) n (base + r) q i)
    (inb : ∀ l, (![0, 0, 1, 0] : Fin 4 → ℕ) l + (![1, b, W, d] : Fin 4 → ℕ) l ≤ (⟨4, ![1, b, c, d]⟩ : Shape).size l) {r q i : ℕ}
    (hr : r < b) (hq : q < W) (hi : i < d) :
    rd4 (View.ld (Val := Elt Ideal) (e' := .f32) v (Rect.unit (s := ⟨4, ![1, b, c, d]⟩) ![0, 0, 1, 0] ![1, b, W, d] inb)
        : FVec Ideal ⟨4, ![1, b, W, d]⟩ .f32) 0 r q i = rd4 x n (base + r) q i := by
  rw [ld_rd4 _ _ _ Nat.one_pos hr hq hi]
  show rd4 v (0 + 0) (0 + r) (1 + q) (0 + i) = _
  rw [Nat.zero_add, Nat.zero_add, Nat.zero_add, hv _ _ _ hr (by omega) hi, rd4_padW x hn (by omega) (by omega) hi, rdp,
    if_pos (by omega), Nat.add_sub_cancel, Nat.add_sub_cancel_left]

/-- One tap's matrix out of the nine. -/
theorem ld_slab (x : FVec Ideal ⟨3, ![a, b, c]⟩ .f32) (k : ℕ)
    (inb : ∀ l, (![k, 0, 0] : Fin 3 → ℕ) l + (![1, b, c] : Fin 3 → ℕ) l ≤ (⟨3, ![a, b, c]⟩ : Shape).size l) {i o : ℕ} (hi : i < b)
    (ho : o < c) :
    rd3 (View.ld (Val := Elt Ideal) (e' := .f32) x (Rect.unit (s := ⟨3, ![a, b, c]⟩) ![k, 0, 0] ![1, b, c] inb)
        : FVec Ideal ⟨3, ![1, b, c]⟩ .f32) 0 i o = rd3 x k i o := by
  rw [ld_rd3 _ _ _ Nat.one_pos hi ho]
  show rd3 x (k + 0) (0 + i) (0 + o) = _
  simp only [Nat.zero_add, Nat.add_zero]

/-- The nine matrices of a tap-by-tap body, as its loads read them. -/
theorem slabs (x : FVec Ideal ⟨3, ![9, b, c]⟩ .f32) (w : (⟨4, ![c, b, 3, 3]⟩ : Shape).Idx → EReal)
    (hw : ∀ (dy dx : Fin 3) (i : Fin b) o, o < c → rd3 x (dy * 3 + dx) i o = rd4 w o i dy dx)
    (inb : ∀ k : Fin 9, ∀ l, (![k.val, 0, 0] : Fin 3 → ℕ) l + (![1, b, c] : Fin 3 → ℕ) l ≤ (⟨3, ![9, b, c]⟩ : Shape).size l)
    (dy dx : Fin 3) (i : Fin b) (o : ℕ) (ho : o < c) :
    let ld (k : Fin 9) : FVec Ideal ⟨3, ![1, b, c]⟩ .f32 :=
      View.ld (Val := Elt Ideal) (e' := .f32) x (Rect.unit (s := ⟨3, ![9, b, c]⟩) ![k.val, 0, 0] ![1, b, c] (inb k))
    rd3 (![![ld 0, ld 1, ld 2], ![ld 3, ld 4, ld 5], ![ld 6, ld 7, ld 8]] dy dx) 0 i o = rd4 w o i dy dx := by
  intro ld
  have h : ∀ k : Fin 9, rd3 (ld k) 0 i o = rd3 x k.val i o := fun k => ld_slab x k.val (inb k) i.isLt ho
  rw [← hw dy dx i o ho]
  match dy, dx with
  | 0, 0 => exact h 0
  | 0, 1 => exact h 1
  | 0, 2 => exact h 2
  | 1, 0 => exact h 3
  | 1, 1 => exact h 4
  | 1, 2 => exact h 5
  | 2, 0 => exact h 6
  | 2, 1 => exact h 7
  | 2, 2 => exact h 8

/-- The nine matrices fit their array. -/
theorem slab_inb (k : Fin 9) (l : Fin 3) : (![k.val, 0, 0] : Fin 3 → ℕ) l + (![1, b, c] : Fin 3 → ℕ) l ≤ (⟨3, ![9, b, c]⟩ : Shape).size l := by
  have := k.isLt
  match l with
  | 0 => show k.val + 1 ≤ 9; omega
  | 1 => exact (Nat.zero_add b).le
  | 2 => exact (Nat.zero_add c).le

/-- The windows fit the rows with their neighbours. -/
theorem tap_slices (hA : d = a + 2) (hW : e = b + 2) (dy dx : Fin 3) :
    (⟨3, ![d, e, c]⟩ : Shape).Slices ![dy.val, dx.val, 0] ⟨3, ![a, b, c]⟩ := by
  have := dy.isLt
  have := dx.isLt
  refine ⟨rfl, fun l => ?_⟩
  match l with
  | 0 => show dy.val + a ≤ d; omega
  | 1 => show dx.val + b ≤ e; omega
  | 2 => exact (Nat.zero_add c).le

end Load

end Cert.Vgg

end
-- ==== Proof.Prep.lean ====
module
public import proofs.«01_k».proof.Proof.Layer
@[expose] public section
open Idealize.ShloMosaic
namespace Cert.Vgg
/-! What the host code prepares for a layer: the rows around each block, the weights laid out for the products, the bias as a row. -/

variable {N H W C R R1 A B Wp O P Q : ℕ}

/-- Two arrays one after the other along the rows. -/
theorem cat_rows (x : (⟨4, ![N, R, W, C]⟩ : Shape).Idx → EReal) (y : (⟨4, ![N, R1, W, C]⟩ : Shape).Idx → EReal)
    (h : Shape.Concatenates [⟨4, ![N, R, W, C]⟩, ⟨4, ![N, R1, W, C]⟩] ⟨4, ![N, P, W, C]⟩ 1) (hP : P = R + R1) {n p q i : ℕ} (hn : n < N)
    (hp : p < P) (hq : q < W) (hi : i < C) :
    rd4 (concatenate ⟨4, ![N, P, W, C]⟩ 1 [⟨⟨4, ![N, R, W, C]⟩, x⟩, ⟨⟨4, ![N, R1, W, C]⟩, y⟩] h) n p q i
      = if p < R then rd4 x n p q i else rd4 y n (p - R) q i := by
  rw [rd4_in _ hn hp hq hi]
  refine (concatenate_cons_apply _ _ ⟨_, x⟩ ⟨_, y⟩ [] h _).trans ((concatenateAt_cons _ _ _ _ _ _ _ _).trans ?_)
  by_cases h1 : p < R
  · rw [if_pos h1]
    exact (dif_pos h1).trans (eq_rd4 _ _ rfl rfl rfl rfl)
  · rw [if_neg h1]
    exact (dif_neg h1).trans ((concatenateAt_singleton _ _ _ _ _ _).trans (eq_rd4 _ _ rfl rfl rfl rfl))

/-- Two rows stacked into a pair. -/
theorem cat_pair (x y : (⟨5, ![N, R, 1, W, C]⟩ : Shape).Idx → EReal)
    (h : Shape.Concatenates [⟨5, ![N, R, 1, W, C]⟩, ⟨5, ![N, R, 1, W, C]⟩] ⟨5, ![N, R, 2, W, C]⟩ 2) {n p k q i : ℕ} (hn : n < N)
    (hp : p < R) (hk : k < 2) (hq : q < W) (hi : i < C) :
    rd5 (concatenate ⟨5, ![N, R, 2, W, C]⟩ 2 [⟨⟨5, ![N, R, 1, W, C]⟩, x⟩, ⟨⟨5, ![N, R, 1, W, C]⟩, y⟩] h) n p k q i
      = if k = 0 then rd5 x n p 0 q i else rd5 y n p 0 q i := by
  rw [rd5_in _ hn hp hk hq hi]
  refine (concatenate_cons_apply _ _ ⟨_, x⟩ ⟨_, y⟩ [] h _).trans ((concatenateAt_cons _ _ _ _ _ _ _ _).trans ?_)
  by_cases h1 : k < 1
  · rw [if_pos (by omega)]
    exact (dif_pos h1).trans (eq_rd5 _ _ rfl rfl (show k = 0 by omega) rfl rfl)
  · rw [if_neg (by omega)]
    exact (dif_neg h1).trans ((concatenateAt_singleton _ _ _ _ _ _).trans (eq_rd5 _ _ rfl rfl (show k - 1 = 0 by omega) rfl rfl))

/-- A new axis of size one before the columns. -/
theorem lift_row (x : (⟨4, ![N, R, W, C]⟩ : Shape).Idx → EReal)
    (h : (⟨4, ![N, R, W, C]⟩ : Shape).BroadcastsInDim ⟨5, ![N, R, 1, W, C]⟩ ![0, 1, 3, 4]) {n p q i : ℕ} (hn : n < N) (hp : p < R)
    (hq : q < W) (hi : i < C) :
    rd5 (broadcastInDim ⟨5, ![N, R, 1, W, C]⟩ ![0, 1, 3, 4] h x) n p 0 q i = rd4 x n p q i := by
  rw [rd5_in _ hn hp Nat.one_pos hq hi, rd4_in _ hn hp hq hi]
  refine broadcastInDim_apply _ h x _ _ fun a => ?_
  match a with
  | ⟨0, _⟩ => show n = if N = 1 then 0 else n; split <;> omega
  | ⟨1, _⟩ => show p = if R = 1 then 0 else p; split <;> omega
  | ⟨2, _⟩ => show q = if W = 1 then 0 else q; split <;> omega
  | ⟨3, _⟩ => show i = if C = 1 then 0 else i; split <;> omega

/-- The zeros the border is made of. -/
theorem zero_rd4 (h : (⟨0, ![]⟩ : Shape).BroadcastsInDim ⟨4, ![N, R, W, C]⟩ ![]) (n p q i : ℕ) :
    rd4 (broadcastInDim ⟨4, ![N, R, W, C]⟩ ![] h (constant (F := Ideal) ⟨0, ![]⟩ .f32 0x00000000#32)) n p q i = 0 := by
  unfold rd4
  split
  · exact (broadcastInDim_apply _ h _ _ ix0 fun a => a.elim0).trans Ideal.ofBits_zero_f32
  · rfl

/-- The rows above and below every block, from the image between its columns of zeros. -/
theorem halo_array (x : (⟨4, ![N, H, W, C]⟩ : Shape).Idx → EReal) (xp : FVec Ideal ⟨4, ![N, H, Wp, C]⟩ .f32) (hx : xp = padW Wp x)
    (hB : A = B + 1) (hR : R = R1 + 1) (hH : H = R * A)
    (h0 : (⟨0, ![]⟩ : Shape).BroadcastsInDim ⟨4, ![N, 1, Wp, C]⟩ ![])
    (s1 : (⟨4, ![N, H, Wp, C]⟩ : Shape).SlicesBy ![0, B, 0, 0] ![1, A, 1, 1] ⟨4, ![N, R1, Wp, C]⟩)
    (s2 : (⟨4, ![N, H, Wp, C]⟩ : Shape).SlicesBy ![0, A, 0, 0] ![1, A, 1, 1] ⟨4, ![N, R1, Wp, C]⟩)
    (c1 : Shape.Concatenates [⟨4, ![N, 1, Wp, C]⟩, ⟨4, ![N, R1, Wp, C]⟩] ⟨4, ![N, R, Wp, C]⟩ 1)
    (c2 : Shape.Concatenates [⟨4, ![N, R1, Wp, C]⟩, ⟨4, ![N, 1, Wp, C]⟩] ⟨4, ![N, R, Wp, C]⟩ 1)
    (b1 b2 : (⟨4, ![N, R, Wp, C]⟩ : Shape).BroadcastsInDim ⟨5, ![N, R, 1, Wp, C]⟩ ![0, 1, 3, 4])
    (c3 : Shape.Concatenates [⟨5, ![N, R, 1, Wp, C]⟩, ⟨5, ![N, R, 1, Wp, C]⟩] ⟨5, ![N, R, 2, Wp, C]⟩ 2) :
    IsHalo A x (concatenate ⟨5, ![N, R, 2, Wp, C]⟩ 2
      [⟨⟨5, ![N, R, 1, Wp, C]⟩, broadcastInDim ⟨5, ![N, R, 1, Wp, C]⟩ ![0, 1, 3, 4] b1 (concatenate ⟨4, ![N, R, Wp, C]⟩ 1
        [⟨⟨4, ![N, 1, Wp, C]⟩, broadcastInDim ⟨4, ![N, 1, Wp, C]⟩ ![] h0 (constant (F := Ideal) ⟨0, ![]⟩ .f32 0x00000000#32)⟩,
         ⟨⟨4, ![N, R1, Wp, C]⟩, Host.slice ⟨4, ![N, R1, Wp, C]⟩ ![0, B, 0, 0] ![1, A, 1, 1] xp s1⟩] c1)⟩,
       ⟨⟨5, ![N, R, 1, Wp, C]⟩, broadcastInDim ⟨5, ![N, R, 1, Wp, C]⟩ ![0, 1, 3, 4] b2 (concatenate ⟨4, ![N, R, Wp, C]⟩ 1
        [⟨⟨4, ![N, R1, Wp, C]⟩, Host.slice ⟨4, ![N, R1, Wp, C]⟩ ![0, A, 0, 0] ![1, A, 1, 1] xp s2⟩,
         ⟨⟨4, ![N, 1, Wp, C]⟩, broadcastInDim ⟨4, ![N, 1, Wp, C]⟩ ![] h0 (constant (F := Ideal) ⟨0, ![]⟩ .f32 0x00000000#32)⟩] c2)⟩] c3) := by
  intro n ρ k q i hn hρ hk hq hi
  rw [cat_pair _ _ c3 hn hρ hk hq hi, lift_row _ b1 hn hρ hq hi, lift_row _ b2 hn hρ hq hi, cat_rows _ _ c1 (by omega) hn hρ hq hi,
    cat_rows _ _ c2 (by omega) hn hρ hq hi, zero_rd4, zero_rd4]
  have hl : ∀ p, p < R1 → A * p + A < H := fun p hp => by
    have h2 := Nat.mul_le_mul_right A (show p + 2 ≤ R by omega)
    rw [Nat.add_mul, Nat.mul_comm p A] at h2
    omega
  split
  · next hk0 =>
    subst hk0
    rw [Nat.zero_mul, Nat.add_zero]
    split
    · next h => rw [show ρ = 0 by omega, Nat.zero_mul, rdp_above]
    · next h =>
      have hp : ρ - 1 < R1 := by omega
      rw [hslice4 _ _ _ s1 hn hp hq hi]
      show rd4 xp (0 + 1 * n) (B + A * (ρ - 1)) (0 + 1 * q) (0 + 1 * i) = _
      have := hl _ hp
      have e : ρ * A = A * (ρ - 1) + A := by
        rw [show ρ = (ρ - 1) + 1 by omega, Nat.add_mul, Nat.mul_comm A, Nat.add_sub_cancel, Nat.one_mul]
      simp only [Nat.zero_add, Nat.one_mul]
      rw [hx, rd4_padW x hn (by omega) hq hi]
      congr 1; omega
  · next hk0 =>
    obtain rfl : k = 1 := by omega
    rw [Nat.one_mul]
    split
    · next h =>
      rw [hslice4 _ _ _ s2 hn h hq hi]
      show rd4 xp (0 + 1 * n) (A + A * ρ) (0 + 1 * q) (0 + 1 * i) = _
      have := hl _ h
      simp only [Nat.zero_add, Nat.one_mul]
      rw [hx, rd4_padW x hn (by omega) hq hi, Nat.mul_comm A ρ]
      congr 1; omega
    · next h =>
      rw [rdp_below x (by rw [hH, show R = ρ + 1 by omega, Nat.add_mul]; omega)]

/-- With one block to an image the rows around it are zeros. -/
theorem halo_zeros (x : (⟨4, ![N, A, W, C]⟩ : Shape).Idx → EReal)
    (h0 : (⟨0, ![]⟩ : Shape).BroadcastsInDim ⟨4, ![N, 1, Wp, C]⟩ ![])
    (b1 b2 : (⟨4, ![N, 1, Wp, C]⟩ : Shape).BroadcastsInDim ⟨5, ![N, 1, 1, Wp, C]⟩ ![0, 1, 3, 4])
    (c3 : Shape.Concatenates [⟨5, ![N, 1, 1, Wp, C]⟩, ⟨5, ![N, 1, 1, Wp, C]⟩] ⟨5, ![N, 1, 2, Wp, C]⟩ 2) :
    IsHalo A x (concatenate ⟨5, ![N, 1, 2, Wp, C]⟩ 2
      [⟨⟨5, ![N, 1, 1, Wp, C]⟩, broadcastInDim ⟨5, ![N, 1, 1, Wp, C]⟩ ![0, 1, 3, 4] b1
         (broadcastInDim ⟨4, ![N, 1, Wp, C]⟩ ![] h0 (constant (F := Ideal) ⟨0, ![]⟩ .f32 0x00000000#32))⟩,
       ⟨⟨5, ![N, 1, 1, Wp, C]⟩, broadcastInDim ⟨5, ![N, 1, 1, Wp, C]⟩ ![0, 1, 3, 4] b2
         (broadcastInDim ⟨4, ![N, 1, Wp, C]⟩ ![] h0 (constant (F := Ideal) ⟨0, ![]⟩ .f32 0x00000000#32))⟩] c3) := by
  intro n ρ k q i hn hρ hk hq hi
  rw [cat_pair _ _ c3 hn hρ hk hq hi, lift_row _ b1 hn hρ hq hi, zero_rd4]
  obtain rfl : ρ = 0 := by omega
  split
  · next hk0 => rw [hk0, Nat.zero_mul, Nat.zero_mul, rdp_above]
  · rw [show k = 1 by omega, rdp_below x (by omega)]

/-- The weights as one matrix: row and input channel down, column and output channel across. -/
theorem packed_weights (w : (⟨4, ![O, C, 3, 3]⟩ : Shape).Idx → EReal) (hP : P = 3 * C) (hQ : Q = 3 * O)
    (ht : (⟨4, ![O, C, 3, 3]⟩ : Shape).Transposes [2, 1, 3, 0] ⟨4, ![3, C, 3, O]⟩)
    (hs : (⟨4, ![3, C, 3, O]⟩ : Shape).ShapeCasts ⟨2, ![P, Q]⟩) (dy dx : Fin 3) (i : Fin C) (o : ℕ) (ho : o < O) :
    rd2 (shapeCast ⟨2, ![P, Q]⟩ (transpose ⟨4, ![3, C, 3, O]⟩ [2, 1, 3, 0] w ht) hs) (dy * C + i) (dx * O + o) = rd4 w o i dy dx := by
  have hi := i.isLt
  have hy := dy.isLt
  have hx := dx.isLt
  have h1 : dy.val * C + i.val < P := by subst hP; nlinarith
  have h2 : dx.val * O + o < Q := by subst hQ; nlinarith
  rw [rd2_in _ h1 h2, rd4_in _ ho hi hy hx]
  refine (shapeCast_apply _ hs _ (ix4 dy i dx ⟨o, ho⟩) ?_).trans (transpose_apply _ w ht _ _ fun b => ?_)
  · rw [Shape.rowMajor_val_two, Shape.rowMajor_val_four]
    subst hQ
    show ((dy.val * C + i.val) * 3 + dx.val) * O + o = (dy.val * C + i.val) * (3 * O) + (dx.val * O + o)
    ring
  · match b with
    | ⟨0, _⟩ => rfl
    | ⟨1, _⟩ => rfl
    | ⟨2, _⟩ => rfl
    | ⟨3, _⟩ => rfl

/-- The weights as nine matrices, input channel down and output channel across. -/
theorem slab_weights (w : (⟨4, ![O, C, 3, 3]⟩ : Shape).Idx → EReal)
    (ht : (⟨4, ![O, C, 3, 3]⟩ : Shape).Transposes [2, 3, 1, 0] ⟨4, ![3, 3, C, O]⟩)
    (hs : (⟨4, ![3, 3, C, O]⟩ : Shape).ShapeCasts ⟨3, ![9, C, O]⟩) (dy dx : Fin 3) (i : Fin C) (o : ℕ) (ho : o < O) :
    rd3 (shapeCast ⟨3, ![9, C, O]⟩ (transpose ⟨4, ![3, 3, C, O]⟩ [2, 3, 1, 0] w ht) hs) (dy * 3 + dx) i o = rd4 w o i dy dx := by
  have hi := i.isLt
  have hy := dy.isLt
  have hx := dx.isLt
  have h1 : dy.val * 3 + dx.val < 9 := by omega
  rw [rd3_in _ h1 hi ho, rd4_in _ ho hi hy hx]
  refine (shapeCast_apply _ hs _ (ix4 dy dx i ⟨o, ho⟩) ?_).trans (transpose_apply _ w ht _ _ fun b => ?_)
  · rw [Shape.rowMajor_val_three, Shape.rowMajor_val_four]
    rfl
  · match b with
    | ⟨0, _⟩ => rfl
    | ⟨1, _⟩ => rfl
    | ⟨2, _⟩ => rfl
    | ⟨3, _⟩ => rfl

end Cert.Vgg
end
-- ==== Proof.Host.lean ====
module
public import proofs.«01_k».proof.Proof.Gen.KernelIdeal.Launch
public import proofs.«01_k».proof.Proof.Prep
@[expose] public section
set_option maxRecDepth 16384
open Idealize.ShloMosaic Idealize.ShloMosaic.TcCoe Idealize.SL.Sem
namespace Cert.KernelIdeal.Value
open Cert.KernelIdeal Cert.KernelIdeal.Gen Cert.Vgg
/-! What each layer's host code leaves for its call, from any contents `U` before it that hold the padded image, the weights and the bias. -/

variable (U : Valuation τ sig (Elt Ideal))

theorem prep0 (X : FVec Ideal ⟨4, ![12, 224, 224, 3]⟩ .f32) (w : FVec Ideal S64x3x3x3 .f32) (b : FVec Ideal S64 .f32)
    (hx : U (Proc.devRef .tc main_v1) = padW 226 X) (hw : U (Proc.devRef .tc main_arg1) = w) (hb : U (Proc.devRef .tc main_arg2) = b) :
    IsHalo (R := 7) (Wp := 226) 32 X (StableHlo.after (hostOps0_2 (F := Ideal)) U (Proc.devRef .tc main_v11))
    ∧ (∀ (dy dx : Fin 3) (i : Fin 3) o, o < 64 → rd2 (StableHlo.after (hostOps0_2 (F := Ideal)) U (Proc.devRef .tc main_v3)) (dy * 3 + i) (dx * 64 + o) = rd4 w o i dy dx)
    ∧ ∀ o, o < 64 → rd2 (StableHlo.after (hostOps0_2 (F := Ideal)) U (Proc.devRef .tc main_v12)) 0 o = rd1 b o := by
  subst hw hb
  refine ⟨?_, fun dy dx i o ho => ?_, fun o ho => ?_⟩ <;> after_results
  · exact halo_array X _ hx rfl rfl rfl _ _ _ _ _ _ _ _
  · exact packed_weights _ rfl rfl _ _ dy dx i o ho
  · exact cast_vec _ _ ho

theorem prep1 (X : FVec Ideal ⟨4, ![12, 224, 224, 64]⟩ .f32) (w : FVec Ideal S64x64x3x3 .f32) (b : FVec Ideal S64 .f32)
    (hx : U (Proc.devRef .tc main_v13) = padW 226 X) (hw : U (Proc.devRef .tc main_arg3) = w) (hb : U (Proc.devRef .tc main_arg4) = b) :
    IsHalo (R := 7) (Wp := 226) 32 X (StableHlo.after (hostOps1 (F := Ideal)) U (Proc.devRef .tc main_v23))
    ∧ (∀ (dy dx : Fin 3) (i : Fin 64) o, o < 64 → rd2 (StableHlo.after (hostOps1 (F := Ideal)) U (Proc.devRef .tc main_v15)) (dy * 64 + i) (dx * 64 + o) = rd4 w o i dy dx)
    ∧ ∀ o, o < 64 → rd2 (StableHlo.after (hostOps1 (F := Ideal)) U (Proc.devRef .tc main_v24)) 0 o = rd1 b o := by
  subst hw hb
  refine ⟨?_, fun dy dx i o ho => ?_, fun o ho => ?_⟩ <;> after_results
  · exact halo_array X _ hx rfl rfl rfl _ _ _ _ _ _ _ _
  · exact packed_weights _ rfl rfl _ _ dy dx i o ho
  · exact cast_vec _ _ ho

theorem prep3 (X : FVec Ideal ⟨4, ![12, 112, 112, 64]⟩ .f32) (w : FVec Ideal S128x64x3x3 .f32) (b : FVec Ideal S128 .f32)
    (hx : U (Proc.devRef .tc main_v26) = padW 114 X) (hw : U (Proc.devRef .tc main_arg5) = w) (hb : U (Proc.devRef .tc main_arg6) = b) :
    IsHalo (R := 2) (Wp := 114) 56 X (StableHlo.after (hostOps3 (F := Ideal)) U (Proc.devRef .tc main_v36))
    ∧ (∀ (dy dx : Fin 3) (i : Fin 64) o, o < 128 → rd2 (StableHlo.after (hostOps3 (F := Ideal)) U (Proc.devRef .tc main_v28)) (dy * 64 + i) (dx * 128 + o) = rd4 w o i dy dx)
    ∧ ∀ o, o < 128 → rd2 (StableHlo.after (hostOps3 (F := Ideal)) U (Proc.devRef .tc main_v37)) 0 o = rd1 b o := by
  subst hw hb
  refine ⟨?_, fun dy dx i o ho => ?_, fun o ho => ?_⟩ <;> after_results
  · exact halo_array X _ hx rfl rfl rfl _ _ _ _ _ _ _ _
  · exact packed_weights _ rfl rfl _ _ dy dx i o ho
  · exact cast_vec _ _ ho

theorem prep4 (X : FVec Ideal ⟨4, ![12, 112, 112, 128]⟩ .f32) (w : FVec Ideal S128x128x3x3 .f32) (b : FVec Ideal S128 .f32)
    (hx : U (Proc.devRef .tc main_v38) = padW 114 X) (hw : U (Proc.devRef .tc main_arg7) = w) (hb : U (Proc.devRef .tc main_arg8) = b) :
    IsHalo (R := 2) (Wp := 114) 56 X (StableHlo.after (hostOps4 (F := Ideal)) U (Proc.devRef .tc main_v48))
    ∧ (∀ (dy dx : Fin 3) (i : Fin 128) o, o < 128 → rd2 (StableHlo.after (hostOps4 (F := Ideal)) U (Proc.devRef .tc main_v40)) (dy * 128 + i) (dx * 128 + o) = rd4 w o i dy dx)
    ∧ ∀ o, o < 128 → rd2 (StableHlo.after (hostOps4 (F := Ideal)) U (Proc.devRef .tc main_v49)) 0 o = rd1 b o := by
  subst hw hb
  refine ⟨?_, fun dy dx i o ho => ?_, fun o ho => ?_⟩ <;> after_results
  · exact halo_array X _ hx rfl rfl rfl _ _ _ _ _ _ _ _
  · exact packed_weights _ rfl rfl _ _ dy dx i o ho
  · exact cast_vec _ _ ho

theorem prep6 (X : FVec Ideal ⟨4, ![12, 56, 56, 128]⟩ .f32) (w : FVec Ideal S256x128x3x3 .f32) (b : FVec Ideal S256 .f32)
    (hx : U (Proc.devRef .tc main_v51) = padW 58 X) (hw : U (Proc.devRef .tc main_arg9) = w) (hb : U (Proc.devRef .tc main_arg10) = b) :
    IsHalo (R := 2) (Wp := 58) 28 X (StableHlo.after (hostOps6 (F := Ideal)) U (Proc.devRef .tc main_v61))
    ∧ (∀ (dy dx : Fin 3) (i : Fin 128) o, o < 256 → rd3 (StableHlo.after (hostOps6 (F := Ideal)) U (Proc.devRef .tc main_v53)) (dy * 3 + dx) i o = rd4 w o i dy dx)
    ∧ ∀ o, o < 256 → rd2 (StableHlo.after (hostOps6 (F := Ideal)) U (Proc.devRef .tc main_v62)) 0 o = rd1 b o := by
  subst hw hb
  refine ⟨?_, fun dy dx i o ho => ?_, fun o ho => ?_⟩ <;> after_results
  · exact halo_array X _ hx rfl rfl rfl _ _ _ _ _ _ _ _
  · exact slab_weights _ _ _ dy dx i o ho
  · exact cast_vec _ _ ho

theorem prep7 (X : FVec Ideal ⟨4, ![12, 56, 56, 256]⟩ .f32) (w : FVec Ideal S256x256x3x3 .f32) (b : FVec Ideal S256 .f32)
    (hx : U (Proc.devRef .tc main_v63) = padW 58 X) (hw : U (Proc.devRef .tc main_arg11) = w) (hb : U (Proc.devRef .tc main_arg12) = b) :
    IsHalo (R := 2) (Wp := 58) 28 X (StableHlo.after (hostOps7 (F := Ideal)) U (Proc.devRef .tc main_v73))
    ∧ (∀ (dy dx : Fin 3) (i : Fin 256) o, o < 256 → rd3 (StableHlo.after (hostOps7 (F := Ideal)) U (Proc.devRef .tc main_v65)) (dy * 3 + dx) i o = rd4 w o i dy dx)
    ∧ ∀ o, o < 256 → rd2 (StableHlo.after (hostOps7 (F := Ideal)) U (Proc.devRef .tc main_v74)) 0 o = rd1 b o := by
  subst hw hb
  refine ⟨?_, fun dy dx i o ho => ?_, fun o ho => ?_⟩ <;> after_results
  · exact halo_array X _ hx rfl rfl rfl _ _ _ _ _ _ _ _
  · exact slab_weights _ _ _ dy dx i o ho
  · exact cast_vec _ _ ho

theorem prep8 (X : FVec Ideal ⟨4, ![12, 56, 56, 256]⟩ .f32) (w : FVec Ideal S256x256x3x3 .f32) (b : FVec Ideal S256 .f32)
    (hx : U (Proc.devRef .tc main_v75) = padW 58 X) (hw : U (Proc.devRef .tc main_arg13) = w) (hb : U (Proc.devRef .tc main_arg14) = b) :
    IsHalo (R := 2) (Wp := 58) 28 X (StableHlo.after (hostOps8 (F := Ideal)) U (Proc.devRef .tc main_v85))
    ∧ (∀ (dy dx : Fin 3) (i : Fin 256) o, o < 256 → rd3 (StableHlo.after (hostOps8 (F := Ideal)) U (Proc.devRef .tc main_v77)) (dy * 3 + dx) i o = rd4 w o i dy dx)
    ∧ ∀ o, o < 256 → rd2 (StableHlo.after (hostOps8 (F := Ideal)) U (Proc.devRef .tc main_v86)) 0 o = rd1 b o := by
  subst hw hb
  refine ⟨?_, fun dy dx i o ho => ?_, fun o ho => ?_⟩ <;> after_results
  · exact halo_array X _ hx rfl rfl rfl _ _ _ _ _ _ _ _
  · exact slab_weights _ _ _ dy dx i o ho
  · exact cast_vec _ _ ho

end Cert.KernelIdeal.Value
end
-- ==== Proof.Packed.lean ====
module
public import proofs.«01_k».proof.Proof.Gen.KernelIdeal.Frame.Region0
public import proofs.«01_k».proof.Proof.Gen.KernelIdeal.Frame.Region1
public import proofs.«01_k».proof.Proof.Gen.KernelIdeal.Frame.Region3
public import proofs.«01_k».proof.Proof.Gen.KernelIdeal.Frame.Region4
public import proofs.«01_k».proof.Proof.Layer
@[expose] public section
set_option maxRecDepth 16384
open Idealize.ShloMosaic Idealize.ShloMosaic.TcCoe Idealize.SL.Sem
open Idealize.ShloMosaic.Pipeline (Dat)
namespace Cert.KernelIdeal.Value
open Cert.KernelIdeal Cert.KernelIdeal.Gen Cert.Vgg
/-! The four layers whose body takes each row's three taps in one product: each leaves its feature map between two columns of zeros. -/

variable (V : (c : Dev nD) → (b : Ref sig .tc) → (Proc.devRef .tc b : DevRef τ sig).ty.Contents (Elt Ideal))

/-! ## The first layer -/

theorem idx0 : ∀ t : Fin cfg0.N, win0_0.index t = ![t.val / 7, t.val % 7, 0, 0] ∧ win0_1.index t = ![t.val / 7, t.val % 7, 0, 0, 0]
    ∧ win0_2.index t = ![0, 0] ∧ win0_3.index t = ![0, 0] ∧ win0_4.index t = ![t.val / 7, t.val % 7, 0, 0] :=
  (by decide +kernel : ∀ t : Fin grid0.N, _)

theorem in0_0 (c : Dev nD) (t : Fin cfg0.N) {r q i : ℕ} (hr : r < 32) (hq : q < 226) (hi : i < 3) :
    rd4 (iblk0 V c 0 t) 0 r q i = rd4 (V c main_v1) (t.val / 7) (t.val % 7 * 32 + r) q i := by
  rw [rd4_in _ Nat.one_pos hr hq hi]
  blk_simp [iblk0]
  refine eq_rd4 _ _ ?_ ?_ ?_ ?_ <;> blk_simp [idx0 t] <;> rfl

theorem in0_1 (c : Dev nD) (t : Fin cfg0.N) {k q i : ℕ} (hk : k < 2) (hq : q < 226) (hi : i < 3) :
    rd5 (iblk0 V c 1 t) 0 0 k q i = rd5 (V c main_v11) (t.val / 7) (t.val % 7) k q i := by
  rw [rd5_in _ Nat.one_pos Nat.one_pos hk hq hi]
  blk_simp [iblk0]
  refine eq_rd5 _ _ ?_ ?_ ?_ ?_ ?_ <;> blk_simp [idx0 t] <;> rfl

theorem in0_2 (c : Dev nD) (t : Fin cfg0.N) : iblk0 V c 2 t = V c main_v3 := by
  funext z; blk_simp [iblk0]; exact congrArg (V c main_v3) (by blk_ext [idx0 t])

theorem in0_3 (c : Dev nD) (t : Fin cfg0.N) : iblk0 V c 3 t = V c main_v12 := by
  funext z; blk_simp [iblk0]; exact congrArg (V c main_v12) (by blk_ext [idx0 t])

theorem fin0 (c : Dev nD) (X : FVec Ideal ⟨4, ![12, 224, 224, 3]⟩ .f32) (w : FVec Ideal S64x3x3x3 .f32) (b : FVec Ideal S64 .f32)
    (hx : V c main_v1 = padW 226 X) (hh : IsHalo (R := 7) (Wp := 226) 32 X (V c main_v11))
    (hw : ∀ (dy dx : Fin 3) (i : Fin 3) o, o < 64 → rd2 (V c main_v3) (dy * 3 + i) (dx * 64 + o) = rd4 w o i dy dx)
    (hb : ∀ o, o < 64 → rd2 (V c main_v12) 0 o = rd1 b o) : (dat0 (F := Ideal) V c).arrAt 4 cfg0.N = padW 226 (conv X w b) := by
  refine (dat0 V c).arrAt_eq_of_covers 4 _ (by decide +kernel) fun t _ y => ?_
  have ht : t.val < 84 := t.isLt
  have hn : t.val / 7 < 12 := by omega
  have hρ : t.val % 7 < 7 := by omega
  blk_simp
  rw [after0_4]; unfold outsAt0; frame_out
  refine padded_block (n := t.val / 7) (base := t.val % 7 * 32) (conv X w b) y _ rfl rfl _ _ _ _ _ _ (fun _ => Ideal.ofBits_zero_f32)
    (fun _ => Ideal.ofBits_zero_f32) (fun r q o hr hq ho => ?_) (by blk_simp [idx0 t]) (by blk_simp [idx0 t]) (by blk_simp [idx0 t])
    (by blk_simp [idx0 t])
  rw [rd4_conv _ _ _ hn (by omega) hq ho, in0_2, in0_3]
  exact packed_block X w b rfl rfl rfl rfl rfl rfl rfl _ _ _ _ _ (fun r q i hr hq hi =>
    halo_block X (V c main_v1) (V c main_v11) _ _ _ hn hρ rfl hx hh
      (fun q i hq hi => (ld_halo _ _ _ hq hi).trans (in0_1 V c t Nat.two_pos hq hi)) (fun r q i hr hq hi => in0_0 V c t hr hq hi)
      (fun q i hq hi => (ld_halo _ _ _ hq hi).trans (in0_1 V c t Nat.one_lt_two hq hi)) hr hq hi)
    hw hb _ _ _ _ _ _ _ _ _ _ _ _ _ _ _ _ _ _ hr hq ho

/-! ## The second layer -/

theorem idx1 : ∀ t : Fin cfg1.N, win1_0.index t = ![t.val / 7, t.val % 7, 0, 0] ∧ win1_1.index t = ![t.val / 7, t.val % 7, 0, 0, 0]
    ∧ win1_2.index t = ![0, 0] ∧ win1_3.index t = ![0, 0] ∧ win1_4.index t = ![t.val / 7, t.val % 7, 0, 0] :=
  (by decide +kernel : ∀ t : Fin grid1.N, _)

theorem in1_0 (c : Dev nD) (t : Fin cfg1.N) {r q i : ℕ} (hr : r < 32) (hq : q < 226) (hi : i < 64) :
    rd4 (iblk1 V c 0 t) 0 r q i = rd4 (V c main_v13) (t.val / 7) (t.val % 7 * 32 + r) q i := by
  rw [rd4_in _ Nat.one_pos hr hq hi]
  blk_simp [iblk1]
  refine eq_rd4 _ _ ?_ ?_ ?_ ?_ <;> blk_simp [idx1 t] <;> rfl

theorem in1_1 (c : Dev nD) (t : Fin cfg1.N) {k q i : ℕ} (hk : k < 2) (hq : q < 226) (hi : i < 64) :
    rd5 (iblk1 V c 1 t) 0 0 k q i = rd5 (V c main_v23) (t.val / 7) (t.val % 7) k q i := by
  rw [rd5_in _ Nat.one_pos Nat.one_pos hk hq hi]
  blk_simp [iblk1]
  refine eq_rd5 _ _ ?_ ?_ ?_ ?_ ?_ <;> blk_simp [idx1 t] <;> rfl

theorem in1_2 (c : Dev nD) (t : Fin cfg1.N) : iblk1 V c 2 t = V c main_v15 := by
  funext z; blk_simp [iblk1]; exact congrArg (V c main_v15) (by blk_ext [idx1 t])

theorem in1_3 (c : Dev nD) (t : Fin cfg1.N) : iblk1 V c 3 t = V c main_v24 := by
  funext z; blk_simp [iblk1]; exact congrArg (V c main_v24) (by blk_ext [idx1 t])

theorem fin1 (c : Dev nD) (X : FVec Ideal ⟨4, ![12, 224, 224, 64]⟩ .f32) (w : FVec Ideal S64x64x3x3 .f32) (b : FVec Ideal S64 .f32)
    (hx : V c main_v13 = padW 226 X) (hh : IsHalo (R := 7) (Wp := 226) 32 X (V c main_v23))
    (hw : ∀ (dy dx : Fin 3) (i : Fin 64) o, o < 64 → rd2 (V c main_v15) (dy * 64 + i) (dx * 64 + o) = rd4 w o i dy dx)
    (hb : ∀ o, o < 64 → rd2 (V c main_v24) 0 o = rd1 b o) : (dat1 (F := Ideal) V c).arrAt 4 cfg1.N = padW 226 (conv X w b) := by
  refine (dat1 V c).arrAt_eq_of_covers 4 _ (by decide +kernel) fun t _ y => ?_
  have ht : t.val < 84 := t.isLt
  have hn : t.val / 7 < 12 := by omega
  have hρ : t.val % 7 < 7 := by omega
  blk_simp
  rw [after1_4]; unfold outsAt1; frame_out
  refine padded_block (n := t.val / 7) (base := t.val % 7 * 32) (conv X w b) y _ rfl rfl _ _ _ _ _ _ (fun _ => Ideal.ofBits_zero_f32)
    (fun _ => Ideal.ofBits_zero_f32) (fun r q o hr hq ho => ?_) (by blk_simp [idx1 t]) (by blk_simp [idx1 t]) (by blk_simp [idx1 t])
    (by blk_simp [idx1 t])
  rw [rd4_conv _ _ _ hn (by omega) hq ho, in1_2, in1_3]
  exact packed_block X w b rfl rfl rfl rfl rfl rfl rfl _ _ _ _ _ (fun r q i hr hq hi =>
    halo_block X (V c main_v13) (V c main_v23) _ _ _ hn hρ rfl hx hh
      (fun q i hq hi => (ld_halo _ _ _ hq hi).trans (in1_1 V c t Nat.two_pos hq hi)) (fun r q i hr hq hi => in1_0 V c t hr hq hi)
      (fun q i hq hi => (ld_halo _ _ _ hq hi).trans (in1_1 V c t Nat.one_lt_two hq hi)) hr hq hi)
    hw hb _ _ _ _ _ _ _ _ _ _ _ _ _ _ _ _ _ _ hr hq ho

/-! ## The third layer -/

theorem idx3 : ∀ t : Fin cfg3.N, win3_0.index t = ![t.val / 2, t.val % 2, 0, 0] ∧ win3_1.index t = ![t.val / 2, t.val % 2, 0, 0, 0]
    ∧ win3_2.index t = ![0, 0] ∧ win3_3.index t = ![0, 0] ∧ win3_4.index t = ![t.val / 2, t.val % 2, 0, 0] :=
  (by decide +kernel : ∀ t : Fin grid3.N, _)

theorem in3_0 (c : Dev nD) (t : Fin cfg3.N) {r q i : ℕ} (hr : r < 56) (hq : q < 114) (hi : i < 64) :
    rd4 (iblk3 V c 0 t) 0 r q i = rd4 (V c main_v26) (t.val / 2) (t.val % 2 * 56 + r) q i := by
  rw [rd4_in _ Nat.one_pos hr hq hi]
  blk_simp [iblk3]
  refine eq_rd4 _ _ ?_ ?_ ?_ ?_ <;> blk_simp [idx3 t] <;> rfl

theorem in3_1 (c : Dev nD) (t : Fin cfg3.N) {k q i : ℕ} (hk : k < 2) (hq : q < 114) (hi : i < 64) :
    rd5 (iblk3 V c 1 t) 0 0 k q i = rd5 (V c main_v36) (t.val / 2) (t.val % 2) k q i := by
  rw [rd5_in _ Nat.one_pos Nat.one_pos hk hq hi]
  blk_simp [iblk3]
  refine eq_rd5 _ _ ?_ ?_ ?_ ?_ ?_ <;> blk_simp [idx3 t] <;> rfl

theorem in3_2 (c : Dev nD) (t : Fin cfg3.N) : iblk3 V c 2 t = V c main_v28 := by
  funext z; blk_simp [iblk3]; exact congrArg (V c main_v28) (by blk_ext [idx3 t])

theorem in3_3 (c : Dev nD) (t : Fin cfg3.N) : iblk3 V c 3 t = V c main_v37 := by
  funext z; blk_simp [iblk3]; exact congrArg (V c main_v37) (by blk_ext [idx3 t])

theorem fin3 (c : Dev nD) (X : FVec Ideal ⟨4, ![12, 112, 112, 64]⟩ .f32) (w : FVec Ideal S128x64x3x3 .f32) (b : FVec Ideal S128 .f32)
    (hx : V c main_v26 = padW 114 X) (hh : IsHalo (R := 2) (Wp := 114) 56 X (V c main_v36))
    (hw : ∀ (dy dx : Fin 3) (i : Fin 64) o, o < 128 → rd2 (V c main_v28) (dy * 64 + i) (dx * 128 + o) = rd4 w o i dy dx)
    (hb : ∀ o, o < 128 → rd2 (V c main_v37) 0 o = rd1 b o) : (dat3 (F := Ideal) V c).arrAt 4 cfg3.N = padW 114 (conv X w b) := by
  refine (dat3 V c).arrAt_eq_of_covers 4 _ (by decide +kernel) fun t _ y => ?_
  have ht : t.val < 24 := t.isLt
  have hn : t.val / 2 < 12 := by omega
  have hρ : t.val % 2 < 2 := by omega
  blk_simp
  rw [after3_4]; unfold outsAt3; frame_out
  refine padded_block (n := t.val / 2) (base := t.val % 2 * 56) (conv X w b) y _ rfl rfl _ _ _ _ _ _ (fun _ => Ideal.ofBits_zero_f32)
    (fun _ => Ideal.ofBits_zero_f32) (fun r q o hr hq ho => ?_) (by blk_simp [idx3 t]) (by blk_simp [idx3 t]) (by blk_simp [idx3 t])
    (by blk_simp [idx3 t])
  rw [rd4_conv _ _ _ hn (by omega) hq ho, in3_2, in3_3]
  exact packed_block X w b rfl rfl rfl rfl rfl rfl rfl _ _ _ _ _ (fun r q i hr hq hi =>
    halo_block X (V c main_v26) (V c main_v36) _ _ _ hn hρ rfl hx hh
      (fun q i hq hi => (ld_halo _ _ _ hq hi).trans (in3_1 V c t Nat.two_pos hq hi)) (fun r q i hr hq hi => in3_0 V c t hr hq hi)
      (fun q i hq hi => (ld_halo _ _ _ hq hi).trans (in3_1 V c t Nat.one_lt_two hq hi)) hr hq hi)
    hw hb _ _ _ _ _ _ _ _ _ _ _ _ _ _ _ _ _ _ hr hq ho

/-! ## The fourth layer -/

theorem idx4 : ∀ t : Fin cfg4.N, win4_0.index t = ![t.val / 2, t.val % 2, 0, 0] ∧ win4_1.index t = ![t.val / 2, t.val % 2, 0, 0, 0]
    ∧ win4_2.index t = ![0, 0] ∧ win4_3.index t = ![0, 0] ∧ win4_4.index t = ![t.val / 2, t.val % 2, 0, 0] :=
  (by decide +kernel : ∀ t : Fin grid4.N, _)

theorem in4_0 (c : Dev nD) (t : Fin cfg4.N) {r q i : ℕ} (hr : r < 56) (hq : q < 114) (hi : i < 128) :
    rd4 (iblk4 V c 0 t) 0 r q i = rd4 (V c main_v38) (t.val / 2) (t.val % 2 * 56 + r) q i := by
  rw [rd4_in _ Nat.one_pos hr hq hi]
  blk_simp [iblk4]
  refine eq_rd4 _ _ ?_ ?_ ?_ ?_ <;> blk_simp [idx4 t] <;> rfl

theorem in4_1 (c : Dev nD) (t : Fin cfg4.N) {k q i : ℕ} (hk : k < 2) (hq : q < 114) (hi : i < 128) :
    rd5 (iblk4 V c 1 t) 0 0 k q i = rd5 (V c main_v48) (t.val / 2) (t.val % 2) k q i := by
  rw [rd5_in _ Nat.one_pos Nat.one_pos hk hq hi]
  blk_simp [iblk4]
  refine eq_rd5 _ _ ?_ ?_ ?_ ?_ ?_ <;> blk_simp [idx4 t] <;> rfl

theorem in4_2 (c : Dev nD) (t : Fin cfg4.N) : iblk4 V c 2 t = V c main_v40 := by
  funext z; blk_simp [iblk4]; exact congrArg (V c main_v40) (by blk_ext [idx4 t])

theorem in4_3 (c : Dev nD) (t : Fin cfg4.N) : iblk4 V c 3 t = V c main_v49 := by
  funext z; blk_simp [iblk4]; exact congrArg (V c main_v49) (by blk_ext [idx4 t])

theorem fin4 (c : Dev nD) (X : FVec Ideal ⟨4, ![12, 112, 112, 128]⟩ .f32) (w : FVec Ideal S128x128x3x3 .f32) (b : FVec Ideal S128 .f32)
    (hx : V c main_v38 = padW 114 X) (hh : IsHalo (R := 2) (Wp := 114) 56 X (V c main_v48))
    (hw : ∀ (dy dx : Fin 3) (i : Fin 128) o, o < 128 → rd2 (V c main_v40) (dy * 128 + i) (dx * 128 + o) = rd4 w o i dy dx)
    (hb : ∀ o, o < 128 → rd2 (V c main_v49) 0 o = rd1 b o) : (dat4 (F := Ideal) V c).arrAt 4 cfg4.N = padW 114 (conv X w b) := by
  refine (dat4 V c).arrAt_eq_of_covers 4 _ (by decide +kernel) fun t _ y => ?_
  have ht : t.val < 24 := t.isLt
  have hn : t.val / 2 < 12 := by omega
  have hρ : t.val % 2 < 2 := by omega
  blk_simp
  rw [after4_4]; unfold outsAt4; frame_out
  refine padded_block (n := t.val / 2) (base := t.val % 2 * 56) (conv X w b) y _ rfl rfl _ _ _ _ _ _ (fun _ => Ideal.ofBits_zero_f32)
    (fun _ => Ideal.ofBits_zero_f32) (fun r q o hr hq ho => ?_) (by blk_simp [idx4 t]) (by blk_simp [idx4 t]) (by blk_simp [idx4 t])
    (by blk_simp [idx4 t])
  rw [rd4_conv _ _ _ hn (by omega) hq ho, in4_2, in4_3]
  exact packed_block X w b rfl rfl rfl rfl rfl rfl rfl _ _ _ _ _ (fun r q i hr hq hi =>
    halo_block X (V c main_v38) (V c main_v48) _ _ _ hn hρ rfl hx hh
      (fun q i hq hi => (ld_halo _ _ _ hq hi).trans (in4_1 V c t Nat.two_pos hq hi)) (fun r q i hr hq hi => in4_0 V c t hr hq hi)
      (fun q i hq hi => (ld_halo _ _ _ hq hi).trans (in4_1 V c t Nat.one_lt_two hq hi)) hr hq hi)
    hw hb _ _ _ _ _ _ _ _ _ _ _ _ _ _ _ _ _ _ hr hq ho

end Cert.KernelIdeal.Value
end
-- ==== Proof.Taps.lean ====
module
public import proofs.«01_k».proof.Proof.Gen.KernelIdeal.Frame.Region6
public import proofs.«01_k».proof.Proof.Gen.KernelIdeal.Frame.Region7
public import proofs.«01_k».proof.Proof.Gen.KernelIdeal.Frame.Region8
public import proofs.«01_k».proof.Proof.Layer
@[expose] public section
set_option maxRecDepth 16384
open Idealize.ShloMosaic Idealize.ShloMosaic.TcCoe Idealize.SL.Sem
open Idealize.ShloMosaic.Pipeline (Dat)
namespace Cert.KernelIdeal.Value
open Cert.KernelIdeal Cert.KernelIdeal.Gen Cert.Vgg
/-! The three layers whose body takes one product a tap: each leaves its feature map between two columns of zeros. -/

variable (V : (c : Dev nD) → (b : Ref sig .tc) → (Proc.devRef .tc b : DevRef τ sig).ty.Contents (Elt Ideal))

/-! ## The fifth layer -/

theorem idx6 : ∀ t : Fin cfg6.N, win6_0.index t = ![t.val / 2, t.val % 2, 0, 0] ∧ win6_1.index t = ![t.val / 2, t.val % 2, 0, 0, 0]
    ∧ win6_2.index t = ![0, 0, 0] ∧ win6_3.index t = ![0, 0] ∧ win6_4.index t = ![t.val / 2, t.val % 2, 0, 0] :=
  (by decide +kernel : ∀ t : Fin grid6.N, _)

theorem in6_0 (c : Dev nD) (t : Fin cfg6.N) {r q i : ℕ} (hr : r < 28) (hq : q < 58) (hi : i < 128) :
    rd4 (iblk6 V c 0 t) 0 r q i = rd4 (V c main_v51) (t.val / 2) (t.val % 2 * 28 + r) q i := by
  rw [rd4_in _ Nat.one_pos hr hq hi]
  blk_simp [iblk6]
  refine eq_rd4 _ _ ?_ ?_ ?_ ?_ <;> blk_simp [idx6 t] <;> rfl

theorem in6_1 (c : Dev nD) (t : Fin cfg6.N) {k q i : ℕ} (hk : k < 2) (hq : q < 58) (hi : i < 128) :
    rd5 (iblk6 V c 1 t) 0 0 k q i = rd5 (V c main_v61) (t.val / 2) (t.val % 2) k q i := by
  rw [rd5_in _ Nat.one_pos Nat.one_pos hk hq hi]
  blk_simp [iblk6]
  refine eq_rd5 _ _ ?_ ?_ ?_ ?_ ?_ <;> blk_simp [idx6 t] <;> rfl

theorem in6_2 (c : Dev nD) (t : Fin cfg6.N) : iblk6 V c 2 t = V c main_v53 := by
  funext z; blk_simp [iblk6]; exact congrArg (V c main_v53) (by blk_ext [idx6 t])

theorem in6_3 (c : Dev nD) (t : Fin cfg6.N) : iblk6 V c 3 t = V c main_v62 := by
  funext z; blk_simp [iblk6]; exact congrArg (V c main_v62) (by blk_ext [idx6 t])

theorem fin6 (c : Dev nD) (X : FVec Ideal ⟨4, ![12, 56, 56, 128]⟩ .f32) (w : FVec Ideal S256x128x3x3 .f32) (b : FVec Ideal S256 .f32)
    (hx : V c main_v51 = padW 58 X) (hh : IsHalo (R := 2) (Wp := 58) 28 X (V c main_v61))
    (hw : ∀ (dy dx : Fin 3) (i : Fin 128) o, o < 256 → rd3 (V c main_v53) (dy * 3 + dx) i o = rd4 w o i dy dx)
    (hb : ∀ o, o < 256 → rd2 (V c main_v62) 0 o = rd1 b o) : (dat6 (F := Ideal) V c).arrAt 4 cfg6.N = padW 58 (conv X w b) := by
  refine (dat6 V c).arrAt_eq_of_covers 4 _ (by decide +kernel) fun t _ y => ?_
  have ht : t.val < 24 := t.isLt
  have hn : t.val / 2 < 12 := by omega
  have hρ : t.val % 2 < 2 := by omega
  blk_simp
  rw [after6_4]; unfold outsAt6; frame_out
  refine padded_block (n := t.val / 2) (base := t.val % 2 * 28) (conv X w b) y _ rfl rfl _ _ _ _ _ _ (fun _ => Ideal.ofBits_zero_f32)
    (fun _ => Ideal.ofBits_zero_f32) (fun r q o hr hq ho => ?_) (by blk_simp [idx6 t]) (by blk_simp [idx6 t]) (by blk_simp [idx6 t])
    (by blk_simp [idx6 t])
  rw [rd4_conv _ _ _ hn (by omega) hq ho, in6_2, in6_3]
  exact taps_block X w b rfl rfl rfl _ _ _ _ _ _ _ _ _ _ _ _ _ (fun r q i hr hq hi =>
    halo_block X (V c main_v51) (V c main_v61) _ _ _ hn hρ rfl hx hh
      (fun q i hq hi => (ld_halo _ _ _ hq hi).trans (in6_1 V c t Nat.two_pos hq hi)) (fun r q i hr hq hi => in6_0 V c t hr hq hi)
      (fun q i hq hi => (ld_halo _ _ _ hq hi).trans (in6_1 V c t Nat.one_lt_two hq hi)) hr hq hi)
    (slabs (V c main_v53) w hw slab_inb) hb _ _ _ concatenates_S1x58x128_S28x58x128_S1x58x128_S30x58x128_d0
    (tap_slices rfl rfl) _ _ _ _ _ _ hr hq ho

/-! ## The sixth layer -/

theorem idx7 : ∀ t : Fin cfg7.N, win7_0.index t = ![t.val / 2, t.val % 2, 0, 0] ∧ win7_1.index t = ![t.val / 2, t.val % 2, 0, 0, 0]
    ∧ win7_2.index t = ![0, 0, 0] ∧ win7_3.index t = ![0, 0] ∧ win7_4.index t = ![t.val / 2, t.val % 2, 0, 0] :=
  (by decide +kernel : ∀ t : Fin grid7.N, _)

theorem in7_0 (c : Dev nD) (t : Fin cfg7.N) {r q i : ℕ} (hr : r < 28) (hq : q < 58) (hi : i < 256) :
    rd4 (iblk7 V c 0 t) 0 r q i = rd4 (V c main_v63) (t.val / 2) (t.val % 2 * 28 + r) q i := by
  rw [rd4_in _ Nat.one_pos hr hq hi]
  blk_simp [iblk7]
  refine eq_rd4 _ _ ?_ ?_ ?_ ?_ <;> blk_simp [idx7 t] <;> rfl

theorem in7_1 (c : Dev nD) (t : Fin cfg7.N) {k q i : ℕ} (hk : k < 2) (hq : q < 58) (hi : i < 256) :
    rd5 (iblk7 V c 1 t) 0 0 k q i = rd5 (V c main_v73) (t.val / 2) (t.val % 2) k q i := by
  rw [rd5_in _ Nat.one_pos Nat.one_pos hk hq hi]
  blk_simp [iblk7]
  refine eq_rd5 _ _ ?_ ?_ ?_ ?_ ?_ <;> blk_simp [idx7 t] <;> rfl

theorem in7_2 (c : Dev nD) (t : Fin cfg7.N) : iblk7 V c 2 t = V c main_v65 := by
  funext z; blk_simp [iblk7]; exact congrArg (V c main_v65) (by blk_ext [idx7 t])

theorem in7_3 (c : Dev nD) (t : Fin cfg7.N) : iblk7 V c 3 t = V c main_v74 := by
  funext z; blk_simp [iblk7]; exact congrArg (V c main_v74) (by blk_ext [idx7 t])

theorem fin7 (c : Dev nD) (X : FVec Ideal ⟨4, ![12, 56, 56, 256]⟩ .f32) (w : FVec Ideal S256x256x3x3 .f32) (b : FVec Ideal S256 .f32)
    (hx : V c main_v63 = padW 58 X) (hh : IsHalo (R := 2) (Wp := 58) 28 X (V c main_v73))
    (hw : ∀ (dy dx : Fin 3) (i : Fin 256) o, o < 256 → rd3 (V c main_v65) (dy * 3 + dx) i o = rd4 w o i dy dx)
    (hb : ∀ o, o < 256 → rd2 (V c main_v74) 0 o = rd1 b o) : (dat7 (F := Ideal) V c).arrAt 4 cfg7.N = padW 58 (conv X w b) := by
  refine (dat7 V c).arrAt_eq_of_covers 4 _ (by decide +kernel) fun t _ y => ?_
  have ht : t.val < 24 := t.isLt
  have hn : t.val / 2 < 12 := by omega
  have hρ : t.val % 2 < 2 := by omega
  blk_simp
  rw [after7_4]; unfold outsAt7; frame_out
  refine padded_block (n := t.val / 2) (base := t.val % 2 * 28) (conv X w b) y _ rfl rfl _ _ _ _ _ _ (fun _ => Ideal.ofBits_zero_f32)
    (fun _ => Ideal.ofBits_zero_f32) (fun r q o hr hq ho => ?_) (by blk_simp [idx7 t]) (by blk_simp [idx7 t]) (by blk_simp [idx7 t])
    (by blk_simp [idx7 t])
  rw [rd4_conv _ _ _ hn (by omega) hq ho, in7_2, in7_3]
  exact taps_block X w b rfl rfl rfl _ _ _ _ _ _ _ _ _ _ _ _ _ (fun r q i hr hq hi =>
    halo_block X (V c main_v63) (V c main_v73) _ _ _ hn hρ rfl hx hh
      (fun q i hq hi => (ld_halo _ _ _ hq hi).trans (in7_1 V c t Nat.two_pos hq hi)) (fun r q i hr hq hi => in7_0 V c t hr hq hi)
      (fun q i hq hi => (ld_halo _ _ _ hq hi).trans (in7_1 V c t Nat.one_lt_two hq hi)) hr hq hi)
    (slabs (V c main_v65) w hw slab_inb) hb _ _ _ concatenates_S1x58x256_S28x58x256_S1x58x256_S30x58x256_d0
    (tap_slices rfl rfl) _ _ _ _ _ _ hr hq ho

/-! ## The seventh layer -/

theorem idx8 : ∀ t : Fin cfg8.N, win8_0.index t = ![t.val / 2, t.val % 2, 0, 0] ∧ win8_1.index t = ![t.val / 2, t.val % 2, 0, 0, 0]
    ∧ win8_2.index t = ![0, 0, 0] ∧ win8_3.index t = ![0, 0] ∧ win8_4.index t = ![t.val / 2, t.val % 2, 0, 0] :=
  (by decide +kernel : ∀ t : Fin grid8.N, _)

theorem in8_0 (c : Dev nD) (t : Fin cfg8.N) {r q i : ℕ} (hr : r < 28) (hq : q < 58) (hi : i < 256) :
    rd4 (iblk8 V c 0 t) 0 r q i = rd4 (V c main_v75) (t.val / 2) (t.val % 2 * 28 + r) q i := by
  rw [rd4_in _ Nat.one_pos hr hq hi]
  blk_simp [iblk8]
  refine eq_rd4 _ _ ?_ ?_ ?_ ?_ <;> blk_simp [idx8 t] <;> rfl

theorem in8_1 (c : Dev nD) (t : Fin cfg8.N) {k q i : ℕ} (hk : k < 2) (hq : q < 58) (hi : i < 256) :
    rd5 (iblk8 V c 1 t) 0 0 k q i = rd5 (V c main_v85) (t.val / 2) (t.val % 2) k q i := by
  rw [rd5_in _ Nat.one_pos Nat.one_pos hk hq hi]
  blk_simp [iblk8]
  refine eq_rd5 _ _ ?_ ?_ ?_ ?_ ?_ <;> blk_simp [idx8 t] <;> rfl

theorem in8_2 (c : Dev nD) (t : Fin cfg8.N) : iblk8 V c 2 t = V c main_v77 := by
  funext z; blk_simp [iblk8]; exact congrArg (V c main_v77) (by blk_ext [idx8 t])

theorem in8_3 (c : Dev nD) (t : Fin cfg8.N) : iblk8 V c 3 t = V c main_v86 := by
  funext z; blk_simp [iblk8]; exact congrArg (V c main_v86) (by blk_ext [idx8 t])

theorem fin8 (c : Dev nD) (X : FVec Ideal ⟨4, ![12, 56, 56, 256]⟩ .f32) (w : FVec Ideal S256x256x3x3 .f32) (b : FVec Ideal S256 .f32)
    (hx : V c main_v75 = padW 58 X) (hh : IsHalo (R := 2) (Wp := 58) 28 X (V c main_v85))
    (hw : ∀ (dy dx : Fin 3) (i : Fin 256) o, o < 256 → rd3 (V c main_v77) (dy * 3 + dx) i o = rd4 w o i dy dx)
    (hb : ∀ o, o < 256 → rd2 (V c main_v86) 0 o = rd1 b o) : (dat8 (F := Ideal) V c).arrAt 4 cfg8.N = padW 58 (conv X w b) := by
  refine (dat8 V c).arrAt_eq_of_covers 4 _ (by decide +kernel) fun t _ y => ?_
  have ht : t.val < 24 := t.isLt
  have hn : t.val / 2 < 12 := by omega
  have hρ : t.val % 2 < 2 := by omega
  blk_simp
  rw [after8_4]; unfold outsAt8; frame_out
  refine padded_block (n := t.val / 2) (base := t.val % 2 * 28) (conv X w b) y _ rfl rfl _ _ _ _ _ _ (fun _ => Ideal.ofBits_zero_f32)
    (fun _ => Ideal.ofBits_zero_f32) (fun r q o hr hq ho => ?_) (by blk_simp [idx8 t]) (by blk_simp [idx8 t]) (by blk_simp [idx8 t])
    (by blk_simp [idx8 t])
  rw [rd4_conv _ _ _ hn (by omega) hq ho, in8_2, in8_3]
  exact taps_block X w b rfl rfl rfl _ _ _ _ _ _ _ _ _ _ _ _ _ (fun r q i hr hq hi =>
    halo_block X (V c main_v75) (V c main_v85) _ _ _ hn hρ rfl hx hh
      (fun q i hq hi => (ld_halo _ _ _ hq hi).trans (in8_1 V c t Nat.two_pos hq hi)) (fun r q i hr hq hi => in8_0 V c t hr hq hi)
      (fun q i hq hi => (ld_halo _ _ _ hq hi).trans (in8_1 V c t Nat.one_lt_two hq hi)) hr hq hi)
    (slabs (V c main_v77) w hw slab_inb) hb _ _ _ concatenates_S1x58x256_S28x58x256_S1x58x256_S30x58x256_d0
    (tap_slices rfl rfl) _ _ _ _ _ _ hr hq ho

end Cert.KernelIdeal.Value
end
-- ==== Proof.Pool.lean ====
module
public import proofs.«01_k».proof.Proof.Layer
@[expose] public section
open Idealize.ShloMosaic
namespace Cert.Vgg
variable {N H W C A2 A Wi Wp h' w' : ℕ}

/-- The neutral element of a maximum. -/
theorem ofBits_bot : FloatOps.ofBits (F := Ideal) .f32 0xFF800000#32 = (⊥ : EReal) := by
  show Ideal.ofBits .f32 0xFF800000#32 = (⊥ : EReal)
  simp [Ideal.ofBits, Ideal.ieee]

/-- The maximum over an axis of two. -/
theorem fold_two (f : Fin 2 → EReal) :
    (Finset.univ : Finset (Fin 2)).fold max (FloatOps.ofBits (F := Ideal) .f32 0xFF800000#32) f = max (f 0) (f 1) := by
  rw [ofBits_bot, show (Finset.univ : Finset (Fin 2)) = insert 0 {1} from rfl, Finset.fold_insert (by decide),
    Finset.fold_singleton, max_bot_right]

/-- The maximum over the second axis, of extent two. -/
theorem max_rows (x : FVec Ideal ⟨4, ![A, 2, Wi, C]⟩ .f32)
    (h : (⟨4, ![A, 2, Wi, C]⟩ : Shape).Reduces [1] ⟨3, ![A, Wi, C]⟩) (hφ : FKind.Formats .f32)
    (ha : 0xFF800000#32 = FKind.maximumf.neutral .f32 hφ) {r c i : ℕ} (hr : r < A) (hc : c < Wi) (hi : i < C) :
    rd3 (multiReduction (F := Ideal) .maximumf [1] ⟨3, ![A, Wi, C]⟩ x 0xFF800000#32 h hφ ha) r c i
      = max (rd4 x r 0 c i) (rd4 x r 1 c i) := by
  rw [rd3_in _ hr hc hi, Ideal.multiReduction_maximumf_single]
  refine (fold_two _).trans (congrArg₂ max ?_ ?_)
  · exact eq_rd4 _ _ rfl rfl rfl rfl
  · exact eq_rd4 _ _ rfl rfl rfl rfl

/-- The maximum over the third axis, of extent two. -/
theorem max_cols (x : FVec Ideal ⟨4, ![A, W, 2, C]⟩ .f32)
    (h : (⟨4, ![A, W, 2, C]⟩ : Shape).Reduces [2] ⟨3, ![A, W, C]⟩) (hφ : FKind.Formats .f32)
    (ha : 0xFF800000#32 = FKind.maximumf.neutral .f32 hφ) {r c i : ℕ} (hr : r < A) (hc : c < W) (hi : i < C) :
    rd3 (multiReduction (F := Ideal) .maximumf [2] ⟨3, ![A, W, C]⟩ x 0xFF800000#32 h hφ ha) r c i
      = max (rd4 x r c 0 i) (rd4 x r c 1 i) := by
  rw [rd3_in _ hr hc hi, Ideal.multiReduction_maximumf_single]
  refine (fold_two _).trans (congrArg₂ max ?_ ?_)
  · exact eq_rd4 _ _ rfl rfl rfl rfl
  · exact eq_rd4 _ _ rfl rfl rfl rfl

/-- The pooling body's payload is the pooled image. -/
theorem pool_block (x : (⟨4, ![N, H, Wi, C]⟩ : Shape).Idx → EReal) {n base : ℕ} (hA : A2 = A * 2) (hW : Wi = W * 2)
    (v : FVec Ideal ⟨4, ![1, A2, Wi, C]⟩ .f32)
    (hv : ∀ r c i, r < A2 → c < Wi → i < C → rd4 v 0 r c i = rd4 x n (2 * base + r) c i)
    (h1 : (⟨4, ![1, A2, Wi, C]⟩ : Shape).ShapeCasts ⟨3, ![A2, Wi, C]⟩)
    (h2 : (⟨3, ![A2, Wi, C]⟩ : Shape).ShapeCasts ⟨4, ![A, 2, Wi, C]⟩)
    (h3 : (⟨4, ![A, 2, Wi, C]⟩ : Shape).Reduces [1] ⟨3, ![A, Wi, C]⟩)
    (h4 : (⟨3, ![A, Wi, C]⟩ : Shape).ShapeCasts ⟨4, ![A, W, 2, C]⟩)
    (h5 : (⟨4, ![A, W, 2, C]⟩ : Shape).Reduces [2] ⟨3, ![A, W, C]⟩)
    (h6 : (⟨3, ![A, W, C]⟩ : Shape).ShapeCasts ⟨4, ![1, A, W, C]⟩) (hφ hφ' : FKind.Formats .f32)
    (ha : 0xFF800000#32 = FKind.maximumf.neutral .f32 hφ) (ha' : 0xFF800000#32 = FKind.maximumf.neutral .f32 hφ')
    {r c i : ℕ} (hr : r < A) (hc : c < W) (hi : i < C) :
    rd4 (shapeCast ⟨4, ![1, A, W, C]⟩ (multiReduction (F := Ideal) .maximumf [2] ⟨3, ![A, W, C]⟩
      (shapeCast ⟨4, ![A, W, 2, C]⟩ (multiReduction (F := Ideal) .maximumf [1] ⟨3, ![A, Wi, C]⟩
        (shapeCast ⟨4, ![A, 2, Wi, C]⟩ (shapeCast ⟨3, ![A2, Wi, C]⟩ v h1) h2) 0xFF800000#32 h3 hφ ha) h4)
      0xFF800000#32 h5 hφ' ha') h6) 0 r c i = poolAt x n (base + r) c i := by
  have e : ∀ u k, u < 2 → k < 2 → rd4 (shapeCast ⟨4, ![A, 2, Wi, C]⟩ (shapeCast ⟨3, ![A2, Wi, C]⟩ v h1) h2) r u (2 * c + k) i
      = rd4 x n (2 * (base + r) + u) (2 * c + k) i := fun u k hu hk => by
    rw [cast_split_rows _ h2 hA hr hu (by omega) hi, cast_unlead _ h1 (by omega) (by omega) hi,
      hv _ _ _ (by omega) (by omega) hi]
    congr 1; omega
  rw [cast_lead _ h6 hr hc hi, max_cols _ h5 _ _ hr hc hi, cast_split_cols _ h4 hW hr hc Nat.two_pos hi,
    cast_split_cols _ h4 hW hr hc Nat.one_lt_two hi, max_rows _ h3 _ _ hr (by omega) hi,
    max_rows _ h3 _ _ hr (by omega) hi, e 0 0 Nat.two_pos Nat.two_pos, e 1 0 Nat.one_lt_two Nat.two_pos,
    e 0 1 Nat.two_pos Nat.one_lt_two, e 1 1 Nat.one_lt_two Nat.one_lt_two]
  exact max_max_max_comm _ _ _ _

/-- The host's window maximum, at the windows of a two-by-two pooling. -/
theorem window_pool (x : FVec Ideal ⟨4, ![N, H, W, C]⟩ .f32) (hH : H = h' * 2) (hW : W = w' * 2)
    (init : FVec Ideal ⟨0, ![]⟩ .f32) (hinit : ∀ j, init j = (⊥ : EReal))
    (h : (⟨4, ![N, H, W, C]⟩ : Shape).ReduceWindows ![1, 2, 2, 1] ![1, 2, 2, 1] ![0, 0, 0, 0] ![0, 0, 0, 0] ⟨4, ![N, h', w', C]⟩)
    (hu : 0 < (⟨0, ![]⟩ : Shape).numel) :
    Host.reduceWindow (t := ⟨4, ![N, h', w', C]⟩) (FloatOps.maximumf (F := Ideal) (φ := .f32)) ![1, 2, 2, 1] ![1, 2, 2, 1] ![0, 0, 0, 0] ![0, 0, 0, 0] x init h hu
      = pool h' w' x := by
  funext j
  have l0 : (j 0).val < N := (j 0).isLt
  have l1 : (j 1).val < h' := (j 1).isLt
  have l2 : (j 2).val < w' := (j 2).isLt
  have l3 : (j 3).val < C := (j 3).isLt
  have hw : ∀ n : Fin (⟨4, ![1, 2, 2, 1]⟩ : Shape).numel, ((⟨4, ![1, 2, 2, 1]⟩ : Shape).rowMajor.symm n 0).val = 0
      ∧ ((⟨4, ![1, 2, 2, 1]⟩ : Shape).rowMajor.symm n 1).val = n.val / 2
      ∧ ((⟨4, ![1, 2, 2, 1]⟩ : Shape).rowMajor.symm n 2).val = n.val % 2
      ∧ ((⟨4, ![1, 2, 2, 1]⟩ : Shape).rowMajor.symm n 3).val = 0 := by decide +kernel
  have hl : List.finRange (⟨4, ![1, 2, 2, 1]⟩ : Shape).numel = [⟨0, by decide⟩, ⟨1, by decide⟩, ⟨2, by decide⟩, ⟨3, by decide⟩] := by
    decide +kernel
  unfold Host.reduceWindow
  refine (List.foldl_ext _ (fun (r : EReal) n => max r (rd4 x (j 0).val (2 * (j 1).val + n.val / 2) (2 * (j 2).val + n.val % 2) (j 3).val))
    _ fun r n _ => ?_).trans ?_
  · obtain ⟨e0, e1, e2, e3⟩ := hw n
    have hn : n.val < 4 := n.isLt
    refine congrArg (max r) ?_
    split
    · next hin =>
      refine eq_rd4 x _ ?_ ?_ ?_ ?_
      · show (j 0).val * 1 + _ - 0 = _
        rw [e0]; omega
      · show (j 1).val * 2 + _ - 0 = _
        rw [e1]; omega
      · show (j 2).val * 2 + _ - 0 = _
        rw [e2]; omega
      · show (j 3).val * 1 + _ - 0 = _
        rw [e3]; omega
    · next hin =>
      refine absurd (fun a => ⟨?_, ?_⟩) hin
      · match a with
        | 0 => exact Nat.zero_le _
        | 1 => exact Nat.zero_le _
        | 2 => exact Nat.zero_le _
        | 3 => exact Nat.zero_le _
      · match a with
        | 0 => show (j 0).val * 1 + _ - 0 < N; rw [e0]; omega
        | 1 => show (j 1).val * 2 + _ - 0 < H; rw [e1]; omega
        | 2 => show (j 2).val * 2 + _ - 0 < W; rw [e2]; omega
        | 3 => show (j 3).val * 1 + _ - 0 < C; rw [e3]; omega
  rw [hl, hinit]
  show max (max (max (max ⊥ _) _) _) _ = poolAt x _ _ _ _
  rw [max_bot_left, max_assoc (max _ _)]
  simp [poolAt]

end Cert.Vgg
end
-- ==== Proof.Pools.lean ====
module
public import proofs.«01_k».proof.Proof.Gen.KernelIdeal.Frame.Region2
public import proofs.«01_k».proof.Proof.Gen.KernelIdeal.Frame.Region5
public import proofs.«01_k».proof.Proof.Pool
@[expose] public section
set_option maxRecDepth 16384
open Idealize.ShloMosaic Idealize.ShloMosaic.TcCoe Idealize.SL.Sem
open Idealize.ShloMosaic.Pipeline (Dat)
namespace Cert.KernelIdeal.Value
open Cert.KernelIdeal Cert.KernelIdeal.Gen Cert.Vgg
/-! The first two pooling calls: each leaves the pooled image between its two columns of zeros. -/

variable (V : (c : Dev nD) → (b : Ref sig .tc) → (Proc.devRef .tc b : DevRef τ sig).ty.Contents (Elt Ideal))

/-! ## The first pooling -/

theorem idx2 : ∀ t : Fin cfg2.N, win2_0.index t = ![t.val / 7, t.val % 7, 0, 0] ∧ win2_1.index t = ![t.val / 7, t.val % 7, 0, 0] :=
  (by decide +kernel : ∀ t : Fin grid2.N, _)

theorem in2_0 (c : Dev nD) (t : Fin cfg2.N) {r q i : ℕ} (hr : r < 32) (hq : q < 226) (hi : i < 64) :
    rd4 (iblk2 V c 0 t) 0 r q i = rd4 (V c main_v25) (t.val / 7) (t.val % 7 * 32 + r) q i := by
  rw [rd4_in _ Nat.one_pos hr hq hi]
  blk_simp [iblk2]
  refine eq_rd4 _ _ ?_ ?_ ?_ ?_ <;> blk_simp [idx2 t] <;> rfl

theorem fin2 (c : Dev nD) (X : FVec Ideal ⟨4, ![12, 224, 224, 64]⟩ .f32) (hx : V c main_v25 = padW 226 X) :
    (dat2 (F := Ideal) V c).arrAt 1 cfg2.N = padW 114 (pool 112 112 X) := by
  refine (dat2 V c).arrAt_eq_of_covers 1 _ (by decide +kernel) fun t _ y => ?_
  have ht : t.val < 84 := t.isLt
  have hn : t.val / 7 < 12 := by omega
  blk_simp
  rw [after2_1]; unfold outsAt2; frame_out
  refine padded_block (n := t.val / 7) (base := t.val % 7 * 16) (pool 112 112 X) y _ rfl rfl _ _ _ _ _ _
    (fun _ => Ideal.ofBits_zero_f32) (fun _ => Ideal.ofBits_zero_f32) (fun r q o hr hq ho => ?_) (by blk_simp [idx2 t])
    (by blk_simp [idx2 t]) (by blk_simp [idx2 t]) (by blk_simp [idx2 t])
  rw [rd4_pool _ hn (by omega) hq ho]
  refine pool_block X rfl rfl _ (fun r q i hr hq hi => ?_) _ _ _ _ _ _ _ _ _ _ hr hq ho
  rw [show 2 * (t.val % 7 * 16) = t.val % 7 * 32 by omega]
  exact ld_inside X _ rfl hn (by omega) (fun r q i hr hq hi => (in2_0 V c t hr hq hi).trans (by rw [hx])) _ hr hq hi

/-! ## The second pooling -/

theorem idx5 : ∀ t : Fin cfg5.N, win5_0.index t = ![t.val / 4, t.val % 4, 0, 0] ∧ win5_1.index t = ![t.val / 4, t.val % 4, 0, 0] :=
  (by decide +kernel : ∀ t : Fin grid5.N, _)

theorem in5_0 (c : Dev nD) (t : Fin cfg5.N) {r q i : ℕ} (hr : r < 28) (hq : q < 114) (hi : i < 128) :
    rd4 (iblk5 V c 0 t) 0 r q i = rd4 (V c main_v50) (t.val / 4) (t.val % 4 * 28 + r) q i := by
  rw [rd4_in _ Nat.one_pos hr hq hi]
  blk_simp [iblk5]
  refine eq_rd4 _ _ ?_ ?_ ?_ ?_ <;> blk_simp [idx5 t] <;> rfl

theorem fin5 (c : Dev nD) (X : FVec Ideal ⟨4, ![12, 112, 112, 128]⟩ .f32) (hx : V c main_v50 = padW 114 X) :
    (dat5 (F := Ideal) V c).arrAt 1 cfg5.N = padW 58 (pool 56 56 X) := by
  refine (dat5 V c).arrAt_eq_of_covers 1 _ (by decide +kernel) fun t _ y => ?_
  have ht : t.val < 48 := t.isLt
  have hn : t.val / 4 < 12 := by omega
  blk_simp
  rw [after5_1]; unfold outsAt5; frame_out
  refine padded_block (n := t.val / 4) (base := t.val % 4 * 14) (pool 56 56 X) y _ rfl rfl _ _ _ _ _ _
    (fun _ => Ideal.ofBits_zero_f32) (fun _ => Ideal.ofBits_zero_f32) (fun r q o hr hq ho => ?_) (by blk_simp [idx5 t])
    (by blk_simp [idx5 t]) (by blk_simp [idx5 t]) (by blk_simp [idx5 t])
  rw [rd4_pool _ hn (by omega) hq ho]
  refine pool_block X rfl rfl _ (fun r q i hr hq hi => ?_) _ _ _ _ _ _ _ _ _ _ hr hq ho
  rw [show 2 * (t.val % 4 * 14) = t.val % 4 * 28 by omega]
  exact ld_inside X _ rfl hn (by omega) (fun r q i hr hq hi => (in5_0 V c t hr hq hi).trans (by rw [hx])) _ hr hq hi

end Cert.KernelIdeal.Value
end
-- ==== Proof.Net.lean ====
module
public import proofs.«01_k».proof.Proof.Layer
@[expose] public section
open Idealize.ShloMosaic
noncomputable section
namespace Cert.Vgg
/-! The four feature maps of the network, each from the one before, and the padding both programs use. -/

variable {N H W C0 C1 C2 C3 : ℕ}

/-- The images with their channels last. -/
def image (x : (⟨4, ![N, C0, H, W]⟩ : Shape).Idx → EReal) : (⟨4, ![N, H, W, C0]⟩ : Shape).Idx → EReal :=
  fun j => rd4 x (j 0) (j 3) (j 1) (j 2)

/-- Both programs' transposition. -/
theorem transpose_image (x : FVec Ideal ⟨4, ![N, C0, H, W]⟩ .f32)
    (h : (⟨4, ![N, C0, H, W]⟩ : Shape).Transposes [0, 2, 3, 1] ⟨4, ![N, H, W, C0]⟩) :
    transpose ⟨4, ![N, H, W, C0]⟩ [0, 2, 3, 1] x h = image x := by
  funext j
  exact eq_rd4 x _ rfl rfl rfl rfl

/-- Two layers, one on the other. -/
def two (x : (⟨4, ![N, H, W, C0]⟩ : Shape).Idx → EReal) (w1 : (⟨4, ![C1, C0, 3, 3]⟩ : Shape).Idx → EReal) (b1 : (⟨1, ![C1]⟩ : Shape).Idx → EReal)
    (w2 : (⟨4, ![C2, C1, 3, 3]⟩ : Shape).Idx → EReal) (b2 : (⟨1, ![C2]⟩ : Shape).Idx → EReal) : (⟨4, ![N, H, W, C2]⟩ : Shape).Idx → EReal :=
  conv (conv x w1 b1) w2 b2

/-- Three layers, one on the other. -/
def three (x : (⟨4, ![N, H, W, C0]⟩ : Shape).Idx → EReal) (w1 : (⟨4, ![C1, C0, 3, 3]⟩ : Shape).Idx → EReal) (b1 : (⟨1, ![C1]⟩ : Shape).Idx → EReal)
    (w2 : (⟨4, ![C2, C1, 3, 3]⟩ : Shape).Idx → EReal) (b2 : (⟨1, ![C2]⟩ : Shape).Idx → EReal)
    (w3 : (⟨4, ![C3, C2, 3, 3]⟩ : Shape).Idx → EReal) (b3 : (⟨1, ![C3]⟩ : Shape).Idx → EReal) : (⟨4, ![N, H, W, C3]⟩ : Shape).Idx → EReal :=
  conv (two x w1 b1 w2 b2) w3 b3

/-- The host's zero, converted from an integer. -/
theorem zero_word (j : (⟨0, ![]⟩ : Shape).Idx) : sitofp (F := Ideal) .f32 (constantI ⟨0, ![]⟩ 32 0#32) j = (0 : EReal) := by
  show (((0#32 : BitVec 32).toInt : ℝ) : EReal) = 0
  simp

/-- The host's padding by one column on each side. -/
theorem pad_cols {Wp : ℕ} (x : FVec Ideal ⟨4, ![N, H, W, C0]⟩ .f32) (v : FVec Ideal ⟨0, ![]⟩ .f32) (hv : ∀ j, v j = (0 : EReal))
    (h : (⟨4, ![N, H, W, C0]⟩ : Shape).Pads ![0, 0, 1, 0] ![0, 0, 1, 0] ![0, 0, 0, 0] ⟨4, ![N, H, Wp, C0]⟩)
    (hu : 0 < (⟨0, ![]⟩ : Shape).numel) :
    pad ⟨4, ![N, H, Wp, C0]⟩ ![0, 0, 1, 0] ![0, 0, 1, 0] ![0, 0, 0, 0] x v h hu = padW Wp x := by
  funext j
  have l0 : (j 0).val < N := (j 0).isLt
  have l1 : (j 1).val < H := (j 1).isLt
  have l3 : (j 3).val < C0 := (j 3).isLt
  unfold pad padW rdp
  by_cases hj : 1 ≤ (j 2).val ∧ (j 2).val - 1 < W
  · rw [if_pos ⟨by omega, hj.1⟩]
    refine (dif_pos fun a => ?_).trans (eq_rd4 x _ ?_ ?_ ?_ ?_)
    · match a with
      | ⟨0, _⟩ => exact ⟨Nat.zero_le _, Nat.mod_one _, show ((j 0).val - 0) / 1 < N by omega⟩
      | ⟨1, _⟩ => exact ⟨Nat.zero_le _, Nat.mod_one _, show ((j 1).val - 0) / 1 < H by omega⟩
      | ⟨2, _⟩ => exact ⟨hj.1, Nat.mod_one _, show ((j 2).val - 1) / 1 < W by omega⟩
      | ⟨3, _⟩ => exact ⟨Nat.zero_le _, Nat.mod_one _, show ((j 3).val - 0) / 1 < C0 by omega⟩
    · show ((j 0).val - 0) / 1 = _; omega
    · show ((j 1).val - 0) / 1 = _; omega
    · show ((j 2).val - 1) / 1 = _; omega
    · show ((j 3).val - 0) / 1 = _; omega
  · refine (dif_neg fun hin => hj ?_).trans ((hv _).trans ?_)
    · obtain ⟨h1, -, h2⟩ := hin (2 : Fin 4)
      change 1 ≤ (j 2).val at h1
      change ((j 2).val - 1) / 1 < W at h2
      exact ⟨h1, by omega⟩
    · split
      · rw [rd4, dif_neg (by omega)]
      · rfl

/-- The host's padding by one row and one column all round, read at coordinates. -/
theorem pad_all {Hp Wp : ℕ} (x : FVec Ideal ⟨4, ![N, H, W, C0]⟩ .f32) (v : FVec Ideal ⟨0, ![]⟩ .f32) (hv : ∀ j, v j = (0 : EReal))
    (h : (⟨4, ![N, H, W, C0]⟩ : Shape).Pads ![0, 1, 1, 0] ![0, 1, 1, 0] ![0, 0, 0, 0] ⟨4, ![N, Hp, Wp, C0]⟩)
    (hu : 0 < (⟨0, ![]⟩ : Shape).numel) {n p q i : ℕ} (hn : n < N) (hp : p < Hp) (hq : q < Wp) (hi : i < C0) :
    rd4 (pad ⟨4, ![N, Hp, Wp, C0]⟩ ![0, 1, 1, 0] ![0, 1, 1, 0] ![0, 0, 0, 0] x v h hu) n p q i = rdp x n p q i := by
  rw [rd4_in _ hn hp hq hi]
  unfold pad rdp
  by_cases hj : (1 ≤ p ∧ p - 1 < H) ∧ 1 ≤ q ∧ q - 1 < W
  · rw [if_pos ⟨hj.1.1, hj.2.1⟩]
    refine (dif_pos fun a => ?_).trans (eq_rd4 x _ ?_ ?_ ?_ ?_)
    · match a with
      | ⟨0, _⟩ => exact ⟨Nat.zero_le _, Nat.mod_one _, show (n - 0) / 1 < N by omega⟩
      | ⟨1, _⟩ => exact ⟨hj.1.1, Nat.mod_one _, show (p - 1) / 1 < H by omega⟩
      | ⟨2, _⟩ => exact ⟨hj.2.1, Nat.mod_one _, show (q - 1) / 1 < W by omega⟩
      | ⟨3, _⟩ => exact ⟨Nat.zero_le _, Nat.mod_one _, show (i - 0) / 1 < C0 by omega⟩
    · show (n - 0) / 1 = _; omega
    · show (p - 1) / 1 = _; omega
    · show (q - 1) / 1 = _; omega
    · show (i - 0) / 1 = _; omega
  · refine (dif_neg fun hin => hj ?_).trans ((hv _).trans ?_)
    · obtain ⟨h1, -, h2⟩ := hin (1 : Fin 4)
      obtain ⟨h3, -, h4⟩ := hin (2 : Fin 4)
      change 1 ≤ p at h1
      change (p - 1) / 1 < H at h2
      change 1 ≤ q at h3
      change (q - 1) / 1 < W at h4
      exact ⟨⟨h1, by omega⟩, h3, by omega⟩
    · split
      · rw [rd4, dif_neg (by omega)]
      · rfl

end Cert.Vgg
end
end
-- ==== Proof.Chain.lean ====
module
public import proofs.«01_k».proof.Proof.Gen.KernelIdeal.Frame.Fold0
public import proofs.«01_k».proof.Proof.Host
public import proofs.«01_k».proof.Proof.Packed
public import proofs.«01_k».proof.Proof.Taps
public import proofs.«01_k».proof.Proof.Pools
public import proofs.«01_k».proof.Proof.Net
@[expose] public section
set_option maxRecDepth 16384
noncomputable section
open Idealize.ShloMosaic Idealize.ShloMosaic.TcCoe Idealize.SL.Sem
namespace Cert.KernelIdeal.Value
open Cert.KernelIdeal Cert.KernelIdeal.Gen Cert.Vgg
/-! The calls one after another: each layer's step from any padded input, then the three feature maps at the end of the program. -/

variable (m : (ℓ : Loc nD τ sig) → Buf (Elt Ideal) ℓ) (ρ : Dev nD → PrngReg) (c : Dev nD)

theorem layer0 (X : FVec Ideal ⟨4, ![12, 224, 224, 3]⟩ .f32) (hx : W2 m ρ c (Proc.devRef .tc main_v1) = padW 226 X) :
    W4 m ρ c (Proc.devRef .tc main_v13) = padW 226 (conv X (m ((c : Thread nD τ).loc main_arg1)) (m ((c : Thread nD τ).loc main_arg2))) := by
  obtain ⟨hh, hw, hb⟩ := prep0 (W2 m ρ c) X _ _ hx (W2_args m ρ c _ (by decide)) (W2_args m ρ c _ (by decide))
  exact (W4_arr m ρ c 4).trans (fin0 (V3 m ρ) c X _ _ ((W3_of m ρ c main_v1 (by decide)).trans hx) hh hw hb)

theorem layer1 (X : FVec Ideal ⟨4, ![12, 224, 224, 64]⟩ .f32) (hx : W4 m ρ c (Proc.devRef .tc main_v13) = padW 226 X) :
    W6 m ρ c (Proc.devRef .tc main_v25) = padW 226 (conv X (m ((c : Thread nD τ).loc main_arg3)) (m ((c : Thread nD τ).loc main_arg4))) := by
  obtain ⟨hh, hw, hb⟩ := prep1 (W4 m ρ c) X _ _ hx (W4_args m ρ c _ (by decide)) (W4_args m ρ c _ (by decide))
  exact (W6_arr m ρ c 4).trans (fin1 (V5 m ρ) c X _ _ ((W5_of m ρ c main_v13 (by decide)).trans hx) hh hw hb)

theorem layer3 (X : FVec Ideal ⟨4, ![12, 112, 112, 64]⟩ .f32) (hx : W7 m ρ c (Proc.devRef .tc main_v26) = padW 114 X) :
    W9 m ρ c (Proc.devRef .tc main_v38) = padW 114 (conv X (m ((c : Thread nD τ).loc main_arg5)) (m ((c : Thread nD τ).loc main_arg6))) := by
  obtain ⟨hh, hw, hb⟩ := prep3 (W7 m ρ c) X _ _ hx (W7_args m ρ c _ (by decide)) (W7_args m ρ c _ (by decide))
  exact (W9_arr m ρ c 4).trans (fin3 (V8 m ρ) c X _ _ ((W8_of m ρ c main_v26 (by decide)).trans hx) hh hw hb)

theorem layer4 (X : FVec Ideal ⟨4, ![12, 112, 112, 128]⟩ .f32) (hx : W9 m ρ c (Proc.devRef .tc main_v38) = padW 114 X) :
    W11 m ρ c (Proc.devRef .tc main_v50) = padW 114 (conv X (m ((c : Thread nD τ).loc main_arg7)) (m ((c : Thread nD τ).loc main_arg8))) := by
  obtain ⟨hh, hw, hb⟩ := prep4 (W9 m ρ c) X _ _ hx (W9_args m ρ c _ (by decide)) (W9_args m ρ c _ (by decide))
  exact (W11_arr m ρ c 4).trans (fin4 (V10 m ρ) c X _ _ ((W10_of m ρ c main_v38 (by decide)).trans hx) hh hw hb)

theorem layer6 (X : FVec Ideal ⟨4, ![12, 56, 56, 128]⟩ .f32) (hx : W12 m ρ c (Proc.devRef .tc main_v51) = padW 58 X) :
    W14 m ρ c (Proc.devRef .tc main_v63) = padW 58 (conv X (m ((c : Thread nD τ).loc main_arg9)) (m ((c : Thread nD τ).loc main_arg10))) := by
  obtain ⟨hh, hw, hb⟩ := prep6 (W12 m ρ c) X _ _ hx (W12_args m ρ c _ (by decide)) (W12_args m ρ c _ (by decide))
  exact (W14_arr m ρ c 4).trans (fin6 (V13 m ρ) c X _ _ ((W13_of m ρ c main_v51 (by decide)).trans hx) hh hw hb)

theorem layer7 (X : FVec Ideal ⟨4, ![12, 56, 56, 256]⟩ .f32) (hx : W14 m ρ c (Proc.devRef .tc main_v63) = padW 58 X) :
    W16 m ρ c (Proc.devRef .tc main_v75) = padW 58 (conv X (m ((c : Thread nD τ).loc main_arg11)) (m ((c : Thread nD τ).loc main_arg12))) := by
  obtain ⟨hh, hw, hb⟩ := prep7 (W14 m ρ c) X _ _ hx (W14_args m ρ c _ (by decide)) (W14_args m ρ c _ (by decide))
  exact (W16_arr m ρ c 4).trans (fin7 (V15 m ρ) c X _ _ ((W15_of m ρ c main_v63 (by decide)).trans hx) hh hw hb)

theorem layer8 (X : FVec Ideal ⟨4, ![12, 56, 56, 256]⟩ .f32) (hx : W16 m ρ c (Proc.devRef .tc main_v75) = padW 58 X) :
    W18 m ρ c (Proc.devRef .tc main_v87) = padW 58 (conv X (m ((c : Thread nD τ).loc main_arg13)) (m ((c : Thread nD τ).loc main_arg14))) := by
  obtain ⟨hh, hw, hb⟩ := prep8 (W16 m ρ c) X _ _ hx (W16_args m ρ c _ (by decide)) (W16_args m ρ c _ (by decide))
  exact (W18_arr m ρ c 4).trans (fin8 (V17 m ρ) c X _ _ ((W17_of m ρ c main_v75 (by decide)).trans hx) hh hw hb)

theorem start : W2 m ρ c (Proc.devRef .tc main_v1) = padW 226 (image (m ((c : Thread nD τ).loc main_arg0))) := by
  show StableHlo.after hostOps0_1 (W1 m ρ c) _ = _
  after_results
  exact (pad_cols (transpose S12x224x224x3 [0, 2, 3, 1] (m ((c : Thread nD τ).loc main_arg0)) transposes_S12x3x224x224_S12x224x224x3_0_2_3_1)
    (sitofp .f32 (constantI S_ 32 0#32)) zero_word pads_S12x224x224x3_S12x224x226x3_000_000_110_000 h_S_).trans
    (congrArg (padW 226) (transpose_image _ _))

/-- The first feature map. -/
def map0 : FVec Ideal ⟨4, ![12, 224, 224, 64]⟩ .f32 :=
  two (image (m ((c : Thread nD τ).loc main_arg0))) (m ((c : Thread nD τ).loc main_arg1)) (m ((c : Thread nD τ).loc main_arg2)) (m ((c : Thread nD τ).loc main_arg3)) (m ((c : Thread nD τ).loc main_arg4))
/-- The second feature map. -/
def map1 : FVec Ideal ⟨4, ![12, 112, 112, 128]⟩ .f32 :=
  two (pool 112 112 (map0 m c)) (m ((c : Thread nD τ).loc main_arg5)) (m ((c : Thread nD τ).loc main_arg6)) (m ((c : Thread nD τ).loc main_arg7)) (m ((c : Thread nD τ).loc main_arg8))
/-- The third feature map. -/
def map2 : FVec Ideal ⟨4, ![12, 56, 56, 256]⟩ .f32 :=
  three (pool 56 56 (map1 m c)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem at0 : W6 m ρ c (Proc.devRef .tc main_v25) = padW 226 (map0 m c) :=
  layer1 m ρ c _ (layer0 m ρ c _ (start m ρ c))

theorem at1 : W11 m ρ c (Proc.devRef .tc main_v50) = padW 114 (map1 m c) :=
  layer4 m ρ c _ (layer3 m ρ c _ ((W7_arr m ρ c 1).trans (fin2 (V6 m ρ) c _ (at0 m ρ c))))

theorem at2 : W18 m ρ c (Proc.devRef .tc main_v87) = padW 58 (map2 m c) :=
  layer8 m ρ c _ (layer7 m ρ c _ (layer6 m ρ c _ ((W12_arr m ρ c 1).trans (fin5 (V11 m ρ) c _ (at1 m ρ c)))))

theorem end1 : W18 m ρ c (Proc.devRef .tc main_v50) = padW 114 (map1 m c) :=
  ((W18_of m ρ c main_v50 (by decide)).trans ((W17_of m ρ c main_v50 (by decide)).trans ((W16_of m ρ c main_v50 (by decide)).trans ((W15_of m ρ c main_v50 (by decide)).trans ((W14_of m ρ c main_v50 (by decide)).trans ((W13_of m ρ c main_v50 (by decide)).trans ((W12_of m ρ c main_v50 (by decide)).trans (at1 m ρ c))))))))

theorem end0 : W18 m ρ c (Proc.devRef .tc main_v25) = padW 226 (map0 m c) :=
  ((W18_of m ρ c main_v25 (by decide)).trans ((W17_of m ρ c main_v25 (by decide)).trans ((W16_of m ρ c main_v25 (by decide)).trans ((W15_of m ρ c main_v25 (by decide)).trans ((W14_of m ρ c main_v25 (by decide)).trans ((W13_of m ρ c main_v25 (by decide)).trans ((W12_of m ρ c main_v25 (by decide)).trans ((W11_of m ρ c main_v25 (by decide)).trans ((W10_of m ρ c main_v25 (by decide)).trans ((W9_of m ρ c main_v25 (by decide)).trans ((W8_of m ρ c main_v25 (by decide)).trans ((W7_of m ρ c main_v25 (by decide)).trans (at0 m ρ c)))))))))))))

end Cert.KernelIdeal.Value
end
end
-- ==== Proof.KernelRun.lean ====
module
public import proofs.«01_k».proof.Proof.Gen.KernelIdeal.Frame
public import proofs.«01_k».proof.Proof.Chain
@[expose] public section
set_option maxRecDepth 16384
noncomputable section
namespace Cert.KernelIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Vgg

set_option backward.isDefEq.respectTransparency.types false in
/-- The program's run: its three results are the padded feature maps, its arguments unchanged. -/
theorem maps_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = padW 226 (map0 m c)
      ∧ r.2.mem ((c.tc : Thread nD τ).loc main_v50) = padW 114 (map1 m c)
      ∧ r.2.mem ((c.tc : Thread nD τ).loc main_v87) = padW 58 (map2 m c)
      ∧  r.2.mem ((c.tc : Thread nD τ).loc main_arg0) = m ((c.tc : Thread nD τ).loc main_arg0)
      ∧  r.2.mem ((c.tc : Thread nD τ).loc main_arg1) = m ((c.tc : Thread nD τ).loc main_arg1)
      ∧  r.2.mem ((c.tc : Thread nD τ).loc main_arg2) = m ((c.tc : Thread nD τ).loc main_arg2)
      ∧  r.2.mem ((c.tc : Thread nD τ).loc main_arg3) = m ((c.tc : Thread nD τ).loc main_arg3)
      ∧  r.2.mem ((c.tc : Thread nD τ).loc main_arg4) = m ((c.tc : Thread nD τ).loc main_arg4)
      ∧  r.2.mem ((c.tc : Thread nD τ).loc main_arg5) = m ((c.tc : Thread nD τ).loc main_arg5)
      ∧  r.2.mem ((c.tc : Thread nD τ).loc main_arg6) = m ((c.tc : Thread nD τ).loc main_arg6)
      ∧  r.2.mem ((c.tc : Thread nD τ).loc main_arg7) = m ((c.tc : Thread nD τ).loc main_arg7)
      ∧  r.2.mem ((c.tc : Thread nD τ).loc main_arg8) = m ((c.tc : Thread nD τ).loc main_arg8)
      ∧  r.2.mem ((c.tc : Thread nD τ).loc main_arg9) = m ((c.tc : Thread nD τ).loc main_arg9)
      ∧  r.2.mem ((c.tc : Thread nD τ).loc main_arg10) = m ((c.tc : Thread nD τ).loc main_arg10)
      ∧  r.2.mem ((c.tc : Thread nD τ).loc main_arg11) = m ((c.tc : Thread nD τ).loc main_arg11)
      ∧  r.2.mem ((c.tc : Thread nD τ).loc main_arg12) = m ((c.tc : Thread nD τ).loc main_arg12)
      ∧  r.2.mem ((c.tc : Thread nD τ).loc main_arg13) = m ((c.tc : Thread nD τ).loc main_arg13)
      ∧  r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ c =>
      ⟨(h c _ (mem_uc main_v25 (by decide))).trans (end0 m ρ c),
       (h c _ (mem_uc main_v50 (by decide))).trans (end1 m ρ c),
       (h c _ (mem_uc main_v87 (by decide))).trans (at2 m ρ c),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c)⟩)

end Cert.KernelIdeal.Value
end
end
-- ==== Proof.RefConv.lean ====
module
public import proofs.«01_k».proof.Proof.Net
public import proofs.«01_k».proof.Proof.Pool
@[expose] public section
open Idealize.ShloMosaic Idealize.ShloMosaic.ValueIdx
namespace Cert.Vgg
/-! The reference's layer: nine contractions of shifted inputs with the weights at a tap, the bias and the maximum with zero. -/

variable {N H W Hp Wp Ci Co : ℕ}

/-- The dimension numbers of the reference's contractions: the input's channels with the weights' second axis. -/
abbrev tapDims (wf : DotDims.WF ⟨4, ![N, H, W, Ci]⟩ ⟨2, ![Co, Ci]⟩ ⟨4, ![N, H, W, Co]⟩ [3] [1] [0, 1, 2] [0] [] []) :
    DotDims ⟨4, ![N, H, W, Ci]⟩ ⟨2, ![Co, Ci]⟩ ⟨4, ![N, H, W, Co]⟩ := ⟨[3], [1], [0, 1, 2], [0], [], [], wf⟩

/-- Such a contraction at an index. -/
theorem tap_dot (wf : DotDims.WF ⟨4, ![N, H, W, Ci]⟩ ⟨2, ![Co, Ci]⟩ ⟨4, ![N, H, W, Co]⟩ [3] [1] [0, 1, 2] [0] [] [])
    (A : FVec Ideal ⟨4, ![N, H, W, Ci]⟩ .f32) (B : FVec Ideal ⟨2, ![Co, Ci]⟩ .f32) (j : (⟨4, ![N, H, W, Co]⟩ : Shape).Idx) :
    Host.dotGeneral (tapDims wf) none A B j = ∑ i : Fin Ci, rd4 A (j 0) (j 1) (j 2) i * rd2 B (j 3) i := by
  show FloatOps.dotGeneral _ none _ A B j = _
  rw [Ideal.dotGeneral_apply, ← Equiv.sum_comp (contrEquiv1 (tapDims wf) Ci rfl rfl).symm]
  refine Finset.sum_congr rfl fun i _ => ?_
  have c3 := contrEquiv1_symm_val (tapDims wf) Ci rfl rfl i
  refine congrArg₂ (· * ·) (eq_rd4 A _ ?_ ?_ ?_ ?_) (eq_rd2 B _ ?_ ?_)
  · simp [DotDims.lhsIdx]; rfl
  · simp [DotDims.lhsIdx]; rfl
  · simp [DotDims.lhsIdx]; rfl
  · simp [DotDims.lhsIdx]; exact c3
  · simp [DotDims.rhsIdx]; rfl
  · simp [DotDims.rhsIdx]; exact c3

/-- One tap of the reference: the contraction of the input shifted by the tap's place with the weights there. -/
theorem ref_tap (x : (⟨4, ![N, H, W, Ci]⟩ : Shape).Idx → EReal) (xp : FVec Ideal ⟨4, ![N, Hp, Wp, Ci]⟩ .f32) (hH : Hp = H + 2) (hW : Wp = W + 2)
    (hx : ∀ n p q i, n < N → p < Hp → q < Wp → i < Ci → rd4 xp n p q i = rdp x n p q i) (w : FVec Ideal ⟨4, ![Co, Ci, 3, 3]⟩ .f32)
    (wf : DotDims.WF ⟨4, ![N, H, W, Ci]⟩ ⟨2, ![Co, Ci]⟩ ⟨4, ![N, H, W, Co]⟩ [3] [1] [0, 1, 2] [0] [] [])
    (D : DotDims ⟨4, ![N, H, W, Ci]⟩ ⟨2, ![Co, Ci]⟩ ⟨4, ![N, H, W, Co]⟩) (hD : D = tapDims wf) (dy dx : Fin 3)
    (hs : (⟨4, ![N, Hp, Wp, Ci]⟩ : Shape).Slices ![0, dy.val, dx.val, 0] ⟨4, ![N, H, W, Ci]⟩)
    (ht : (⟨4, ![Co, Ci, 3, 3]⟩ : Shape).Slices ![0, 0, dy.val, dx.val] ⟨4, ![Co, Ci, 1, 1]⟩)
    (hc : (⟨4, ![Co, Ci, 1, 1]⟩ : Shape).ShapeCasts ⟨2, ![Co, Ci]⟩) (j : (⟨4, ![N, H, W, Co]⟩ : Shape).Idx) :
    Host.dotGeneral D none (extractStridedSlice ⟨4, ![N, H, W, Ci]⟩ ![0, dy.val, dx.val, 0] xp hs)
        (shapeCast ⟨2, ![Co, Ci]⟩ (extractStridedSlice ⟨4, ![Co, Ci, 1, 1]⟩ ![0, 0, dy.val, dx.val] w ht) hc) j
      = ∑ i : Fin Ci, rdp x (j 0) (j 1 + dy) (j 2 + dx) i * rd4 w (j 3) i dy dx := by
  subst hD
  rw [tap_dot]
  have l0 : (j 0).val < N := (j 0).isLt
  have l1 : (j 1).val < H := (j 1).isLt
  have l2 : (j 2).val < W := (j 2).isLt
  have l3 : (j 3).val < Co := (j 3).isLt
  refine Finset.sum_congr rfl fun i _ => congrArg₂ (· * ·) ?_ ?_
  · rw [rd4_in _ l0 l1 l2 i.isLt, ← hx _ _ _ _ l0 (by omega) (by omega) i.isLt]
    refine eq_rd4 xp _ ?_ ?_ ?_ ?_
    · exact Nat.zero_add _
    · exact Nat.add_comm _ _
    · exact Nat.add_comm _ _
    · exact Nat.zero_add _
  · rw [rd2_in _ l3 i.isLt]
    refine (shapeCast_apply _ hc _ (fun a => match a with
      | ⟨0, _⟩ => (⟨(j 3).val, l3⟩ : Fin Co) | ⟨1, _⟩ => (i : Fin Ci) | ⟨2, _⟩ => (0 : Fin 1) | ⟨3, _⟩ => (0 : Fin 1)) ?_).trans (eq_rd4 w _ ?_ ?_ ?_ ?_)
    · rw [Shape.rowMajor_val_two, Shape.rowMajor_val_four]
      show (((j 3).val * Ci + i.val) * 1 + 0) * 1 + 0 = (j 3).val * Ci + i.val
      omega
    · exact Nat.zero_add _
    · exact Nat.zero_add _
    · rfl
    · rfl

/-- Nine terms added one after another to a zero are the double sum over the taps. -/
theorem nine (f : Fin 3 → Fin 3 → EReal) :
    0 + f 0 0 + f 0 1 + f 0 2 + f 1 0 + f 1 1 + f 1 2 + f 2 0 + f 2 1 + f 2 2 = ∑ dy : Fin 3, ∑ dx : Fin 3, f dy dx := by
  simp only [Fin.sum_univ_three, zero_add, add_assoc]

/-- An array padded by one row and one column of zeros all round, read at coordinates. -/
def Padded (x : (⟨4, ![N, H, W, Ci]⟩ : Shape).Idx → EReal) (xp : (⟨4, ![N, Hp, Wp, Ci]⟩ : Shape).Idx → EReal) : Prop :=
  ∀ n p q i, n < N → p < Hp → q < Wp → i < Ci → rd4 xp n p q i = rdp x n p q i

/-- The host's padding of an array known as another. -/
theorem padded_pad (x y : FVec Ideal ⟨4, ![N, H, W, Ci]⟩ .f32) (hy : y = x)
    (h : (⟨4, ![N, H, W, Ci]⟩ : Shape).Pads ![0, 1, 1, 0] ![0, 1, 1, 0] ![0, 0, 0, 0] ⟨4, ![N, Hp, Wp, Ci]⟩)
    (hu : 0 < (⟨0, ![]⟩ : Shape).numel) :
    Padded x (pad ⟨4, ![N, Hp, Wp, Ci]⟩ ![0, 1, 1, 0] ![0, 1, 1, 0] ![0, 0, 0, 0] y (sitofp (F := Ideal) .f32 (constantI ⟨0, ![]⟩ 32 0#32)) h hu) := by
  subst hy
  exact fun n p q i hn hp hq hi => pad_all _ _ zero_word h hu hn hp hq hi

/-- The windows of a padded input at the nine places fit. -/
theorem places (hH : Hp = H + 2) (hW : Wp = W + 2) (dy dx : Fin 3) :
    (⟨4, ![N, Hp, Wp, Ci]⟩ : Shape).Slices ![0, dy.val, dx.val, 0] ⟨4, ![N, H, W, Ci]⟩ := by
  have := dy.isLt
  have := dx.isLt
  refine ⟨rfl, fun l => ?_⟩
  match l with
  | 0 => exact (Nat.zero_add N).le
  | 1 => show dy.val + H ≤ Hp; omega
  | 2 => show dx.val + W ≤ Wp; omega
  | 3 => exact (Nat.zero_add Ci).le

/-- The weights at a tap are a window of the weights. -/
theorem weight_places (dy dx : Fin 3) :
    (⟨4, ![Co, Ci, 3, 3]⟩ : Shape).Slices ![0, 0, dy.val, dx.val] ⟨4, ![Co, Ci, 1, 1]⟩ := by
  have := dy.isLt
  have := dx.isLt
  refine ⟨rfl, fun l => ?_⟩
  match l with
  | 0 => exact (Nat.zero_add Co).le
  | 1 => exact (Nat.zero_add Ci).le
  | 2 => show dy.val + 1 ≤ 3; omega
  | 3 => show dx.val + 1 ≤ 3; omega

/-- The bias laid along the channels. -/
theorem ref_bias (b : FVec Ideal ⟨1, ![Co]⟩ .f32) (h1 : (⟨1, ![Co]⟩ : Shape).BroadcastsInDim ⟨4, ![1, 1, 1, Co]⟩ ![3])
    (h2 : (⟨4, ![1, 1, 1, Co]⟩ : Shape).BroadcastsInDim ⟨4, ![N, H, W, Co]⟩ ![0, 1, 2, 3]) (j : (⟨4, ![N, H, W, Co]⟩ : Shape).Idx) :
    broadcastInDim ⟨4, ![N, H, W, Co]⟩ ![0, 1, 2, 3] h2 (broadcastInDim ⟨4, ![1, 1, 1, Co]⟩ ![3] h1 b) j = rd1 b (j 3) := by
  have l3 : (j 3).val < Co := (j 3).isLt
  refine (broadcastInDim_apply _ h2 _ j (fun a => match a with
    | ⟨0, _⟩ => (0 : Fin 1) | ⟨1, _⟩ => (0 : Fin 1) | ⟨2, _⟩ => (0 : Fin 1) | ⟨3, _⟩ => (⟨(j 3).val, l3⟩ : Fin Co)) fun a => ?_).trans
    ((broadcastInDim_apply _ h1 b _ (fun a => match a with | ⟨0, _⟩ => (⟨(j 3).val, l3⟩ : Fin Co)) fun a => ?_).trans (eq_rd1 b _ rfl))
  · match a with
    | ⟨0, _⟩ => rfl
    | ⟨1, _⟩ => rfl
    | ⟨2, _⟩ => rfl
    | ⟨3, _⟩ =>
      show (j 3).val = if Co = 1 then 0 else (j 3).val
      split <;> omega
  · match a with
    | ⟨0, _⟩ =>
      show (j 3).val = if Co = 1 then 0 else (j 3).val
      split <;> omega

/-- A tap's term. -/
noncomputable abbrev tapTerm (D : DotDims ⟨4, ![N, H, W, Ci]⟩ ⟨2, ![Co, Ci]⟩ ⟨4, ![N, H, W, Co]⟩) (xp : FVec Ideal ⟨4, ![N, Hp, Wp, Ci]⟩ .f32)
    (w : FVec Ideal ⟨4, ![Co, Ci, 3, 3]⟩ .f32) (hH : Hp = H + 2) (hW : Wp = W + 2)
    (hc : (⟨4, ![Co, Ci, 1, 1]⟩ : Shape).ShapeCasts ⟨2, ![Co, Ci]⟩) (dy dx : Fin 3) : FVec Ideal ⟨4, ![N, H, W, Co]⟩ .f32 :=
  Host.dotGeneral D none (extractStridedSlice ⟨4, ![N, H, W, Ci]⟩ ![0, dy.val, dx.val, 0] xp (places hH hW dy dx))
    (shapeCast ⟨2, ![Co, Ci]⟩ (extractStridedSlice ⟨4, ![Co, Ci, 1, 1]⟩ ![0, 0, dy.val, dx.val] w (weight_places dy dx)) hc)

/-- A layer of the reference. -/
theorem ref_conv (x : (⟨4, ![N, H, W, Ci]⟩ : Shape).Idx → EReal) (xp : FVec Ideal ⟨4, ![N, Hp, Wp, Ci]⟩ .f32)
    (w : FVec Ideal ⟨4, ![Co, Ci, 3, 3]⟩ .f32) (b : FVec Ideal ⟨1, ![Co]⟩ .f32) (hx : Padded x xp) (hH : Hp = H + 2) (hW : Wp = W + 2)
    (wf : DotDims.WF ⟨4, ![N, H, W, Ci]⟩ ⟨2, ![Co, Ci]⟩ ⟨4, ![N, H, W, Co]⟩ [3] [1] [0, 1, 2] [0] [] [])
    (D : DotDims ⟨4, ![N, H, W, Ci]⟩ ⟨2, ![Co, Ci]⟩ ⟨4, ![N, H, W, Co]⟩) (hD : D = tapDims wf)
    (hc : (⟨4, ![Co, Ci, 1, 1]⟩ : Shape).ShapeCasts ⟨2, ![Co, Ci]⟩)
    (h0 : (⟨0, ![]⟩ : Shape).BroadcastsInDim ⟨4, ![N, H, W, Co]⟩ ![])
    (h1 : (⟨1, ![Co]⟩ : Shape).BroadcastsInDim ⟨4, ![1, 1, 1, Co]⟩ ![3])
    (h2 : (⟨4, ![1, 1, 1, Co]⟩ : Shape).BroadcastsInDim ⟨4, ![N, H, W, Co]⟩ ![0, 1, 2, 3]) :
    maximumf (addf (addf (addf (addf (addf (addf (addf (addf (addf (addf
        (broadcastInDim ⟨4, ![N, H, W, Co]⟩ ![] h0 (constant (F := Ideal) ⟨0, ![]⟩ .f32 0x00000000#32))
        (tapTerm D xp w hH hW hc 0 0)) (tapTerm D xp w hH hW hc 0 1)) (tapTerm D xp w hH hW hc 0 2)) (tapTerm D xp w hH hW hc 1 0))
        (tapTerm D xp w hH hW hc 1 1)) (tapTerm D xp w hH hW hc 1 2)) (tapTerm D xp w hH hW hc 2 0)) (tapTerm D xp w hH hW hc 2 1))
        (tapTerm D xp w hH hW hc 2 2))
        (broadcastInDim ⟨4, ![N, H, W, Co]⟩ ![0, 1, 2, 3] h2 (broadcastInDim ⟨4, ![1, 1, 1, Co]⟩ ![3] h1 b)))
        (broadcastInDim ⟨4, ![N, H, W, Co]⟩ ![] h0 (constant (F := Ideal) ⟨0, ![]⟩ .f32 0x00000000#32))
      = conv x w b := by
  funext j
  have ht : ∀ dy dx, tapTerm D xp w hH hW hc dy dx j = ∑ i : Fin Ci, rdp x (j 0) (j 1 + dy) (j 2 + dx) i * rd4 w (j 3) i dy dx := fun dy dx =>
    ref_tap x xp hH hW hx w wf D hD dy dx _ _ hc j
  have hz : broadcastInDim ⟨4, ![N, H, W, Co]⟩ ![] h0 (constant (F := Ideal) ⟨0, ![]⟩ .f32 0x00000000#32) j = (0 : EReal) := Ideal.ofBits_zero_f32
  have hb := ref_bias b h1 h2 j
  have e := nine fun dy dx => tapTerm D xp w hH hW hc dy dx j
  show max (_ + tapTerm D xp w hH hW hc 0 0 j + tapTerm D xp w hH hW hc 0 1 j + tapTerm D xp w hH hW hc 0 2 j + tapTerm D xp w hH hW hc 1 0 j
    + tapTerm D xp w hH hW hc 1 1 j + tapTerm D xp w hH hW hc 1 2 j + tapTerm D xp w hH hW hc 2 0 j + tapTerm D xp w hH hW hc 2 1 j
    + tapTerm D xp w hH hW hc 2 2 j + _) _ = _
  rw [hz, hb, e]
  simp only [ht]
  rfl

/-- The reference's two-by-two maximum, of an array known as another. -/
theorem ref_pool {h' w' : ℕ} (x y : FVec Ideal ⟨4, ![N, H, W, Ci]⟩ .f32) (hy : y = x) (hH : H = h' * 2) (hW : W = w' * 2)
    (hb : (⟨0, ![]⟩ : Shape).BroadcastsInDim ⟨0, ![]⟩ ![])
    (h : (⟨4, ![N, H, W, Ci]⟩ : Shape).ReduceWindows ![1, 2, 2, 1] ![1, 2, 2, 1] ![0, 0, 0, 0] ![0, 0, 0, 0] ⟨4, ![N, h', w', Ci]⟩)
    (hu : 0 < (⟨0, ![]⟩ : Shape).numel) :
    Host.reduceWindow (t := ⟨4, ![N, h', w', Ci]⟩) (FloatOps.maximumf (F := Ideal) (φ := .f32)) ![1, 2, 2, 1] ![1, 2, 2, 1] ![0, 0, 0, 0] ![0, 0, 0, 0] y
        (broadcastInDim ⟨0, ![]⟩ ![] hb (constant (F := Ideal) ⟨0, ![]⟩ .f32 0xFF800000#32)) h hu
      = pool h' w' x := by
  subst hy
  exact window_pool _ hH hW _ (fun _ => ofBits_bot) h hu

/-- The host's padding of an array known as another. -/
theorem cols {N H W Wp C : ℕ} {x y : FVec Ideal ⟨4, ![N, H, W, C]⟩ .f32} (hy : y = x)
    (h : (⟨4, ![N, H, W, C]⟩ : Shape).Pads ![0, 0, 1, 0] ![0, 0, 1, 0] ![0, 0, 0, 0] ⟨4, ![N, H, Wp, C]⟩) (hu : 0 < (⟨0, ![]⟩ : Shape).numel) :
    pad ⟨4, ![N, H, Wp, C]⟩ ![0, 0, 1, 0] ![0, 0, 1, 0] ![0, 0, 0, 0] y (sitofp (F := Ideal) .f32 (constantI ⟨0, ![]⟩ 32 0#32)) h hu = padW Wp x := by
  subst hy
  exact pad_cols _ _ zero_word h hu

end Cert.Vgg
end
-- ==== Proof.RefNet.lean ====
module
public import proofs.«01_k».proof.Proof.Gen.ReferenceIdeal.Run
public import proofs.«01_k».proof.Proof.RefConv
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Vgg
/-! The reference's terms, layer by layer, as the three feature maps. -/

variable (V0 : Valuation τ sig (Elt Ideal))

/-- The first feature map. -/
def map0 : FVec Ideal ⟨4, ![12, 224, 224, 64]⟩ .f32 :=
  two (image (V0 (Proc.devRef .tc main_arg0))) (V0 (Proc.devRef .tc main_arg1)) (V0 (Proc.devRef .tc main_arg2)) (V0 (Proc.devRef .tc main_arg3)) (V0 (Proc.devRef .tc main_arg4))
/-- The second feature map. -/
def map1 : FVec Ideal ⟨4, ![12, 112, 112, 128]⟩ .f32 :=
  two (pool 112 112 (map0 V0)) (V0 (Proc.devRef .tc main_arg5)) (V0 (Proc.devRef .tc main_arg6)) (V0 (Proc.devRef .tc main_arg7)) (V0 (Proc.devRef .tc main_arg8))
/-- The third feature map. -/
def map2 : FVec Ideal ⟨4, ![12, 56, 56, 256]⟩ .f32 :=
  three (pool 56 56 (map1 V0)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14))

theorem term1 : Padded (image (V0 (Proc.devRef .tc main_arg0))) (res_main_v1 V0) := by
  unfold res_main_v1
  exact padded_pad _ _ (transpose_image _ _) _ _

theorem term53 : Padded (conv (image (V0 (Proc.devRef .tc main_arg0))) (V0 (Proc.devRef .tc main_arg1)) (V0 (Proc.devRef .tc main_arg2))) (res_main_v53 V0) := by
  unfold res_main_v53
  exact padded_pad _ _ (ref_conv _ (res_main_v1 V0) (V0 (Proc.devRef .tc main_arg1)) (V0 (Proc.devRef .tc main_arg2)) (term1 V0) rfl rfl dot_S12x224x224x3_S64x3_S12x224x224x64_3_1_012_0_n_n.wf dot_S12x224x224x3_S64x3_S12x224x224x64_3_1_012_0_n_n rfl _ _ _ _) _ _

theorem term104 : res_main_v104 V0 = map0 V0 := by
  unfold res_main_v104
  exact ref_conv _ (res_main_v53 V0) (V0 (Proc.devRef .tc main_arg3)) (V0 (Proc.devRef .tc main_arg4)) (term53 V0) rfl rfl dot_S12x224x224x64_S64x64_S12x224x224x64_3_1_012_0_n_n.wf dot_S12x224x224x64_S64x64_S12x224x224x64_3_1_012_0_n_n rfl _ _ _ _

theorem term107 : Padded (pool 112 112 (map0 V0)) (res_main_v107 V0) := by
  unfold res_main_v107
  exact padded_pad _ _ (ref_pool _ _ (term104 V0) rfl rfl _ _ _) _ _

theorem term159 : Padded (conv (pool 112 112 (map0 V0)) (V0 (Proc.devRef .tc main_arg5)) (V0 (Proc.devRef .tc main_arg6))) (res_main_v159 V0) := by
  unfold res_main_v159
  exact padded_pad _ _ (ref_conv _ (res_main_v107 V0) (V0 (Proc.devRef .tc main_arg5)) (V0 (Proc.devRef .tc main_arg6)) (term107 V0) rfl rfl dot_S12x112x112x64_S128x64_S12x112x112x128_3_1_012_0_n_n.wf dot_S12x112x112x64_S128x64_S12x112x112x128_3_1_012_0_n_n rfl _ _ _ _) _ _

theorem term210 : res_main_v210 V0 = map1 V0 := by
  unfold res_main_v210
  exact ref_conv _ (res_main_v159 V0) (V0 (Proc.devRef .tc main_arg7)) (V0 (Proc.devRef .tc main_arg8)) (term159 V0) rfl rfl dot_S12x112x112x128_S128x128_S12x112x112x128_3_1_012_0_n_n.wf dot_S12x112x112x128_S128x128_S12x112x112x128_3_1_012_0_n_n rfl _ _ _ _

theorem term213 : Padded (pool 56 56 (map1 V0)) (res_main_v213 V0) := by
  unfold res_main_v213
  exact padded_pad _ _ (ref_pool _ _ (term210 V0) rfl rfl _ _ _) _ _

theorem term265 : Padded (conv (pool 56 56 (map1 V0)) (V0 (Proc.devRef .tc main_arg9)) (V0 (Proc.devRef .tc main_arg10))) (res_main_v265 V0) := by
  unfold res_main_v265
  exact padded_pad _ _ (ref_conv _ (res_main_v213 V0) (V0 (Proc.devRef .tc main_arg9)) (V0 (Proc.devRef .tc main_arg10)) (term213 V0) rfl rfl dot_S12x56x56x128_S256x128_S12x56x56x256_3_1_012_0_n_n.wf dot_S12x56x56x128_S256x128_S12x56x56x256_3_1_012_0_n_n rfl _ _ _ _) _ _

theorem term317 : Padded (two (pool 56 56 (map1 V0)) (V0 (Proc.devRef .tc main_arg9)) (V0 (Proc.devRef .tc main_arg10)) (V0 (Proc.devRef .tc main_arg11)) (V0 (Proc.devRef .tc main_arg12))) (res_main_v317 V0) := by
  unfold res_main_v317
  exact padded_pad _ _ (ref_conv _ (res_main_v265 V0) (V0 (Proc.devRef .tc main_arg11)) (V0 (Proc.devRef .tc main_arg12)) (term265 V0) rfl rfl dot_S12x56x56x256_S256x256_S12x56x56x256_3_1_012_0_n_n.wf dot_S12x56x56x256_S256x256_S12x56x56x256_3_1_012_0_n_n rfl _ _ _ _) _ _

/-- The reference's run: its three results are the padded feature maps, its arguments unchanged. -/
theorem maps_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v369) = padW 226 (map0 (StableHlo.launchContents m c))
      ∧ r.2.mem ((c.tc : Thread nD τ).loc main_v370) = padW 114 (map1 (StableHlo.launchContents m c))
      ∧ r.2.mem ((c.tc : Thread nD τ).loc main_v371) = padW 58 (map2 (StableHlo.launchContents m c))
      ∧  r.2.mem ((c.tc : Thread nD τ).loc main_arg0) = m ((c.tc : Thread nD τ).loc main_arg0)
      ∧  r.2.mem ((c.tc : Thread nD τ).loc main_arg1) = m ((c.tc : Thread nD τ).loc main_arg1)
      ∧  r.2.mem ((c.tc : Thread nD τ).loc main_arg2) = m ((c.tc : Thread nD τ).loc main_arg2)
      ∧  r.2.mem ((c.tc : Thread nD τ).loc main_arg3) = m ((c.tc : Thread nD τ).loc main_arg3)
      ∧  r.2.mem ((c.tc : Thread nD τ).loc main_arg4) = m ((c.tc : Thread nD τ).loc main_arg4)
      ∧  r.2.mem ((c.tc : Thread nD τ).loc main_arg5) = m ((c.tc : Thread nD τ).loc main_arg5)
      ∧  r.2.mem ((c.tc : Thread nD τ).loc main_arg6) = m ((c.tc : Thread nD τ).loc main_arg6)
      ∧  r.2.mem ((c.tc : Thread nD τ).loc main_arg7) = m ((c.tc : Thread nD τ).loc main_arg7)
      ∧  r.2.mem ((c.tc : Thread nD τ).loc main_arg8) = m ((c.tc : Thread nD τ).loc main_arg8)
      ∧  r.2.mem ((c.tc : Thread nD τ).loc main_arg9) = m ((c.tc : Thread nD τ).loc main_arg9)
      ∧  r.2.mem ((c.tc : Thread nD τ).loc main_arg10) = m ((c.tc : Thread nD τ).loc main_arg10)
      ∧  r.2.mem ((c.tc : Thread nD τ).loc main_arg11) = m ((c.tc : Thread nD τ).loc main_arg11)
      ∧  r.2.mem ((c.tc : Thread nD τ).loc main_arg12) = m ((c.tc : Thread nD τ).loc main_arg12)
      ∧  r.2.mem ((c.tc : Thread nD τ).loc main_arg13) = m ((c.tc : Thread nD τ).loc main_arg13)
      ∧  r.2.mem ((c.tc : Thread nD τ).loc main_arg14) = m ((c.tc : Thread nD τ).loc main_arg14) := by
  refine (θ_run (defs (F := Ideal)) _ _).mono (fun r h c => ?_) (run m ρ)
  obtain ⟨h0, h1, h2, ha⟩ := h c
  refine ⟨h0.trans (cols (term104 _) _ _), h1.trans (cols (term210 _) _ _), h2.trans (cols ?_ _ _), ha⟩
  exact ref_conv _ (res_main_v317 (StableHlo.launchContents m c)) (StableHlo.launchContents m c (Proc.devRef .tc main_arg13)) (StableHlo.launchContents m c (Proc.devRef .tc main_arg14)) (term317 (StableHlo.launchContents m c)) rfl rfl dot_S12x56x56x256_S256x256_S12x56x56x256_3_1_012_0_n_n.wf dot_S12x56x56x256_S256x256_S12x56x56x256_3_1_012_0_n_n rfl _ _ _ _

end Cert.ReferenceIdeal.Value
end
end
-- ==== Proof.Inside.lean ====
module
public import proofs.«01_k».proof.Proof.Pool
@[expose] public section
open Idealize.ShloMosaic
namespace Cert.Vgg
/-! The inside of an array between its two outer columns, whatever they hold. -/

/-- The array without its first and last column. -/
noncomputable def inside {N H Wp C : ℕ} (W : ℕ) (u : (⟨4, ![N, H, Wp, C]⟩ : Shape).Idx → EReal) : (⟨4, ![N, H, W, C]⟩ : Shape).Idx → EReal :=
  fun j => rd4 u (j 0) (j 1) (1 + (j 2)) (j 3)

/-- The pooling body's load between the outer columns of its block. -/
theorem ld_within {N H W b c d : ℕ} (u : (⟨4, ![N, H, c, d]⟩ : Shape).Idx → EReal) (v : FVec Ideal ⟨4, ![1, b, c, d]⟩ .f32)
    {n base : ℕ} (hW : c = W + 2) (hn : n < N) (hb : base + b ≤ H)
    (hv : ∀ r q i, r < b → q < c → i < d → rd4 v 0 r q i = rd4 u n (base + r) q i)
    (inb : ∀ l, (![0, 0, 1, 0] : Fin 4 → ℕ) l + (![1, b, W, d] : Fin 4 → ℕ) l ≤ (⟨4, ![1, b, c, d]⟩ : Shape).size l) {r q i : ℕ}
    (hr : r < b) (hq : q < W) (hi : i < d) :
    rd4 (View.ld (Val := Elt Ideal) (e' := .f32) v (Rect.unit (s := ⟨4, ![1, b, c, d]⟩) ![0, 0, 1, 0] ![1, b, W, d] inb)
        : FVec Ideal ⟨4, ![1, b, W, d]⟩ .f32) 0 r q i = rd4 (inside W u) n (base + r) q i := by
  rw [ld_rd4 _ _ _ Nat.one_pos hr hq hi, rd4_in (inside W u) hn (by omega) hq hi]
  show rd4 v (0 + 0) (0 + r) (1 + q) (0 + i) = rd4 u n (base + r) (1 + q) i
  rw [Nat.zero_add, Nat.zero_add, Nat.zero_add, hv _ _ _ hr (by omega) hi]

/-- The host's slice between the outer columns. -/
theorem slice_inside {N H Wp W C : ℕ} (u : FVec Ideal ⟨4, ![N, H, Wp, C]⟩ .f32)
    (h : (⟨4, ![N, H, Wp, C]⟩ : Shape).Slices ![0, 0, 1, 0] ⟨4, ![N, H, W, C]⟩) :
    extractStridedSlice ⟨4, ![N, H, W, C]⟩ ![0, 0, 1, 0] u h = inside W u := by
  funext j
  exact eq_rd4 u _ (Nat.zero_add _) (Nat.zero_add _) rfl (Nat.zero_add _)

end Cert.Vgg
end
-- ==== Proof.Tail.lean ====
module
public import proofs.«01_k».proof.Proof.Gen.Kernel2Ideal.Frame
public import proofs.«01_k».proof.Proof.Prep
public import proofs.«01_k».proof.Proof.Inside
@[expose] public section
set_option maxRecDepth 16384
open Idealize.ShloMosaic Idealize.ShloMosaic.TcCoe Idealize.SL.Sem
open Idealize.ShloMosaic.Pipeline (Dat)
namespace Cert.Kernel2Ideal.Value
open Cert.Kernel2Ideal Cert.Kernel2Ideal.Gen Cert.Vgg
/-! The second program's calls: the pooling call, and the three layers whose body takes one product a tap; and what the host code leaves for each layer. -/

variable (V : (c : Dev nD) → (b : Ref sig .tc) → (Proc.devRef .tc b : DevRef τ sig).ty.Contents (Elt Ideal))

/-! ## The pooling -/

theorem idx0 : ∀ t : Fin cfg0.N, win0_0.index t = ![t.val / 2, t.val % 2, 0, 0] ∧ win0_1.index t = ![t.val / 2, t.val % 2, 0, 0] :=
  (by decide +kernel : ∀ t : Fin grid0.N, _)

theorem in0_0 (c : Dev nD) (t : Fin cfg0.N) {r q i : ℕ} (hr : r < 28) (hq : q < 58) (hi : i < 256) :
    rd4 (iblk0 V c 0 t) 0 r q i = rd4 (V c main_arg0) (t.val / 2) (t.val % 2 * 28 + r) q i := by
  rw [rd4_in _ Nat.one_pos hr hq hi]
  blk_simp [iblk0]
  refine eq_rd4 _ _ ?_ ?_ ?_ ?_ <;> blk_simp [idx0 t] <;> rfl

theorem fin0 (c : Dev nD) :
    (dat0 (F := Ideal) V c).arrAt 1 cfg0.N = padW 30 (pool 28 28 (inside 56 (V c main_arg0))) := by
  refine (dat0 V c).arrAt_eq_of_covers 1 _ (by decide +kernel) fun t _ y => ?_
  have ht : t.val < 24 := t.isLt
  have hn : t.val / 2 < 12 := by omega
  blk_simp
  rw [after0_1]; unfold outsAt0; frame_out
  refine padded_block (n := t.val / 2) (base := t.val % 2 * 14) (pool 28 28 (inside 56 (V c main_arg0))) y _ rfl rfl _ _ _ _ _ _
    (fun _ => Ideal.ofBits_zero_f32) (fun _ => Ideal.ofBits_zero_f32) (fun r q o hr hq ho => ?_) (by blk_simp [idx0 t])
    (by blk_simp [idx0 t]) (by blk_simp [idx0 t]) (by blk_simp [idx0 t])
  rw [rd4_pool _ hn (by omega) hq ho]
  refine pool_block (inside 56 (V c main_arg0)) rfl rfl _ (fun r q i hr hq hi => ?_) _ _ _ _ _ _ _ _ _ _ hr hq ho
  rw [show 2 * (t.val % 2 * 14) = t.val % 2 * 28 by omega]
  exact ld_within (V c main_arg0) _ rfl hn (by omega) (fun r q i hr hq hi => in0_0 V c t hr hq hi) _ hr hq hi

/-! ## The first layer -/

theorem idx1 : ∀ t : Fin cfg1.N, win1_0.index t = ![t.val, 0, 0, 0] ∧ win1_1.index t = ![t.val, 0, 0, 0, 0]
    ∧ win1_2.index t = ![0, 0, 0] ∧ win1_3.index t = ![0, 0] ∧ win1_4.index t = ![t.val, 0, 0, 0] :=
  (by decide +kernel : ∀ t : Fin grid1.N, _)

theorem in1_0 (c : Dev nD) (t : Fin cfg1.N) {r q i : ℕ} (hr : r < 28) (hq : q < 30) (hi : i < 256) :
    rd4 (iblk1 V c 0 t) 0 r q i = rd4 (V c main_v0) (t.val) (0 * 28 + r) q i := by
  rw [rd4_in _ Nat.one_pos hr hq hi]
  blk_simp [iblk1]
  refine eq_rd4 _ _ ?_ ?_ ?_ ?_ <;> blk_simp [idx1 t] <;> rfl

theorem in1_1 (c : Dev nD) (t : Fin cfg1.N) {k q i : ℕ} (hk : k < 2) (hq : q < 30) (hi : i < 256) :
    rd5 (iblk1 V c 1 t) 0 0 k q i = rd5 (V c main_v6) (t.val) (0) k q i := by
  rw [rd5_in _ Nat.one_pos Nat.one_pos hk hq hi]
  blk_simp [iblk1]
  refine eq_rd5 _ _ ?_ ?_ ?_ ?_ ?_ <;> blk_simp [idx1 t] <;> rfl

theorem in1_2 (c : Dev nD) (t : Fin cfg1.N) : iblk1 V c 2 t = V c main_v2 := by
  funext z; blk_simp [iblk1]; exact congrArg (V c main_v2) (by blk_ext [idx1 t])

theorem in1_3 (c : Dev nD) (t : Fin cfg1.N) : iblk1 V c 3 t = V c main_v7 := by
  funext z; blk_simp [iblk1]; exact congrArg (V c main_v7) (by blk_ext [idx1 t])

theorem fin1 (c : Dev nD) (X : FVec Ideal ⟨4, ![12, 28, 28, 256]⟩ .f32) (w : FVec Ideal S512x256x3x3 .f32) (b : FVec Ideal S512 .f32)
    (hx : V c main_v0 = padW 30 X) (hh : IsHalo (R := 1) (Wp := 30) 28 X (V c main_v6))
    (hw : ∀ (dy dx : Fin 3) (i : Fin 256) o, o < 512 → rd3 (V c main_v2) (dy * 3 + dx) i o = rd4 w o i dy dx)
    (hb : ∀ o, o < 512 → rd2 (V c main_v7) 0 o = rd1 b o) : (dat1 (F := Ideal) V c).arrAt 4 cfg1.N = padW 30 (conv X w b) := by
  refine (dat1 V c).arrAt_eq_of_covers 4 _ (by decide +kernel) fun t _ y => ?_
  have ht : t.val < 12 := t.isLt
  have hn : t.val < 12 := by omega
  have hρ : 0 < 1 := by omega
  blk_simp
  rw [after1_4]; unfold outsAt1; frame_out
  refine padded_block (n := t.val) (base := 0 * 28) (conv X w b) y _ rfl rfl _ _ _ _ _ _ (fun _ => Ideal.ofBits_zero_f32)
    (fun _ => Ideal.ofBits_zero_f32) (fun r q o hr hq ho => ?_) (by blk_simp [idx1 t]) (by blk_simp [idx1 t]) (by blk_simp [idx1 t])
    (by blk_simp [idx1 t])
  rw [rd4_conv _ _ _ hn (by omega) hq ho, in1_2, in1_3]
  exact taps_block X w b rfl rfl rfl _ _ _ _ _ _ _ _ _ _ _ _ _ (fun r q i hr hq hi =>
    halo_block X (V c main_v0) (V c main_v6) _ _ _ hn hρ rfl hx hh
      (fun q i hq hi => (ld_halo _ _ _ hq hi).trans (in1_1 V c t Nat.two_pos hq hi)) (fun r q i hr hq hi => in1_0 V c t hr hq hi)
      (fun q i hq hi => (ld_halo _ _ _ hq hi).trans (in1_1 V c t Nat.one_lt_two hq hi)) hr hq hi)
    (slabs (V c main_v2) w hw slab_inb) hb _ _ _ concatenates_S1x30x256_S28x30x256_S1x30x256_S30x30x256_d0
    (tap_slices rfl rfl) _ _ _ _ _ _ hr hq ho

/-! ## The second layer -/

theorem idx2 : ∀ t : Fin cfg2.N, win2_0.index t = ![t.val, 0, 0, 0] ∧ win2_1.index t = ![t.val, 0, 0, 0, 0]
    ∧ win2_2.index t = ![0, 0, 0] ∧ win2_3.index t = ![0, 0] ∧ win2_4.index t = ![t.val, 0, 0, 0] :=
  (by decide +kernel : ∀ t : Fin grid2.N, _)

theorem in2_0 (c : Dev nD) (t : Fin cfg2.N) {r q i : ℕ} (hr : r < 28) (hq : q < 30) (hi : i < 512) :
    rd4 (iblk2 V c 0 t) 0 r q i = rd4 (V c main_v8) (t.val) (0 * 28 + r) q i := by
  rw [rd4_in _ Nat.one_pos hr hq hi]
  blk_simp [iblk2]
  refine eq_rd4 _ _ ?_ ?_ ?_ ?_ <;> blk_simp [idx2 t] <;> rfl

theorem in2_1 (c : Dev nD) (t : Fin cfg2.N) {k q i : ℕ} (hk : k < 2) (hq : q < 30) (hi : i < 512) :
    rd5 (iblk2 V c 1 t) 0 0 k q i = rd5 (V c main_v14) (t.val) (0) k q i := by
  rw [rd5_in _ Nat.one_pos Nat.one_pos hk hq hi]
  blk_simp [iblk2]
  refine eq_rd5 _ _ ?_ ?_ ?_ ?_ ?_ <;> blk_simp [idx2 t] <;> rfl

theorem in2_2 (c : Dev nD) (t : Fin cfg2.N) : iblk2 V c 2 t = V c main_v10 := by
  funext z; blk_simp [iblk2]; exact congrArg (V c main_v10) (by blk_ext [idx2 t])

theorem in2_3 (c : Dev nD) (t : Fin cfg2.N) : iblk2 V c 3 t = V c main_v15 := by
  funext z; blk_simp [iblk2]; exact congrArg (V c main_v15) (by blk_ext [idx2 t])

theorem fin2 (c : Dev nD) (X : FVec Ideal ⟨4, ![12, 28, 28, 512]⟩ .f32) (w : FVec Ideal S512x512x3x3 .f32) (b : FVec Ideal S512 .f32)
    (hx : V c main_v8 = padW 30 X) (hh : IsHalo (R := 1) (Wp := 30) 28 X (V c main_v14))
    (hw : ∀ (dy dx : Fin 3) (i : Fin 512) o, o < 512 → rd3 (V c main_v10) (dy * 3 + dx) i o = rd4 w o i dy dx)
    (hb : ∀ o, o < 512 → rd2 (V c main_v15) 0 o = rd1 b o) : (dat2 (F := Ideal) V c).arrAt 4 cfg2.N = padW 30 (conv X w b) := by
  refine (dat2 V c).arrAt_eq_of_covers 4 _ (by decide +kernel) fun t _ y => ?_
  have ht : t.val < 12 := t.isLt
  have hn : t.val < 12 := by omega
  have hρ : 0 < 1 := by omega
  blk_simp
  rw [after2_4]; unfold outsAt2; frame_out
  refine padded_block (n := t.val) (base := 0 * 28) (conv X w b) y _ rfl rfl _ _ _ _ _ _ (fun _ => Ideal.ofBits_zero_f32)
    (fun _ => Ideal.ofBits_zero_f32) (fun r q o hr hq ho => ?_) (by blk_simp [idx2 t]) (by blk_simp [idx2 t]) (by blk_simp [idx2 t])
    (by blk_simp [idx2 t])
  rw [rd4_conv _ _ _ hn (by omega) hq ho, in2_2, in2_3]
  exact taps_block X w b rfl rfl rfl _ _ _ _ _ _ _ _ _ _ _ _ _ (fun r q i hr hq hi =>
    halo_block X (V c main_v8) (V c main_v14) _ _ _ hn hρ rfl hx hh
      (fun q i hq hi => (ld_halo _ _ _ hq hi).trans (in2_1 V c t Nat.two_pos hq hi)) (fun r q i hr hq hi => in2_0 V c t hr hq hi)
      (fun q i hq hi => (ld_halo _ _ _ hq hi).trans (in2_1 V c t Nat.one_lt_two hq hi)) hr hq hi)
    (slabs (V c main_v10) w hw slab_inb) hb _ _ _ concatenates_S1x30x512_S28x30x512_S1x30x512_S30x30x512_d0
    (tap_slices rfl rfl) _ _ _ _ _ _ hr hq ho

/-! ## The third layer -/

theorem idx3 : ∀ t : Fin cfg3.N, win3_0.index t = ![t.val, 0, 0, 0] ∧ win3_1.index t = ![t.val, 0, 0, 0, 0]
    ∧ win3_2.index t = ![0, 0, 0] ∧ win3_3.index t = ![0, 0] ∧ win3_4.index t = ![t.val, 0, 0, 0] :=
  (by decide +kernel : ∀ t : Fin grid3.N, _)

theorem in3_0 (c : Dev nD) (t : Fin cfg3.N) {r q i : ℕ} (hr : r < 28) (hq : q < 30) (hi : i < 512) :
    rd4 (iblk3 V c 0 t) 0 r q i = rd4 (V c main_v16) (t.val) (0 * 28 + r) q i := by
  rw [rd4_in _ Nat.one_pos hr hq hi]
  blk_simp [iblk3]
  refine eq_rd4 _ _ ?_ ?_ ?_ ?_ <;> blk_simp [idx3 t] <;> rfl

theorem in3_1 (c : Dev nD) (t : Fin cfg3.N) {k q i : ℕ} (hk : k < 2) (hq : q < 30) (hi : i < 512) :
    rd5 (iblk3 V c 1 t) 0 0 k q i = rd5 (V c main_v22) (t.val) (0) k q i := by
  rw [rd5_in _ Nat.one_pos Nat.one_pos hk hq hi]
  blk_simp [iblk3]
  refine eq_rd5 _ _ ?_ ?_ ?_ ?_ ?_ <;> blk_simp [idx3 t] <;> rfl

theorem in3_2 (c : Dev nD) (t : Fin cfg3.N) : iblk3 V c 2 t = V c main_v18 := by
  funext z; blk_simp [iblk3]; exact congrArg (V c main_v18) (by blk_ext [idx3 t])

theorem in3_3 (c : Dev nD) (t : Fin cfg3.N) : iblk3 V c 3 t = V c main_v23 := by
  funext z; blk_simp [iblk3]; exact congrArg (V c main_v23) (by blk_ext [idx3 t])

theorem fin3 (c : Dev nD) (X : FVec Ideal ⟨4, ![12, 28, 28, 512]⟩ .f32) (w : FVec Ideal S512x512x3x3 .f32) (b : FVec Ideal S512 .f32)
    (hx : V c main_v16 = padW 30 X) (hh : IsHalo (R := 1) (Wp := 30) 28 X (V c main_v22))
    (hw : ∀ (dy dx : Fin 3) (i : Fin 512) o, o < 512 → rd3 (V c main_v18) (dy * 3 + dx) i o = rd4 w o i dy dx)
    (hb : ∀ o, o < 512 → rd2 (V c main_v23) 0 o = rd1 b o) : (dat3 (F := Ideal) V c).arrAt 4 cfg3.N = padW 30 (conv X w b) := by
  refine (dat3 V c).arrAt_eq_of_covers 4 _ (by decide +kernel) fun t _ y => ?_
  have ht : t.val < 12 := t.isLt
  have hn : t.val < 12 := by omega
  have hρ : 0 < 1 := by omega
  blk_simp
  rw [after3_4]; unfold outsAt3; frame_out
  refine padded_block (n := t.val) (base := 0 * 28) (conv X w b) y _ rfl rfl _ _ _ _ _ _ (fun _ => Ideal.ofBits_zero_f32)
    (fun _ => Ideal.ofBits_zero_f32) (fun r q o hr hq ho => ?_) (by blk_simp [idx3 t]) (by blk_simp [idx3 t]) (by blk_simp [idx3 t])
    (by blk_simp [idx3 t])
  rw [rd4_conv _ _ _ hn (by omega) hq ho, in3_2, in3_3]
  exact taps_block X w b rfl rfl rfl _ _ _ _ _ _ _ _ _ _ _ _ _ (fun r q i hr hq hi =>
    halo_block X (V c main_v16) (V c main_v22) _ _ _ hn hρ rfl hx hh
      (fun q i hq hi => (ld_halo _ _ _ hq hi).trans (in3_1 V c t Nat.two_pos hq hi)) (fun r q i hr hq hi => in3_0 V c t hr hq hi)
      (fun q i hq hi => (ld_halo _ _ _ hq hi).trans (in3_1 V c t Nat.one_lt_two hq hi)) hr hq hi)
    (slabs (V c main_v18) w hw slab_inb) hb _ _ _ concatenates_S1x30x512_S28x30x512_S1x30x512_S30x30x512_d0
    (tap_slices rfl rfl) _ _ _ _ _ _ hr hq ho

/-! ## The host code -/

variable (U : Valuation τ sig (Elt Ideal))

theorem prep1 (X : FVec Ideal ⟨4, ![12, 28, 28, 256]⟩ .f32) (w : FVec Ideal S512x256x3x3 .f32) (b : FVec Ideal S512 .f32)
    (hx : U (Proc.devRef .tc main_v0) = padW 30 X) (hw : U (Proc.devRef .tc main_arg1) = w) (hb : U (Proc.devRef .tc main_arg2) = b) :
    IsHalo (R := 1) (Wp := 30) 28 X (StableHlo.after (hostOps1 (F := Ideal)) U (Proc.devRef .tc main_v6))
    ∧ (∀ (dy dx : Fin 3) (i : Fin 256) o, o < 512 → rd3 (StableHlo.after (hostOps1 (F := Ideal)) U (Proc.devRef .tc main_v2)) (dy * 3 + dx) i o = rd4 w o i dy dx)
    ∧ ∀ o, o < 512 → rd2 (StableHlo.after (hostOps1 (F := Ideal)) U (Proc.devRef .tc main_v7)) 0 o = rd1 b o := by
  subst hw hb
  refine ⟨?_, fun dy dx i o ho => ?_, fun o ho => ?_⟩ <;> after_results
  · exact halo_zeros X _ _ _ _
  · exact slab_weights _ _ _ dy dx i o ho
  · exact cast_vec _ _ ho

theorem prep2 (X : FVec Ideal ⟨4, ![12, 28, 28, 512]⟩ .f32) (w : FVec Ideal S512x512x3x3 .f32) (b : FVec Ideal S512 .f32)
    (hx : U (Proc.devRef .tc main_v8) = padW 30 X) (hw : U (Proc.devRef .tc main_arg3) = w) (hb : U (Proc.devRef .tc main_arg4) = b) :
    IsHalo (R := 1) (Wp := 30) 28 X (StableHlo.after (hostOps2 (F := Ideal)) U (Proc.devRef .tc main_v14))
    ∧ (∀ (dy dx : Fin 3) (i : Fin 512) o, o < 512 → rd3 (StableHlo.after (hostOps2 (F := Ideal)) U (Proc.devRef .tc main_v10)) (dy * 3 + dx) i o = rd4 w o i dy dx)
    ∧ ∀ o, o < 512 → rd2 (StableHlo.after (hostOps2 (F := Ideal)) U (Proc.devRef .tc main_v15)) 0 o = rd1 b o := by
  subst hw hb
  refine ⟨?_, fun dy dx i o ho => ?_, fun o ho => ?_⟩ <;> after_results
  · exact halo_zeros X _ _ _ _
  · exact slab_weights _ _ _ dy dx i o ho
  · exact cast_vec _ _ ho

theorem prep3 (X : FVec Ideal ⟨4, ![12, 28, 28, 512]⟩ .f32) (w : FVec Ideal S512x512x3x3 .f32) (b : FVec Ideal S512 .f32)
    (hx : U (Proc.devRef .tc main_v16) = padW 30 X) (hw : U (Proc.devRef .tc main_arg5) = w) (hb : U (Proc.devRef .tc main_arg6) = b) :
    IsHalo (R := 1) (Wp := 30) 28 X (StableHlo.after (hostOps3 (F := Ideal)) U (Proc.devRef .tc main_v22))
    ∧ (∀ (dy dx : Fin 3) (i : Fin 512) o, o < 512 → rd3 (StableHlo.after (hostOps3 (F := Ideal)) U (Proc.devRef .tc main_v18)) (dy * 3 + dx) i o = rd4 w o i dy dx)
    ∧ ∀ o, o < 512 → rd2 (StableHlo.after (hostOps3 (F := Ideal)) U (Proc.devRef .tc main_v23)) 0 o = rd1 b o := by
  subst hw hb
  refine ⟨?_, fun dy dx i o ho => ?_, fun o ho => ?_⟩ <;> after_results
  · exact halo_zeros X _ _ _ _
  · exact slab_weights _ _ _ dy dx i o ho
  · exact cast_vec _ _ ho

end Cert.Kernel2Ideal.Value
end
-- ==== Proof.TailRun.lean ====
module
public import proofs.«01_k».proof.Proof.Gen.Kernel2Ideal.Frame
public import proofs.«01_k».proof.Proof.Net
public import proofs.«01_k».proof.Proof.Tail
@[expose] public section
set_option maxRecDepth 16384
noncomputable section
namespace Cert.Kernel2Ideal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen Cert.Vgg

variable (m : (ℓ : Loc nD τ sig) → Buf (Elt Ideal) ℓ) (ρ : Dev nD → PrngReg) (c : Dev nD)

theorem layer1 (X : FVec Ideal ⟨4, ![12, 28, 28, 256]⟩ .f32) (hx : W1 m ρ c (Proc.devRef .tc main_v0) = padW 30 X) :
    W3 m ρ c (Proc.devRef .tc main_v8) = padW 30 (conv X (m ((c : Thread nD τ).loc main_arg1)) (m ((c : Thread nD τ).loc main_arg2))) := by
  obtain ⟨hh, hw, hb⟩ := prep1 (W1 m ρ c) X _ _ hx (W1_args m ρ c _ (by decide)) (W1_args m ρ c _ (by decide))
  exact (W3_arr m ρ c 4).trans (fin1 (V2 m ρ) c X _ _ ((W2_of m ρ c main_v0 (by decide)).trans hx) hh hw hb)

theorem layer2 (X : FVec Ideal ⟨4, ![12, 28, 28, 512]⟩ .f32) (hx : W3 m ρ c (Proc.devRef .tc main_v8) = padW 30 X) :
    W5 m ρ c (Proc.devRef .tc main_v16) = padW 30 (conv X (m ((c : Thread nD τ).loc main_arg3)) (m ((c : Thread nD τ).loc main_arg4))) := by
  obtain ⟨hh, hw, hb⟩ := prep2 (W3 m ρ c) X _ _ hx (W3_args m ρ c _ (by decide)) (W3_args m ρ c _ (by decide))
  exact (W5_arr m ρ c 4).trans (fin2 (V4 m ρ) c X _ _ ((W4_of m ρ c main_v8 (by decide)).trans hx) hh hw hb)

theorem layer3 (X : FVec Ideal ⟨4, ![12, 28, 28, 512]⟩ .f32) (hx : W5 m ρ c (Proc.devRef .tc main_v16) = padW 30 X) :
    W7 m ρ c (Proc.devRef .tc main_v24) = padW 30 (conv X (m ((c : Thread nD τ).loc main_arg5)) (m ((c : Thread nD τ).loc main_arg6))) := by
  obtain ⟨hh, hw, hb⟩ := prep3 (W5 m ρ c) X _ _ hx (W5_args m ρ c _ (by decide)) (W5_args m ρ c _ (by decide))
  exact (W7_arr m ρ c 4).trans (fin3 (V6 m ρ) c X _ _ ((W6_of m ρ c main_v16 (by decide)).trans hx) hh hw hb)

/-- The fourth feature map, from the third as stored. -/
def map3 : FVec Ideal ⟨4, ![12, 28, 28, 512]⟩ .f32 :=
  three (pool 28 28 (inside 56 (m ((c : Thread nD τ).loc main_arg0)))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem end3 : W7 m ρ c (Proc.devRef .tc main_v24) = padW 30 (map3 m c) :=
  layer3 m ρ c _ (layer2 m ρ c _ (layer1 m ρ c _ ((W1_arr m ρ c 1).trans (fin0 (V0 m ρ) c))))

set_option backward.isDefEq.respectTransparency.types false in
/-- The program's run: its result is the padded feature map, its arguments unchanged. -/
theorem maps_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24) = padW 30 (map3 m c)
      ∧  r.2.mem ((c.tc : Thread nD τ).loc main_arg0) = m ((c.tc : Thread nD τ).loc main_arg0)
      ∧  r.2.mem ((c.tc : Thread nD τ).loc main_arg1) = m ((c.tc : Thread nD τ).loc main_arg1)
      ∧  r.2.mem ((c.tc : Thread nD τ).loc main_arg2) = m ((c.tc : Thread nD τ).loc main_arg2)
      ∧  r.2.mem ((c.tc : Thread nD τ).loc main_arg3) = m ((c.tc : Thread nD τ).loc main_arg3)
      ∧  r.2.mem ((c.tc : Thread nD τ).loc main_arg4) = m ((c.tc : Thread nD τ).loc main_arg4)
      ∧  r.2.mem ((c.tc : Thread nD τ).loc main_arg5) = m ((c.tc : Thread nD τ).loc main_arg5)
      ∧  r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v24 (by decide))).trans (end3 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.Kernel2Ideal.Value
end
end
-- ==== Proof.RefTail.lean ====
module
public import proofs.«01_k».proof.Proof.Gen.Reference2Ideal.Run
public import proofs.«01_k».proof.Proof.RefConv
public import proofs.«01_k».proof.Proof.Inside
@[expose] public section
set_option maxRecDepth 16384
noncomputable section
open Idealize.ShloMosaic Idealize.ShloMosaic.TcCoe Idealize.SL.Sem
namespace Cert.Reference2Ideal.Value
open Cert.Reference2Ideal Cert.Reference2Ideal.Gen Cert.Vgg
/-! The second reference's terms, layer by layer, as the fourth feature map. -/

variable (V0 : Valuation τ sig (Elt Ideal))

/-- The pooled third feature map: its input between the outer columns, pooled. -/
abbrev pooled : FVec Ideal ⟨4, ![12, 28, 28, 256]⟩ .f32 := pool 28 28 (inside 56 (V0 (Proc.devRef .tc main_arg0)))
/-- The fourth feature map. -/
def map3 : FVec Ideal ⟨4, ![12, 28, 28, 512]⟩ .f32 :=
  three (pooled V0) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))

theorem term3 : Padded (pooled V0) (res_main_v3 V0) := by
  unfold res_main_v3
  exact padded_pad _ _ (ref_pool _ _ (slice_inside _ _) rfl rfl _ _ _) _ _

theorem term55 : Padded (conv (pooled V0) (V0 (Proc.devRef .tc main_arg1)) (V0 (Proc.devRef .tc main_arg2))) (res_main_v55 V0) := by
  unfold res_main_v55
  exact padded_pad _ _ (ref_conv _ (res_main_v3 V0) (V0 (Proc.devRef .tc main_arg1)) (V0 (Proc.devRef .tc main_arg2)) (term3 V0) rfl rfl dot_S12x28x28x256_S512x256_S12x28x28x512_3_1_012_0_n_n.wf dot_S12x28x28x256_S512x256_S12x28x28x512_3_1_012_0_n_n rfl _ _ _ _) _ _

theorem term107 : Padded (conv (conv (pooled V0) (V0 (Proc.devRef .tc main_arg1)) (V0 (Proc.devRef .tc main_arg2))) (V0 (Proc.devRef .tc main_arg3)) (V0 (Proc.devRef .tc main_arg4))) (res_main_v107 V0) := by
  unfold res_main_v107
  exact padded_pad _ _ (ref_conv _ (res_main_v55 V0) (V0 (Proc.devRef .tc main_arg3)) (V0 (Proc.devRef .tc main_arg4)) (term55 V0) rfl rfl dot_S12x28x28x512_S512x512_S12x28x28x512_3_1_012_0_n_n.wf dot_S12x28x28x512_S512x512_S12x28x28x512_3_1_012_0_n_n rfl _ _ _ _) _ _

/-- The second reference's run: its result is the fourth map padded in width, and it leaves the arguments. -/
theorem maps_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v159) = padW 30 (map3 (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run (defs (F := Ideal)) _ _).mono (fun r h c => ?_) (run m ρ)
  obtain ⟨h0, ha⟩ := h c
  refine ⟨h0.trans (cols ?_ _ _), ha⟩
  exact ref_conv _ (res_main_v107 (StableHlo.launchContents m c)) (StableHlo.launchContents m c (Proc.devRef .tc main_arg5)) (StableHlo.launchContents m c (Proc.devRef .tc main_arg6)) (term107 (StableHlo.launchContents m c)) rfl rfl dot_S12x28x28x512_S512x512_S12x28x28x512_3_1_012_0_n_n.wf dot_S12x28x28x512_S512x512_S12x28x28x512_3_1_012_0_n_n rfl _ _ _ _

end Cert.Reference2Ideal.Value
end
end
-- ==== Proof.Gram.lean ====
module
public import proofs.«01_k».proof.Proof.Layer
@[expose] public section
set_option maxRecDepth 16384
open Idealize.ShloMosaic Idealize.ShloMosaic.TcCoe
open Idealize.ShloMosaic.ValueIdx (contrEquiv1 contrEquiv1_symm_val)
namespace Cert.Vgg
/-! The distance of two Gram matrices, summed in row blocks or at once, and what one step of the Gram calls computes. -/

noncomputable section

/-- Not a real number. -/
def Infinite (x : EReal) : Prop := x = ⊤ ∨ x = ⊥

theorem infinite_add {x y : EReal} : Infinite (x + y) ↔ Infinite x ∨ Infinite y := by
  unfold Infinite
  induction x <;> induction y <;> simp [← EReal.coe_add]

theorem infinite_sub {x y : EReal} : Infinite (x - y) ↔ Infinite x ∨ Infinite y := by
  rw [sub_eq_add_neg, infinite_add]
  refine or_congr Iff.rfl ?_
  unfold Infinite
  rw [EReal.neg_eq_top_iff, EReal.neg_eq_bot_iff]
  exact or_comm

theorem infinite_sq {x : EReal} (h : Infinite x) : x * x = ⊤ := by
  rcases h with rfl | rfl <;> rfl

/-- A sum of differences and the difference of the sums are the same real number, or both are infinite. -/
theorem sum_differences (A B : ℕ → EReal) (R : ℕ) :
    (∃ x y : ℝ, ∑ r ∈ Finset.range R, A r = x ∧ ∑ r ∈ Finset.range R, B r = y ∧ ∑ r ∈ Finset.range R, (A r - B r) = ((x - y : ℝ) : EReal))
      ∨ (Infinite (∑ r ∈ Finset.range R, (A r - B r)) ∧ Infinite (∑ r ∈ Finset.range R, A r - ∑ r ∈ Finset.range R, B r)) := by
  induction R with
  | zero => exact .inl ⟨0, 0, by simp⟩
  | succ R ih =>
    simp only [Finset.sum_range_succ, infinite_sub, infinite_add] at ih ⊢
    rcases ih with ⟨x, y, hx, hy, hs⟩ | ⟨h1, h2⟩
    · by_cases hA : Infinite (A R) ∨ Infinite (B R)
      · exact .inr ⟨.inr hA, by tauto⟩
      · left
        push Not at hA
        unfold Infinite at hA
        push Not at hA
        refine ⟨x + (A R).toReal, y + (B R).toReal, ?_, ?_, ?_⟩
        · rw [hx, EReal.coe_add, EReal.coe_toReal hA.1.1 hA.1.2]
        · rw [hy, EReal.coe_add, EReal.coe_toReal hA.2.1 hA.2.2]
        · rw [hs]
          conv_lhs => rw [← EReal.coe_toReal hA.1.1 hA.1.2, ← EReal.coe_toReal hA.2.1 hA.2.2, ← EReal.coe_sub, ← EReal.coe_add]
          exact congrArg _ (by ring)
    · exact .inr ⟨.inl h1, by tauto⟩

/-- So they have the same square. -/
theorem square_differences (A B : ℕ → EReal) (R : ℕ) :
    (∑ r ∈ Finset.range R, (A r - B r)) * (∑ r ∈ Finset.range R, (A r - B r))
      = (∑ r ∈ Finset.range R, A r - ∑ r ∈ Finset.range R, B r) * (∑ r ∈ Finset.range R, A r - ∑ r ∈ Finset.range R, B r) := by
  rcases sum_differences A B R with ⟨x, y, hx, hy, hs⟩ | ⟨h1, h2⟩
  · rw [hs, hx, hy, EReal.coe_sub]
  · rw [infinite_sq h1, infinite_sq h2]

theorem two_times (x : EReal) : (2 : EReal) * x = x + x := by
  induction x with
  | coe x => rw [← EReal.coe_add, ← two_mul]; rfl
  | top => exact EReal.coe_mul_top_of_pos (x := 2) (by norm_num)
  | bot => exact EReal.coe_mul_bot_of_pos (x := 2) (by norm_num)

section Spec
variable {N H Wp C : ℕ} (u : (⟨4, ![N, H, Wp, C]⟩ : Shape).Idx → EReal) (W : ℕ)

/-- The product of channel `a` of image `n` and channel `b` of image `n'` at pixel `p`, counted row by row without the border columns. -/
def pixelProduct (n n' a b p : ℕ) : EReal := rd4 u n (p / W) (1 + p % W) a * rd4 u n' (p / W) (1 + p % W) b

/-- Entry `(a, b)` of block `(k, k')` of a group's Gram matrix: over the first `P` pixels. -/
def gramAt (P n n' a b : ℕ) : EReal := ∑ p ∈ Finset.range P, pixelProduct u W n n' a b p

/-- The two matrices of group `i` differ by this, in block `(k, k')` at `(a, b)`. -/
def gramDiff (P i k k' a b : ℕ) : EReal :=
  gramAt u W P (4 * i + k) (4 * i + k') a b - gramAt u W P (4 * i + 2 + k) (4 * i + 2 + k') a b

/-- The sum of the squared differences over one block. -/
def blockDist (P C i k k' : ℕ) : EReal :=
  ∑ a : Fin C, ∑ b : Fin C, gramDiff u W P i k k' a b * gramDiff u W P i k k' a b

/-- The squared distance of the two matrices of a group, and a zero beside it. -/
def gramOut (P C : ℕ) (j : (⟨3, ![3, 1, 2]⟩ : Shape).Idx) : EReal :=
  if (j 2).val = 0 then blockDist u W P C (j 0) 0 0 + 2 * blockDist u W P C (j 0) 0 1 + blockDist u W P C (j 0) 1 1 else 0

/-- What the row block `ρ` of `K` pixels adds to slab `s`. -/
def slabStep (K i ρ s a b : ℕ) : EReal :=
  ∑ p ∈ Finset.range K, pixelProduct u W (4 * i + s / 2) (4 * i + (s + 1) / 2) a b (ρ * K + p)
    - ∑ p ∈ Finset.range K, pixelProduct u W (4 * i + 2 + s / 2) (4 * i + 2 + (s + 1) / 2) a b (ρ * K + p)

theorem sum_blocks (f : ℕ → EReal) (K R : ℕ) :
    ∑ r ∈ Finset.range R, ∑ p ∈ Finset.range K, f (r * K + p) = ∑ p ∈ Finset.range (R * K), f p := by
  induction R with
  | zero => simp
  | succ R ih => rw [Finset.sum_range_succ, ih, Nat.succ_mul, Finset.sum_range_add]

/-- After all `R` row blocks a slab's entry has the square of the difference. -/
theorem slab_square (K R i s a b : ℕ) :
    (∑ ρ ∈ Finset.range R, slabStep u W K i ρ s a b) * (∑ ρ ∈ Finset.range R, slabStep u W K i ρ s a b)
      = gramDiff u W (R * K) i (s / 2) ((s + 1) / 2) a b * gramDiff u W (R * K) i (s / 2) ((s + 1) / 2) a b := by
  unfold slabStep
  rw [square_differences]
  simp only [sum_blocks]
  rfl

theorem gramDiff_swap (P i k k' a b : ℕ) : gramDiff u W P i k' k b a = gramDiff u W P i k k' a b := by
  simp only [gramDiff, gramAt, pixelProduct, mul_comm]

theorem blockDist_swap (P C i k k' : ℕ) : blockDist u W P C i k' k = blockDist u W P C i k k' := by
  unfold blockDist
  rw [Finset.sum_comm]
  simp only [gramDiff_swap u W P i k k']

end Spec

section Body
variable {N H Wp C A W K : ℕ}

/-- A loaded row block without its border columns is image `n` from row `base` on. -/
def IsBlock (u : (⟨4, ![N, H, Wp, C]⟩ : Shape).Idx → EReal) (n base : ℕ) (v : (⟨4, ![1, A, W, C]⟩ : Shape).Idx → EReal) : Prop :=
  ∀ r q a, r < A → q < W → a < C → rd4 v 0 r q a = rd4 u n (base + r) (1 + q) a

/-- The load of a row block without its border columns. -/
theorem block_of {c : ℕ} (hc : c = W + 2) {u : (⟨4, ![N, H, Wp, C]⟩ : Shape).Idx → EReal} {n base : ℕ} {v : FVec Ideal ⟨4, ![1, A, c, C]⟩ .f32}
    (hv : ∀ r q i, r < A → q < c → i < C → rd4 v 0 r q i = rd4 u n (base + r) q i)
    (inb : ∀ l, (![0, 0, 1, 0] : Fin 4 → ℕ) l + (![1, A, W, C] : Fin 4 → ℕ) l ≤ (⟨4, ![1, A, c, C]⟩ : Shape).size l) :
    IsBlock u n base (View.ld (Val := Elt Ideal) (e' := .f32) v (Rect.unit (s := ⟨4, ![1, A, c, C]⟩) ![0, 0, 1, 0] ![1, A, W, C] inb)
      : FVec Ideal ⟨4, ![1, A, W, C]⟩ .f32) := fun r q i hr hq hi => by
  refine (ld_rd4 v ![0, 0, 1, 0] inb Nat.one_pos hr hq hi).trans ?_
  show rd4 v (0 + 0) (0 + r) (1 + q) (0 + i) = _
  rw [Nat.zero_add, Nat.zero_add, Nat.zero_add]
  exact hv r (1 + q) i hr (by omega) hi

/-- The dimension numbers of the body's products: rows with rows. -/
abbrev rowDims (wf : DotDims.WF ⟨2, ![K, C]⟩ ⟨2, ![K, C]⟩ ⟨2, ![C, C]⟩ [0] [0] [1] [1] [] []) :
    DotDims ⟨2, ![K, C]⟩ ⟨2, ![K, C]⟩ ⟨2, ![C, C]⟩ := ⟨[0], [0], [1], [1], [], [], wf⟩

theorem matmul_rows (wf : DotDims.WF ⟨2, ![K, C]⟩ ⟨2, ![K, C]⟩ ⟨2, ![C, C]⟩ [0] [0] [1] [1] [] []) (l r : FVec Ideal ⟨2, ![K, C]⟩ .f32)
    {a b : ℕ} (ha : a < C) (hb : b < C) :
    rd2 (matmul (F := Ideal) (rowDims wf) none l r (constant ⟨2, ![C, C]⟩ .f32 0x00000000#32)) a b
      = ∑ k : Fin K, rd2 l k a * rd2 r k b := by
  rw [rd2_in _ ha hb]
  refine (Ideal.matmul_constant_zero_apply _ _ _ _ _).trans ?_
  rw [← Equiv.sum_comp (contrEquiv1 (rowDims wf) K rfl rfl).symm]
  refine Finset.sum_congr rfl fun k _ => ?_
  have c3 := contrEquiv1_symm_val (rowDims wf) K rfl rfl k
  refine congrArg₂ (· * ·) (eq_rd2 l _ ?_ ?_) (eq_rd2 r _ ?_ ?_)
  · simp [DotDims.lhsIdx]; exact c3
  · simp [DotDims.lhsIdx]; rfl
  · simp [DotDims.rhsIdx]; exact c3
  · simp [DotDims.rhsIdx]; rfl

/-- A block's pixels as the rows of a matrix. -/
theorem block_rows {u : (⟨4, ![N, H, Wp, C]⟩ : Shape).Idx → EReal} {n ρ : ℕ} {v : (⟨4, ![1, A, W, C]⟩ : Shape).Idx → EReal}
    (hK : K = A * W) (hv : IsBlock u n (ρ * A) v) (h : (⟨4, ![1, A, W, C]⟩ : Shape).ShapeCasts ⟨3, ![A, W, C]⟩)
    (h' : (⟨3, ![A, W, C]⟩ : Shape).ShapeCasts ⟨2, ![K, C]⟩) {p a : ℕ} (hp : p < K) (ha : a < C) :
    rd2 (shapeCast ⟨2, ![K, C]⟩ (shapeCast ⟨3, ![A, W, C]⟩ v h) h') p a = rd4 u n ((ρ * K + p) / W) (1 + (ρ * K + p) % W) a := by
  have hW : 0 < W := Nat.pos_of_ne_zero fun h0 => by subst h0; omega
  have hr : p / W < A := by rw [Nat.div_lt_iff_lt_mul hW]; omega
  have hq : p % W < W := Nat.mod_lt _ hW
  have e := cast_rows (shapeCast ⟨3, ![A, W, C]⟩ v h) h' hK hr hq ha
  rw [Nat.div_add_mod' p W] at e
  rw [e, cast_unlead v h hr hq ha, hv _ _ _ hr hq ha]
  have e1 : ρ * K + p = p + W * (ρ * A) := by rw [hK]; ring
  rw [e1, Nat.add_mul_div_left _ _ hW, Nat.add_mul_mod_self_left, Nat.add_comm (p / W)]

variable {u : (⟨4, ![N, H, Wp, C]⟩ : Shape).Idx → EReal}

/-- One step's new slab: the old one and the difference of two products. -/
theorem slab_new (hK : K = A * W) {i ρ s : ℕ} {v0 v1 v2 v3 : FVec Ideal ⟨4, ![1, A, W, C]⟩ .f32}
    (h0 : IsBlock u (4 * i + s / 2) (ρ * A) v0) (h1 : IsBlock u (4 * i + (s + 1) / 2) (ρ * A) v1)
    (h2 : IsBlock u (4 * i + 2 + s / 2) (ρ * A) v2) (h3 : IsBlock u (4 * i + 2 + (s + 1) / 2) (ρ * A) v3)
    (old : FVec Ideal ⟨3, ![1, C, C]⟩ .f32) (D : DotDims ⟨2, ![K, C]⟩ ⟨2, ![K, C]⟩ ⟨2, ![C, C]⟩)
    (wf : DotDims.WF ⟨2, ![K, C]⟩ ⟨2, ![K, C]⟩ ⟨2, ![C, C]⟩ [0] [0] [1] [1] [] []) (hD : D = rowDims wf)
    (c4 : (⟨4, ![1, A, W, C]⟩ : Shape).ShapeCasts ⟨3, ![A, W, C]⟩) (c3 : (⟨3, ![A, W, C]⟩ : Shape).ShapeCasts ⟨2, ![K, C]⟩)
    (d3 : (⟨3, ![1, C, C]⟩ : Shape).ShapeCasts ⟨2, ![C, C]⟩) (d2 : (⟨2, ![C, C]⟩ : Shape).ShapeCasts ⟨3, ![1, C, C]⟩)
    {a b : ℕ} (ha : a < C) (hb : b < C) :
    rd3 (shapeCast ⟨3, ![1, C, C]⟩ (addf (shapeCast ⟨2, ![C, C]⟩ old d3)
        (subf (matmul (F := Ideal) D none (shapeCast ⟨2, ![K, C]⟩ (shapeCast ⟨3, ![A, W, C]⟩ v0 c4) c3)
            (shapeCast ⟨2, ![K, C]⟩ (shapeCast ⟨3, ![A, W, C]⟩ v1 c4) c3) (constant ⟨2, ![C, C]⟩ .f32 0x00000000#32))
          (matmul (F := Ideal) D none (shapeCast ⟨2, ![K, C]⟩ (shapeCast ⟨3, ![A, W, C]⟩ v2 c4) c3)
            (shapeCast ⟨2, ![K, C]⟩ (shapeCast ⟨3, ![A, W, C]⟩ v3 c4) c3) (constant ⟨2, ![C, C]⟩ .f32 0x00000000#32)))) d2) 0 a b
      = rd3 old 0 a b + slabStep u W K i ρ s a b := by
  subst hD
  rw [cast_lead2 _ d2 ha hb, rd2_in _ ha hb]
  refine congrArg₂ (· + ·) ((rd2_in _ ha hb).symm.trans (cast_unlead3 old d3 ha hb)) (congrArg₂ (· - ·) ?_ ?_)
  · refine (rd2_in _ ha hb).symm.trans ((matmul_rows wf _ _ ha hb).trans ?_)
    rw [Finset.sum_range]
    exact Finset.sum_congr rfl fun p _ => congrArg₂ (· * ·) (block_rows hK h0 c4 c3 p.isLt ha) (block_rows hK h1 c4 c3 p.isLt hb)
  · refine (rd2_in _ ha hb).symm.trans ((matmul_rows wf _ _ ha hb).trans ?_)
    rw [Finset.sum_range]
    exact Finset.sum_congr rfl fun p _ => congrArg₂ (· * ·) (block_rows hK h2 c4 c3 p.isLt ha) (block_rows hK h3 c4 c3 p.isLt hb)

/-- A slab's sum of squares. -/
theorem slab_sum (x : FVec Ideal ⟨3, ![1, C, C]⟩ .f32) (d3 : (⟨3, ![1, C, C]⟩ : Shape).ShapeCasts ⟨2, ![C, C]⟩)
    (d2 : (⟨2, ![C, C]⟩ : Shape).ShapeCasts ⟨3, ![1, C, C]⟩) (hr : (⟨3, ![1, C, C]⟩ : Shape).Reduces [1, 2] ⟨1, ![1]⟩)
    (hφ : FKind.Formats .f32) (hacc : (0x00000000#32 : BitVec 32) = FKind.add.neutral .f32 hφ)
    (h1 : (⟨1, ![1]⟩ : Shape).ShapeCasts ⟨3, ![1, 1, 1]⟩) (hp : ∀ k, (![0, 0, 0] : Fin 3 → ℕ) k < (⟨3, ![1, 1, 1]⟩ : Shape).size k) :
    extractAt ![0, 0, 0] (shapeCast ⟨3, ![1, 1, 1]⟩ (multiReduction (F := Ideal) .add [1, 2] ⟨1, ![1]⟩
        (shapeCast ⟨3, ![1, C, C]⟩ (mulf (shapeCast ⟨2, ![C, C]⟩ x d3) (shapeCast ⟨2, ![C, C]⟩ x d3)) d2) 0x00000000#32 hr hφ hacc) h1) hp
      = ∑ a : Fin C, ∑ b : Fin C, rd3 x 0 a b * rd3 x 0 a b := by
  refine (shapeCast_apply _ h1 _ (ix1 (0 : Fin 1)) rfl).trans ?_
  rw [multiReduction_add_apply, Ideal.reduceAdd_def, Ideal.reduceAdd_r3_a12]
  refine Finset.sum_congr rfl fun a _ => Finset.sum_congr rfl fun b _ => ?_
  refine (eq_rd3 _ _ rfl rfl rfl).trans ((cast_lead2 _ d2 a.isLt b.isLt).trans ?_)
  rw [rd2_in _ a.isLt b.isLt]
  exact congrArg₂ (· * ·) ((rd2_in _ a.isLt b.isLt).symm.trans (cast_unlead3 x d3 a.isLt b.isLt))
    ((rd2_in _ a.isLt b.isLt).symm.trans (cast_unlead3 x d3 a.isLt b.isLt))

theorem ofBits_two : Ideal.ofBits .f32 0x40000000#32 = 2 := by
  rw [show (2 : EReal) = ((2 : ℝ) : EReal) by norm_cast]
  simp [Ideal.ofBits, Ideal.ieee, -EReal.coe_mul]; norm_num

end Body

section Slabs
variable {C : ℕ}

/-- A slab of the scratch, written last, reads back. -/
theorem canon_slab (k : ℕ) (inb : ∀ l, (![k, 0, 0] : Fin 3 → ℕ) l + (![1, C, C] : Fin 3 → ℕ) l ≤ (⟨3, ![3, C, C]⟩ : Shape).size l)
    (w : FVec Ideal ⟨3, ![1, C, C]⟩ .f32) (L : List (View.Piece (Elt Ideal) ⟨3, ![3, C, C]⟩ .f32)) {a b : ℕ} (ha : a < C) (hb : b < C) :
    rd3 (View.canon (Val := Elt Ideal) (s := ⟨3, ![3, C, C]⟩) (e := .f32)
      (⟨Rect.unit (s := ⟨3, ![3, C, C]⟩) ![k, 0, 0] ![1, C, C] inb, w⟩ :: L)) k a b = rd3 w 0 a b := by
  have e := View.canon_cons_emb (Val := Elt Ideal) (e := .f32) (Rect.unit (s := ⟨3, ![3, C, C]⟩) ![k, 0, 0] ![1, C, C] inb) w L
    (ix3 (0 : Fin 1) (⟨a, ha⟩ : Fin C) (⟨b, hb⟩ : Fin C))
  rw [rd3_in w Nat.one_pos ha hb]
  refine Eq.trans ?_ e
  refine (eq_rd3 _ _ ?_ ?_ ?_).symm
  · exact Nat.add_zero _
  · show 0 + 1 * a = a; omega
  · show 0 + 1 * b = b; omega

/-- Another slab is as the earlier writes left it. -/
theorem canon_skip (k : ℕ) {k' : ℕ} (hk : k ≠ k') (hk' : k' < 3)
    (inb : ∀ l, (![k, 0, 0] : Fin 3 → ℕ) l + (![1, C, C] : Fin 3 → ℕ) l ≤ (⟨3, ![3, C, C]⟩ : Shape).size l)
    (w : FVec Ideal ⟨3, ![1, C, C]⟩ .f32) (L : List (View.Piece (Elt Ideal) ⟨3, ![3, C, C]⟩ .f32)) {a b : ℕ} (ha : a < C) (hb : b < C) :
    rd3 (View.canon (Val := Elt Ideal) (s := ⟨3, ![3, C, C]⟩) (e := .f32)
      (⟨Rect.unit (s := ⟨3, ![3, C, C]⟩) ![k, 0, 0] ![1, C, C] inb, w⟩ :: L)) k' a b = rd3 (View.canon L) k' a b := by
  rw [rd3_in _ hk' ha hb, rd3_in _ hk' ha hb]
  refine View.canon_cons_of_not_mem _ _ fun hm => hk ?_
  have hm' := (Rect.mem_set_unit (s := ⟨3, ![3, C, C]⟩) (inb := inb)).mp hm
  obtain ⟨h1, h2⟩ := hm' (0 : Fin 3)
  change k ≤ k' at h1
  change k' < k + 1 at h2
  omega

/-- A slab loaded from what was written. -/
theorem readCov_slab {sig : RefSig} {κ : Kind} {sp : Space} (v : View sig κ sp ⟨3, ![3, C, C]⟩ .f32) (k : ℕ)
    (L : List (View.Piece (Elt Ideal) ⟨3, ![3, C, C]⟩ .f32))
    (inb : ∀ l, (![k, 0, 0] : Fin 3 → ℕ) l + (![1, C, C] : Fin 3 → ℕ) l ≤ (⟨3, ![3, C, C]⟩ : Shape).size l) {a b : ℕ} (ha : a < C) (hb : b < C) :
    rd3 (v.readCov L (Rect.unit (s := ⟨3, ![3, C, C]⟩) ![k, 0, 0] ![1, C, C] inb).toLoadRect : FVec Ideal ⟨3, ![1, C, C]⟩ .f32) 0 a b
      = rd3 (View.canon (Val := Elt Ideal) L) k a b := by
  rw [View.readCov_eq_canon', rd3_in _ Nat.one_pos ha hb]
  refine eq_rd3 _ _ ?_ ?_ ?_
  · exact Nat.add_zero _
  · show 0 + 1 * a = a; omega
  · show 0 + 1 * b = b; omega

/-- The three slabs, written one after another, read back. -/
theorem slabs_read {w0 w1 w2 : FVec Ideal ⟨3, ![1, C, C]⟩ .f32} (L : List (View.Piece (Elt Ideal) ⟨3, ![3, C, C]⟩ .f32))
    (inb2 : ∀ l, (![2, 0, 0] : Fin 3 → ℕ) l + (![1, C, C] : Fin 3 → ℕ) l ≤ (⟨3, ![3, C, C]⟩ : Shape).size l)
    (inb1 : ∀ l, (![1, 0, 0] : Fin 3 → ℕ) l + (![1, C, C] : Fin 3 → ℕ) l ≤ (⟨3, ![3, C, C]⟩ : Shape).size l)
    (inb0 : ∀ l, (![0, 0, 0] : Fin 3 → ℕ) l + (![1, C, C] : Fin 3 → ℕ) l ≤ (⟨3, ![3, C, C]⟩ : Shape).size l)
    {a b : ℕ} (ha : a < C) (hb : b < C) (X : ℕ → EReal) (h0 : rd3 w0 0 a b = X 0) (h1 : rd3 w1 0 a b = X 1) (h2 : rd3 w2 0 a b = X 2)
    (s : Fin 3) :
    rd3 (View.canon (Val := Elt Ideal) (s := ⟨3, ![3, C, C]⟩) (e := .f32)
      (⟨Rect.unit (s := ⟨3, ![3, C, C]⟩) ![2, 0, 0] ![1, C, C] inb2, w2⟩ :: ⟨Rect.unit (s := ⟨3, ![3, C, C]⟩) ![1, 0, 0] ![1, C, C] inb1, w1⟩
        :: ⟨Rect.unit (s := ⟨3, ![3, C, C]⟩) ![0, 0, 0] ![1, C, C] inb0, w0⟩ :: L)) s a b = X s := by
  match s with
  | ⟨0, _⟩ =>
    exact (canon_skip 2 (k' := 0) (by decide) (by decide) inb2 w2 _ ha hb).trans ((canon_skip 1 (k' := 0) (by decide) (by decide) inb1 w1 _ ha hb).trans
      ((canon_slab 0 inb0 w0 _ ha hb).trans h0))
  | ⟨1, _⟩ => exact (canon_skip 2 (k' := 1) (by decide) (by decide) inb2 w2 _ ha hb).trans ((canon_slab 1 inb1 w1 _ ha hb).trans h1)
  | ⟨2, _⟩ => exact (canon_slab 2 inb2 w2 _ ha hb).trans h2

/-- The two words a group's last step stores. -/
theorem two_words (y : (⟨3, ![1, 1, 2]⟩ : Shape).Idx) (z v : Ideal .f32)
    (inb1 : ∀ l, (![0, 0, 1] : Fin 3 → ℕ) l + (![1, 1, 1] : Fin 3 → ℕ) l ≤ (⟨3, ![1, 1, 2]⟩ : Shape).size l)
    (inb0 : ∀ l, (![0, 0, 0] : Fin 3 → ℕ) l + (![1, 1, 1] : Fin 3 → ℕ) l ≤ (⟨3, ![1, 1, 2]⟩ : Shape).size l) :
    View.canon (Val := Elt Ideal) (s := ⟨3, ![1, 1, 2]⟩) (e := .f32)
      [⟨Rect.unit (s := ⟨3, ![1, 1, 2]⟩) ![0, 0, 1] ![1, 1, 1] inb1, fun _ => z⟩,
       ⟨Rect.unit (s := ⟨3, ![1, 1, 2]⟩) ![0, 0, 0] ![1, 1, 1] inb0, fun _ => v⟩] y = if (y 2).val = 0 then v else z := by
  have l0 : (y 0).val < 1 := (y 0).isLt
  have l1 : (y 1).val < 1 := (y 1).isLt
  have l2 : (y 2).val < 2 := (y 2).isLt
  split
  · rename_i h
    rw [View.canon_cons_of_not_mem]
    · have e : y = (Rect.unit (s := ⟨3, ![1, 1, 2]⟩) ![0, 0, 0] ![1, 1, 1] inb0).emb (ix3 (0 : Fin 1) (0 : Fin 1) (0 : Fin 1)) := by
        funext k
        refine Fin.ext ?_
        match k with
        | ⟨0, _⟩ => show (y 0).val = 0; omega
        | ⟨1, _⟩ => show (y 1).val = 0; omega
        | ⟨2, _⟩ => show (y 2).val = 0; omega
      rw [e]
      exact View.canon_cons_emb (Val := Elt Ideal) (e := .f32) _ _ _ _
    · intro hm
      have hm' := (Rect.mem_set_unit (s := ⟨3, ![1, 1, 2]⟩) (inb := inb1)).mp hm
      have h1 : 1 ≤ (y 2).val := (hm' (2 : Fin 3)).1
      omega
  · have e : y = (Rect.unit (s := ⟨3, ![1, 1, 2]⟩) ![0, 0, 1] ![1, 1, 1] inb1).emb (ix3 (0 : Fin 1) (0 : Fin 1) (0 : Fin 1)) := by
      funext k
      refine Fin.ext ?_
      match k with
      | ⟨0, _⟩ => show (y 0).val = 0; omega
      | ⟨1, _⟩ => show (y 1).val = 0; omega
      | ⟨2, _⟩ => show (y 2).val = 1; omega
    rw [e]
    exact View.canon_cons_emb (Val := Elt Ideal) (e := .f32) _ _ _ _

/-- The sum of the squares of a slab, as the body takes it. -/
abbrev slabSq (d3 : (⟨3, ![1, C, C]⟩ : Shape).ShapeCasts ⟨2, ![C, C]⟩)
    (d2 : (⟨2, ![C, C]⟩ : Shape).ShapeCasts ⟨3, ![1, C, C]⟩) (hr : (⟨3, ![1, C, C]⟩ : Shape).Reduces [1, 2] ⟨1, ![1]⟩)
    (hφ : FKind.Formats .f32) (hacc : (0x00000000#32 : BitVec 32) = FKind.add.neutral .f32 hφ)
    (h1 : (⟨1, ![1]⟩ : Shape).ShapeCasts ⟨3, ![1, 1, 1]⟩) (hp : ∀ k, (![0, 0, 0] : Fin 3 → ℕ) k < (⟨3, ![1, 1, 1]⟩ : Shape).size k)
    (x : FVec Ideal ⟨3, ![1, C, C]⟩ .f32) : Ideal .f32 :=
  extractAt ![0, 0, 0] (shapeCast ⟨3, ![1, 1, 1]⟩ (multiReduction (F := Ideal) .add [1, 2] ⟨1, ![1]⟩
    (shapeCast ⟨3, ![1, C, C]⟩ (mulf (shapeCast ⟨2, ![C, C]⟩ x d3) (shapeCast ⟨2, ![C, C]⟩ x d3)) d2) 0x00000000#32 hr hφ hacc) h1) hp

/-- The scalar a group's last step stores, when the scratch holds all row blocks' sums. -/
theorem slabs_total {N H Wp W K P R i : ℕ} {u : (⟨4, ![N, H, Wp, C]⟩ : Shape).Idx → EReal} (hP : P = R * K)
    {sig : RefSig} {κ : Kind} {sp : Space} (v : View sig κ sp ⟨3, ![3, C, C]⟩ .f32)
    (L : List (View.Piece (Elt Ideal) ⟨3, ![3, C, C]⟩ .f32))
    (hL : ∀ (s : Fin 3) a b, a < C → b < C →
      rd3 (View.canon (Val := Elt Ideal) L) s a b = ∑ ρ ∈ Finset.range R, slabStep u W K i ρ s a b)
    (inb0 : ∀ l, (![0, 0, 0] : Fin 3 → ℕ) l + (![1, C, C] : Fin 3 → ℕ) l ≤ (⟨3, ![3, C, C]⟩ : Shape).size l)
    (inb1 : ∀ l, (![1, 0, 0] : Fin 3 → ℕ) l + (![1, C, C] : Fin 3 → ℕ) l ≤ (⟨3, ![3, C, C]⟩ : Shape).size l)
    (inb2 : ∀ l, (![2, 0, 0] : Fin 3 → ℕ) l + (![1, C, C] : Fin 3 → ℕ) l ≤ (⟨3, ![3, C, C]⟩ : Shape).size l)
    (d3 : (⟨3, ![1, C, C]⟩ : Shape).ShapeCasts ⟨2, ![C, C]⟩)
    (d2 : (⟨2, ![C, C]⟩ : Shape).ShapeCasts ⟨3, ![1, C, C]⟩) (hr : (⟨3, ![1, C, C]⟩ : Shape).Reduces [1, 2] ⟨1, ![1]⟩)
    (hφ : FKind.Formats .f32) (hacc : (0x00000000#32 : BitVec 32) = FKind.add.neutral .f32 hφ)
    (h1 : (⟨1, ![1]⟩ : Shape).ShapeCasts ⟨3, ![1, 1, 1]⟩) (hp : ∀ k, (![0, 0, 0] : Fin 3 → ℕ) k < (⟨3, ![1, 1, 1]⟩ : Shape).size k) :
    Scalar.addf (Scalar.addf
        (slabSq d3 d2 hr hφ hacc h1 hp (v.readCov L (Rect.unit (s := ⟨3, ![3, C, C]⟩) ![0, 0, 0] ![1, C, C] inb0).toLoadRect))
        (Scalar.mulf (Scalar.ofBits .f32 0x40000000#32)
          (slabSq d3 d2 hr hφ hacc h1 hp (v.readCov L (Rect.unit (s := ⟨3, ![3, C, C]⟩) ![1, 0, 0] ![1, C, C] inb1).toLoadRect))))
        (slabSq d3 d2 hr hφ hacc h1 hp (v.readCov L (Rect.unit (s := ⟨3, ![3, C, C]⟩) ![2, 0, 0] ![1, C, C] inb2).toLoadRect))
      = blockDist u W P C i 0 0 + 2 * blockDist u W P C i 0 1 + blockDist u W P C i 1 1 := by
  have e : ∀ (s : Fin 3) (x : FVec Ideal ⟨3, ![1, C, C]⟩ .f32), (∀ a b, a < C → b < C → rd3 x 0 a b = rd3 (View.canon (Val := Elt Ideal) L) s a b) →
      slabSq d3 d2 hr hφ hacc h1 hp x = blockDist u W P C i (s / 2) ((s + 1) / 2) := fun s x hx => by
    refine (slab_sum x d3 d2 hr hφ hacc h1 hp).trans ?_
    refine Finset.sum_congr rfl fun a _ => Finset.sum_congr rfl fun b _ => ?_
    rw [hx a b a.isLt b.isLt, hL s a b a.isLt b.isLt, slab_square, hP]
  exact congrArg₂ (· + ·) (congrArg₂ (· + ·) (e 0 _ fun a b ha hb => readCov_slab v 0 L inb0 ha hb)
    (congrArg₂ (· * ·) ofBits_two (e 1 _ fun a b ha hb => readCov_slab v 1 L inb1 ha hb))) (e 2 _ fun a b ha hb => readCov_slab v 2 L inb2 ha hb)

/-- The scratch the first step of a group clears. -/
theorem cleared (L : List (View.Piece (Elt Ideal) ⟨3, ![3, C, C]⟩ .f32))
    (inb : ∀ l, (![0, 0, 0] : Fin 3 → ℕ) l + (![3, C, C] : Fin 3 → ℕ) l ≤ (⟨3, ![3, C, C]⟩ : Shape).size l)
    (h : (⟨3, ![3, C, C]⟩ : Shape).ShapeCasts ⟨3, ![3, C, C]⟩) {s a b : ℕ} (hs : s < 3) (ha : a < C) (hb : b < C) :
    rd3 (View.canon (Val := Elt Ideal) (s := ⟨3, ![3, C, C]⟩) (e := .f32)
      (⟨Rect.unit (s := ⟨3, ![3, C, C]⟩) ![0, 0, 0] ![3, C, C] inb,
        (shapeCast ⟨3, ![3, C, C]⟩ (broadcast ⟨3, ![3, C, C]⟩ (Scalar.ofBits (F := Ideal) .f32 0x00000000#32)) h : FVec Ideal ⟨3, ![3, C, C]⟩ .f32)⟩ :: L)) s a b = 0 := by
  have e := View.canon_cons_unit_lit (Val := Elt Ideal) (e := .f32) (S := ⟨3, ![3, C, C]⟩) (off := ![0, 0, 0]) inb
    (shapeCast ⟨3, ![3, C, C]⟩ (broadcast ⟨3, ![3, C, C]⟩ (Scalar.ofBits (F := Ideal) .f32 0x00000000#32)) h) L
    (fun k => match k with | ⟨0, _⟩ => rfl | ⟨1, _⟩ => rfl | ⟨2, _⟩ => rfl)
  refine (congrArg (fun x => rd3 x s a b) e).trans ?_
  rw [rd3_in _ hs ha hb]
  exact Ideal.ofBits_zero_f32

/-- One step's new slab as the body writes it. -/
abbrev newSlab {A W K : ℕ} (D : DotDims ⟨2, ![K, C]⟩ ⟨2, ![K, C]⟩ ⟨2, ![C, C]⟩)
    (c4 : (⟨4, ![1, A, W, C]⟩ : Shape).ShapeCasts ⟨3, ![A, W, C]⟩) (c3 : (⟨3, ![A, W, C]⟩ : Shape).ShapeCasts ⟨2, ![K, C]⟩)
    (d3 : (⟨3, ![1, C, C]⟩ : Shape).ShapeCasts ⟨2, ![C, C]⟩) (d2 : (⟨2, ![C, C]⟩ : Shape).ShapeCasts ⟨3, ![1, C, C]⟩)
    (v0 v1 v2 v3 : FVec Ideal ⟨4, ![1, A, W, C]⟩ .f32) (old : FVec Ideal ⟨3, ![1, C, C]⟩ .f32) : FVec Ideal ⟨3, ![1, C, C]⟩ .f32 :=
  shapeCast ⟨3, ![1, C, C]⟩ (addf (shapeCast ⟨2, ![C, C]⟩ old d3)
    (subf (matmul (F := Ideal) D none (shapeCast ⟨2, ![K, C]⟩ (shapeCast ⟨3, ![A, W, C]⟩ v0 c4) c3)
        (shapeCast ⟨2, ![K, C]⟩ (shapeCast ⟨3, ![A, W, C]⟩ v1 c4) c3) (constant ⟨2, ![C, C]⟩ .f32 0x00000000#32))
      (matmul (F := Ideal) D none (shapeCast ⟨2, ![K, C]⟩ (shapeCast ⟨3, ![A, W, C]⟩ v2 c4) c3)
        (shapeCast ⟨2, ![K, C]⟩ (shapeCast ⟨3, ![A, W, C]⟩ v3 c4) c3) (constant ⟨2, ![C, C]⟩ .f32 0x00000000#32)))) d2

section Step
variable {N H Wp A W K i ρ : ℕ} {u : (⟨4, ![N, H, Wp, C]⟩ : Shape).Idx → EReal} (hK : K = A * W)
  {v0 v1 v2 v3 : FVec Ideal ⟨4, ![1, A, W, C]⟩ .f32}
  (b0 : IsBlock u (4 * i) (ρ * A) v0) (b1 : IsBlock u (4 * i + 1) (ρ * A) v1)
  (b2 : IsBlock u (4 * i + 2) (ρ * A) v2) (b3 : IsBlock u (4 * i + 3) (ρ * A) v3)
  (D : DotDims ⟨2, ![K, C]⟩ ⟨2, ![K, C]⟩ ⟨2, ![C, C]⟩)
  (wf : DotDims.WF ⟨2, ![K, C]⟩ ⟨2, ![K, C]⟩ ⟨2, ![C, C]⟩ [0] [0] [1] [1] [] []) (hD : D = rowDims wf)
  (c4 : (⟨4, ![1, A, W, C]⟩ : Shape).ShapeCasts ⟨3, ![A, W, C]⟩) (c3 : (⟨3, ![A, W, C]⟩ : Shape).ShapeCasts ⟨2, ![K, C]⟩)
  (d3 : (⟨3, ![1, C, C]⟩ : Shape).ShapeCasts ⟨2, ![C, C]⟩) (d2 : (⟨2, ![C, C]⟩ : Shape).ShapeCasts ⟨3, ![1, C, C]⟩)
  (inb2 : ∀ l, (![2, 0, 0] : Fin 3 → ℕ) l + (![1, C, C] : Fin 3 → ℕ) l ≤ (⟨3, ![3, C, C]⟩ : Shape).size l)
  (inb1 : ∀ l, (![1, 0, 0] : Fin 3 → ℕ) l + (![1, C, C] : Fin 3 → ℕ) l ≤ (⟨3, ![3, C, C]⟩ : Shape).size l)
  (inb0 : ∀ l, (![0, 0, 0] : Fin 3 → ℕ) l + (![1, C, C] : Fin 3 → ℕ) l ≤ (⟨3, ![3, C, C]⟩ : Shape).size l)
  {a b : ℕ} (ha : a < C) (hb : b < C)
include hK b0 b1 b2 b3 wf hD ha hb

/-- A step's three slabs, over three old ones. -/
theorem slabs_step (X : ℕ → EReal) {old0 old1 old2 : FVec Ideal ⟨3, ![1, C, C]⟩ .f32}
    (o0 : rd3 old0 0 a b = X 0) (o1 : rd3 old1 0 a b = X 1) (o2 : rd3 old2 0 a b = X 2)
    (L : List (View.Piece (Elt Ideal) ⟨3, ![3, C, C]⟩ .f32)) (s : Fin 3) :
    rd3 (View.canon (Val := Elt Ideal) (s := ⟨3, ![3, C, C]⟩) (e := .f32)
      (⟨Rect.unit (s := ⟨3, ![3, C, C]⟩) ![2, 0, 0] ![1, C, C] inb2, newSlab D c4 c3 d3 d2 v1 v1 v3 v3 old2⟩
        :: ⟨Rect.unit (s := ⟨3, ![3, C, C]⟩) ![1, 0, 0] ![1, C, C] inb1, newSlab D c4 c3 d3 d2 v0 v1 v2 v3 old1⟩
        :: ⟨Rect.unit (s := ⟨3, ![3, C, C]⟩) ![0, 0, 0] ![1, C, C] inb0, newSlab D c4 c3 d3 d2 v0 v0 v2 v2 old0⟩ :: L)) s a b
      = X s + slabStep u W K i ρ s a b :=
  slabs_read L inb2 inb1 inb0 ha hb (fun s => X s + slabStep u W K i ρ s a b)
    ((slab_new (s := 0) hK b0 b0 b2 b2 old0 D wf hD c4 c3 d3 d2 ha hb).trans (congrArg (· + _) o0))
    ((slab_new (s := 1) hK b0 b1 b2 b3 old1 D wf hD c4 c3 d3 d2 ha hb).trans (congrArg (· + _) o1))
    ((slab_new (s := 2) hK b1 b1 b3 b3 old2 D wf hD c4 c3 d3 d2 ha hb).trans (congrArg (· + _) o2)) s

/-- The first step's three slabs, over the cleared scratch. -/
theorem slabs_first {sig : RefSig} {κ : Kind} {sp : Space} (v : View sig κ sp ⟨3, ![3, C, C]⟩ .f32)
    (inb : ∀ l, (![0, 0, 0] : Fin 3 → ℕ) l + (![3, C, C] : Fin 3 → ℕ) l ≤ (⟨3, ![3, C, C]⟩ : Shape).size l)
    (h : (⟨3, ![3, C, C]⟩ : Shape).ShapeCasts ⟨3, ![3, C, C]⟩) (w0 w0' w1 : FVec Ideal ⟨3, ![1, C, C]⟩ .f32)
    (L L0 L1 L2 : List (View.Piece (Elt Ideal) ⟨3, ![3, C, C]⟩ .f32)) (s : Fin 3) :
    rd3 (View.canon (Val := Elt Ideal) (s := ⟨3, ![3, C, C]⟩) (e := .f32)
      (⟨Rect.unit (s := ⟨3, ![3, C, C]⟩) ![2, 0, 0] ![1, C, C] inb2, newSlab D c4 c3 d3 d2 v1 v1 v3 v3
          (v.readCov (⟨Rect.unit (s := ⟨3, ![3, C, C]⟩) ![1, 0, 0] ![1, C, C] inb1, w1⟩ :: ⟨Rect.unit (s := ⟨3, ![3, C, C]⟩) ![0, 0, 0] ![1, C, C] inb0, w0'⟩
            :: ⟨Rect.unit (s := ⟨3, ![3, C, C]⟩) ![0, 0, 0] ![3, C, C] inb, (shapeCast ⟨3, ![3, C, C]⟩ (broadcast ⟨3, ![3, C, C]⟩ (Scalar.ofBits (F := Ideal) .f32 0x00000000#32)) h : FVec Ideal ⟨3, ![3, C, C]⟩ .f32)⟩ :: L2)
            (Rect.unit (s := ⟨3, ![3, C, C]⟩) ![2, 0, 0] ![1, C, C] inb2).toLoadRect)⟩
        :: ⟨Rect.unit (s := ⟨3, ![3, C, C]⟩) ![1, 0, 0] ![1, C, C] inb1, newSlab D c4 c3 d3 d2 v0 v1 v2 v3
          (v.readCov (⟨Rect.unit (s := ⟨3, ![3, C, C]⟩) ![0, 0, 0] ![1, C, C] inb0, w0⟩
            :: ⟨Rect.unit (s := ⟨3, ![3, C, C]⟩) ![0, 0, 0] ![3, C, C] inb, (shapeCast ⟨3, ![3, C, C]⟩ (broadcast ⟨3, ![3, C, C]⟩ (Scalar.ofBits (F := Ideal) .f32 0x00000000#32)) h : FVec Ideal ⟨3, ![3, C, C]⟩ .f32)⟩ :: L1)
            (Rect.unit (s := ⟨3, ![3, C, C]⟩) ![1, 0, 0] ![1, C, C] inb1).toLoadRect)⟩
        :: ⟨Rect.unit (s := ⟨3, ![3, C, C]⟩) ![0, 0, 0] ![1, C, C] inb0, newSlab D c4 c3 d3 d2 v0 v0 v2 v2
          (v.readCov (⟨Rect.unit (s := ⟨3, ![3, C, C]⟩) ![0, 0, 0] ![3, C, C] inb, (shapeCast ⟨3, ![3, C, C]⟩ (broadcast ⟨3, ![3, C, C]⟩ (Scalar.ofBits (F := Ideal) .f32 0x00000000#32)) h : FVec Ideal ⟨3, ![3, C, C]⟩ .f32)⟩ :: L0)
            (Rect.unit (s := ⟨3, ![3, C, C]⟩) ![0, 0, 0] ![1, C, C] inb0).toLoadRect)⟩ :: L)) s a b
      = 0 + slabStep u W K i ρ s a b := by
  refine slabs_step hK b0 b1 b2 b3 D wf hD c4 c3 d3 d2 inb2 inb1 inb0 ha hb (fun _ => 0) ?_ ?_ ?_ L s
  · exact (readCov_slab v 0 _ inb0 ha hb).trans (cleared L0 inb h (by decide) ha hb)
  · refine (readCov_slab v 1 _ inb1 ha hb).trans ((canon_skip 0 (k' := 1) (by decide) (by decide) inb0 w0 _ ha hb).trans ?_)
    exact cleared L1 inb h (by decide) ha hb
  · refine (readCov_slab v 2 _ inb2 ha hb).trans ((canon_skip 1 (k' := 2) (by decide) (by decide) inb1 w1 _ ha hb).trans ?_)
    exact (canon_skip 0 (k' := 2) (by decide) (by decide) inb0 w0' _ ha hb).trans (cleared L2 inb h (by decide) ha hb)

end Step

/-- A slab of what the step before left. -/
theorem old_slab {x acc : FVec Ideal ⟨3, ![3, C, C]⟩ .f32} (h : x = acc) (k : ℕ)
    (inb : ∀ l, (![k, 0, 0] : Fin 3 → ℕ) l + (![1, C, C] : Fin 3 → ℕ) l ≤ (⟨3, ![3, C, C]⟩ : Shape).size l) {a b : ℕ} (ha : a < C) (hb : b < C) :
    rd3 (View.ld (Val := Elt Ideal) (e' := .f32) x (Rect.unit (s := ⟨3, ![3, C, C]⟩) ![k, 0, 0] ![1, C, C] inb) : (⟨3, ![1, C, C]⟩ : Shape).Idx → EReal) 0 a b = rd3 acc k a b := by
  subst h
  refine (ld_rd3 x ![k, 0, 0] inb Nat.one_pos ha hb).trans ?_
  show rd3 x (k + 0) (0 + a) (0 + b) = _
  rw [Nat.add_zero, Nat.zero_add, Nat.zero_add]

/-- What a group's steps before its last leave in the scratch: the row blocks' sums so far. -/
theorem slabs_fold {N H Wp W K M R E : ℕ} {u : (⟨4, ![N, H, Wp, C]⟩ : Shape).Idx → EReal} (hE : E ≤ R)
    (z : (n : ℕ) → n < M → FVec Ideal ⟨3, ![3, C, C]⟩ .f32) (g : (n : ℕ) → n < M → FVec Ideal ⟨3, ![3, C, C]⟩ .f32 → FVec Ideal ⟨3, ![3, C, C]⟩ .f32)
    (hz : ∀ n h, n % R = 0 → ∀ (s : Fin 3) a b, a < C → b < C → rd3 (z n h) s a b = 0 + slabStep u W K (n / R) (n % R) s a b)
    (hg : ∀ n h acc, n % R ≠ 0 → n % R < E → ∀ (s : Fin 3) a b, a < C → b < C →
      rd3 (g n h acc) s a b = rd3 acc s a b + slabStep u W K (n / R) (n % R) s a b)
    (q j : ℕ) (hj : j < E) (h : R * q + j < M) (s : Fin 3) (a b : ℕ) (ha : a < C) (hb : b < C) :
    rd3 (Pipeline.accAt z g (R * q) j h) s a b = ∑ ρ ∈ Finset.range (j + 1), slabStep u W K q ρ s a b := by
  have at_ : ∀ k, k < R → (R * q + k) / R = q ∧ (R * q + k) % R = k := fun k hk =>
    ⟨by rw [Nat.mul_add_div (by omega), Nat.div_eq_of_lt hk, Nat.add_zero], by rw [Nat.mul_add_mod, Nat.mod_eq_of_lt hk]⟩
  induction j with
  | zero =>
    obtain ⟨e1, e2⟩ := at_ 0 (by omega)
    rw [Pipeline.accAt_zero, hz _ _ (Nat.mul_mod_right R q) s a b ha hb, Finset.sum_range_one, zero_add]
    rw [Nat.add_zero] at e1 e2
    rw [e1, e2]
  | succ j ih =>
    obtain ⟨e1, e2⟩ := at_ (j + 1) (by omega)
    rw [Pipeline.accAt_succ, hg _ _ _ (by rw [e2]; omega) (by rw [e2]; exact hj) s a b ha hb, ih (by omega), e1, e2, ← Finset.sum_range_succ]

end Slabs
end
end Cert.Vgg
end
-- ==== Proof.Gram3.lean ====
module
public import proofs.«01_k».proof.Proof.Gen.Kernel3Ideal.Value
public import proofs.«01_k».proof.Proof.Gram
@[expose] public section
set_option maxRecDepth 16384
open Idealize.ShloMosaic Idealize.ShloMosaic.TcCoe Idealize.SL.Sem
open Idealize.ShloMosaic.Pipeline (Dat)
namespace Cert.Kernel3Ideal.Value
open Cert.Kernel3Ideal Cert.Kernel3Ideal.Gen Cert.Vgg
/-! The Gram call of the second feature map: 4 steps a group. -/

variable (m : (ℓ : Loc nD τ sig) → Buf (Elt Ideal) ℓ)

theorem idx0 : ∀ t : Fin cfg0.N, win0_0.index t = ![4 * (t.val / 4) + 0, t.val % 4, 0, 0] ∧ win0_1.index t = ![4 * (t.val / 4) + 1, t.val % 4, 0, 0]
    ∧ win0_2.index t = ![4 * (t.val / 4) + 2, t.val % 4, 0, 0] ∧ win0_3.index t = ![4 * (t.val / 4) + 3, t.val % 4, 0, 0]
    ∧ win0_4.index t = ![t.val / 4, 0, 0] :=
  (by decide +kernel : ∀ t : Fin grid0.N, _)

/-- The map the call reads. -/
abbrev argU (c : Dev nD) : FVec Ideal S12x112x114x128 .f32 := V m c main_arg0

/-- The four images' row blocks at a step. -/
theorem blocks0 (c : Dev nD) (t : Fin cfg0.N) : ∀ w : Fin 4, ∀ r q i, r < 28 → q < 114 → i < 128 →
    rd4 (a := 1) (b := 28) (c := 114) (d := 128) (match w with | 0 => iblk m c 0 t | 1 => iblk m c 1 t | 2 => iblk m c 2 t | 3 => iblk m c 3 t) 0 r q i
      = rd4 (argU m c) (4 * (t.val / 4) + w) (t.val % 4 * 28 + r) q i := fun w r q i hr hq hi => by
  rw [rd4_in _ Nat.one_pos hr hq hi]
  match w with
  | 0 | 1 | 2 | 3 =>
    blk_simp [iblk]
    refine eq_rd4 _ _ ?_ ?_ ?_ ?_ <;> blk_simp [idx0 t] <;> rfl

/-- What a step loads of an image. -/
abbrev load0 (x : FVec Ideal S1x28x114x128 .f32) : FVec Ideal S1x28x112x128 .f32 :=
  View.ld (Val := Elt Ideal) (e' := .f32) x (Rect.unit (s := S1x28x114x128) ![0, 0, 1, 0] ![1, 28, 112, 128] inb_S1x28x114x128_S1x28x112x128_0_0_1_0)

theorem loads0 (c : Dev nD) (t : Fin cfg0.N) :
    IsBlock (argU m c) (4 * (t.val / 4)) (t.val % 4 * 28) (load0 (iblk m c 0 t)) ∧ IsBlock (argU m c) (4 * (t.val / 4) + 1) (t.val % 4 * 28) (load0 (iblk m c 1 t))
    ∧ IsBlock (argU m c) (4 * (t.val / 4) + 2) (t.val % 4 * 28) (load0 (iblk m c 2 t)) ∧ IsBlock (argU m c) (4 * (t.val / 4) + 3) (t.val % 4 * 28) (load0 (iblk m c 3 t)) :=
  ⟨block_of rfl (blocks0 m c t 0) _, block_of rfl (blocks0 m c t 1) _, block_of rfl (blocks0 m c t 2) _, block_of rfl (blocks0 m c t 3) _⟩

theorem step_first (c : Dev nD) (n : ℕ) (h : n < cfg0.N) (acc : Vec Ideal S3x128x128 .f32) (h0 : n % 4 = 0) (s : Fin 3) (a b : ℕ) (ha : a < 128) (hb : b < 128) :
    rd3 (scAt0_0 m c n h acc) s a b = 0 + slabStep (argU m c) 112 3136 (n / 4) (n % 4) s a b := by
  obtain ⟨b0, b1, b2, b3⟩ := loads0 m c ⟨n, h⟩
  unfold scAt0_0
  rw [dif_pos h0, dif_neg (by omega)]
  frame_out
  exact slabs_first rfl b0 b1 b2 b3 _ dot_S3136x128_S3136x128_S128x128_0_0_1_1_n_n.wf rfl _ _ _ _ _ _ _ ha hb _ _ _ _ _ _ _ _ _ _ s

theorem step_next (c : Dev nD) (n : ℕ) (h : n < cfg0.N) (acc : Vec Ideal S3x128x128 .f32) (h0 : n % 4 ≠ 0) (h3 : n % 4 < 3) (s : Fin 3) (a b : ℕ) (ha : a < 128) (hb : b < 128) :
    rd3 (scAt0_0 m c n h acc) s a b = rd3 acc s a b + slabStep (argU m c) 112 3136 (n / 4) (n % 4) s a b := by
  obtain ⟨b0, b1, b2, b3⟩ := loads0 m c ⟨n, h⟩
  unfold scAt0_0
  rw [dif_neg h0, dif_neg (by omega)]
  frame_out
  exact slabs_step rfl b0 b1 b2 b3 _ dot_S3136x128_S3136x128_S128x128_0_0_1_1_n_n.wf rfl _ _ _ _ _ _ _ ha hb (fun s => rd3 acc s a b)
    (old_slab (Memref.IsWhole.read_unread _ acc) 0 _ ha hb) (old_slab (Memref.IsWhole.read_unread _ acc) 1 _ ha hb) (old_slab (Memref.IsWhole.read_unread _ acc) 2 _ ha hb) _ s

/-- What a group's third step leaves. -/
theorem before_last (c : Dev nD) (t : Fin cfg0.N) (h3 : t.val % 4 = 3) (h : t.val - 1 < cfg0.N) (s : Fin 3) (a b : ℕ) (ha : a < 128) (hb : b < 128) :
    rd3 (outsAt0 m c (t.val - 1) h).2 s a b = ∑ ρ ∈ Finset.range 3, slabStep (argU m c) 112 3136 (t.val / 4) ρ s a b := by
  rw [soutsAt0_0_eq m c ⟨t.val - 1, h⟩]
  have e : (t.val - 1) % 4 = 2 := by omega
  have e' : (t.val - 1) / 4 = t.val / 4 := by omega
  simp only [e, e']
  exact slabs_fold (K := 3136) (E := 3) (R := 4) (by decide) _ _ (fun n h h0 => step_first m c n h _ h0) (fun n h acc => step_next m c n h acc) (t.val / 4) 2 (by decide) _ s a b ha hb

theorem fin0 (c : Dev nD) : (dats (F := Ideal) m 0 c).arrAt 4 cfg0.N = gramOut (argU m c) 112 12544 128 := by
  refine (dats m 0 c).arrAt_eq_of_covers 4 _ (by decide +kernel) fun t hf y => ?_
  have h3 : t.val % 4 = 3 := (by decide +kernel : ∀ t : Fin cfg0.N, (cfg0.win 4).flush t = true → t.val % 4 = 3) t hf
  obtain ⟨b0, b1, b2, b3⟩ := loads0 m c t
  have X := before_last m c t h3
  blk_simp
  rw [after0_4, outsAt0_C m c t (by omega) h3]; frame_out
  refine (two_words y _ _ _ _).trans ?_
  unfold gramOut
  rw [show (((cfg0.win 4).blk t).view.emb y 2 : ℕ) = (y 2).val from by blk_simp [idx0 t]]
  rw [show (((cfg0.win 4).blk t).view.emb y 0 : ℕ) = t.val / 4 from by blk_simp [idx0 t]]
  refine congrArg₂ (fun v z : EReal => if (y 2).val = 0 then v else z) ?_ Ideal.ofBits_zero_f32
  refine slabs_total (u := argU m c) (K := 3136) (R := 4) rfl _ _ (fun s a b ha hb => ?_) _ _ _ _ _ _ _ _ _ _
  refine (slabs_step rfl b0 b1 b2 b3 _ dot_S3136x128_S3136x128_S128x128_0_0_1_1_n_n.wf rfl _ _ _ _ _ _ _ ha hb
    (fun s => ∑ ρ ∈ Finset.range 3, slabStep (argU m c) 112 3136 (t.val / 4) ρ s a b)
    ((old_slab (Memref.IsWhole.read_unread _ _) 0 _ ha hb).trans (X _ 0 a b ha hb)) ((old_slab (Memref.IsWhole.read_unread _ _) 1 _ ha hb).trans (X _ 1 a b ha hb))
    ((old_slab (Memref.IsWhole.read_unread _ _) 2 _ ha hb).trans (X _ 2 a b ha hb)) _ s).trans ?_
  rw [Finset.sum_range_succ _ 3, h3]

end Cert.Kernel3Ideal.Value
-- ==== Proof.Gram4.lean ====
module
public import proofs.«01_k».proof.Proof.Gen.Kernel4Ideal.Value
public import proofs.«01_k».proof.Proof.Gram
@[expose] public section
set_option maxRecDepth 16384
open Idealize.ShloMosaic Idealize.ShloMosaic.TcCoe Idealize.SL.Sem
open Idealize.ShloMosaic.Pipeline (Dat)
namespace Cert.Kernel4Ideal.Value
open Cert.Kernel4Ideal Cert.Kernel4Ideal.Gen Cert.Vgg
/-! The Gram call of the third feature map: 2 steps a group. -/

variable (m : (ℓ : Loc nD τ sig) → Buf (Elt Ideal) ℓ)

theorem idx0 : ∀ t : Fin cfg0.N, win0_0.index t = ![4 * (t.val / 2) + 0, t.val % 2, 0, 0] ∧ win0_1.index t = ![4 * (t.val / 2) + 1, t.val % 2, 0, 0]
    ∧ win0_2.index t = ![4 * (t.val / 2) + 2, t.val % 2, 0, 0] ∧ win0_3.index t = ![4 * (t.val / 2) + 3, t.val % 2, 0, 0]
    ∧ win0_4.index t = ![t.val / 2, 0, 0] :=
  (by decide +kernel : ∀ t : Fin grid0.N, _)

/-- The map the call reads. -/
abbrev argU (c : Dev nD) : FVec Ideal S12x56x58x256 .f32 := V m c main_arg0

/-- The four images' row blocks at a step. -/
theorem blocks0 (c : Dev nD) (t : Fin cfg0.N) : ∀ w : Fin 4, ∀ r q i, r < 28 → q < 58 → i < 256 →
    rd4 (a := 1) (b := 28) (c := 58) (d := 256) (match w with | 0 => iblk m c 0 t | 1 => iblk m c 1 t | 2 => iblk m c 2 t | 3 => iblk m c 3 t) 0 r q i
      = rd4 (argU m c) (4 * (t.val / 2) + w) (t.val % 2 * 28 + r) q i := fun w r q i hr hq hi => by
  rw [rd4_in _ Nat.one_pos hr hq hi]
  match w with
  | 0 | 1 | 2 | 3 =>
    blk_simp [iblk]
    refine eq_rd4 _ _ ?_ ?_ ?_ ?_ <;> blk_simp [idx0 t] <;> rfl

/-- What a step loads of an image. -/
abbrev load0 (x : FVec Ideal S1x28x58x256 .f32) : FVec Ideal S1x28x56x256 .f32 :=
  View.ld (Val := Elt Ideal) (e' := .f32) x (Rect.unit (s := S1x28x58x256) ![0, 0, 1, 0] ![1, 28, 56, 256] inb_S1x28x58x256_S1x28x56x256_0_0_1_0)

theorem loads0 (c : Dev nD) (t : Fin cfg0.N) :
    IsBlock (argU m c) (4 * (t.val / 2)) (t.val % 2 * 28) (load0 (iblk m c 0 t)) ∧ IsBlock (argU m c) (4 * (t.val / 2) + 1) (t.val % 2 * 28) (load0 (iblk m c 1 t))
    ∧ IsBlock (argU m c) (4 * (t.val / 2) + 2) (t.val % 2 * 28) (load0 (iblk m c 2 t)) ∧ IsBlock (argU m c) (4 * (t.val / 2) + 3) (t.val % 2 * 28) (load0 (iblk m c 3 t)) :=
  ⟨block_of rfl (blocks0 m c t 0) _, block_of rfl (blocks0 m c t 1) _, block_of rfl (blocks0 m c t 2) _, block_of rfl (blocks0 m c t 3) _⟩

theorem step_first (c : Dev nD) (n : ℕ) (h : n < cfg0.N) (acc : Vec Ideal S3x256x256 .f32) (h0 : n % 2 = 0) (s : Fin 3) (a b : ℕ) (ha : a < 256) (hb : b < 256) :
    rd3 (scAt0_0 m c n h acc) s a b = 0 + slabStep (argU m c) 56 1568 (n / 2) (n % 2) s a b := by
  obtain ⟨b0, b1, b2, b3⟩ := loads0 m c ⟨n, h⟩
  unfold scAt0_0
  rw [dif_pos h0, dif_neg (by omega)]
  frame_out
  exact slabs_first rfl b0 b1 b2 b3 _ dot_S1568x256_S1568x256_S256x256_0_0_1_1_n_n.wf rfl _ _ _ _ _ _ _ ha hb _ _ _ _ _ _ _ _ _ _ s

/-- What a group's first step leaves. -/
theorem before_last (c : Dev nD) (t : Fin cfg0.N) (h1 : t.val % 2 = 1) (h : t.val - 1 < cfg0.N) (s : Fin 3) (a b : ℕ) (ha : a < 256) (hb : b < 256) :
    rd3 (outsAt0 m c (t.val - 1) h).2 s a b = ∑ ρ ∈ Finset.range 1, slabStep (argU m c) 56 1568 (t.val / 2) ρ s a b := by
  rw [soutsAt0_0_eq m c ⟨t.val - 1, h⟩]
  have e : (t.val - 1) % 2 = 0 := by omega
  have e' : (t.val - 1) / 2 = t.val / 2 := by omega
  simp only [e, e']
  exact slabs_fold (K := 1568) (E := 1) (R := 2) (by decide) _ _ (fun n h h0 => step_first m c n h _ h0) (fun n h acc h0 h1 => absurd h0 (by omega)) (t.val / 2) 0 (by decide) _ s a b ha hb

theorem fin0 (c : Dev nD) : (dats (F := Ideal) m 0 c).arrAt 4 cfg0.N = gramOut (argU m c) 56 3136 256 := by
  refine (dats m 0 c).arrAt_eq_of_covers 4 _ (by decide +kernel) fun t hf y => ?_
  have h1 : t.val % 2 = 1 := (by decide +kernel : ∀ t : Fin cfg0.N, (cfg0.win 4).flush t = true → t.val % 2 = 1) t hf
  obtain ⟨b0, b1, b2, b3⟩ := loads0 m c t
  have X := before_last m c t h1
  blk_simp
  rw [after0_4, outsAt0_B m c t (by omega) h1]; frame_out
  refine (two_words y _ _ _ _).trans ?_
  unfold gramOut
  rw [show (((cfg0.win 4).blk t).view.emb y 2 : ℕ) = (y 2).val from by blk_simp [idx0 t]]
  rw [show (((cfg0.win 4).blk t).view.emb y 0 : ℕ) = t.val / 2 from by blk_simp [idx0 t]]
  refine congrArg₂ (fun v z : EReal => if (y 2).val = 0 then v else z) ?_ Ideal.ofBits_zero_f32
  refine slabs_total (u := argU m c) (K := 1568) (R := 2) rfl _ _ (fun s a b ha hb => ?_) _ _ _ _ _ _ _ _ _ _
  refine (slabs_step rfl b0 b1 b2 b3 _ dot_S1568x256_S1568x256_S256x256_0_0_1_1_n_n.wf rfl _ _ _ _ _ _ _ ha hb
    (fun s => ∑ ρ ∈ Finset.range 1, slabStep (argU m c) 56 1568 (t.val / 2) ρ s a b)
    ((old_slab (Memref.IsWhole.read_unread _ _) 0 _ ha hb).trans (X _ 0 a b ha hb)) ((old_slab (Memref.IsWhole.read_unread _ _) 1 _ ha hb).trans (X _ 1 a b ha hb))
    ((old_slab (Memref.IsWhole.read_unread _ _) 2 _ ha hb).trans (X _ 2 a b ha hb)) _ s).trans ?_
  rw [Finset.sum_range_succ _ 1, h1]

end Cert.Kernel4Ideal.Value
-- ==== Proof.Gram5.lean ====
module
public import proofs.«01_k».proof.Proof.Gen.Kernel5Ideal.Value
public import proofs.«01_k».proof.Proof.Gram
@[expose] public section
set_option maxRecDepth 16384
open Idealize.ShloMosaic Idealize.ShloMosaic.TcCoe Idealize.SL.Sem
open Idealize.ShloMosaic.Pipeline (Dat)
namespace Cert.Kernel5Ideal.Value
open Cert.Kernel5Ideal Cert.Kernel5Ideal.Gen Cert.Vgg
/-! The Gram call of the last feature map: one step a group. -/

variable (m : (ℓ : Loc nD τ sig) → Buf (Elt Ideal) ℓ)

theorem idx0 : ∀ t : Fin cfg0.N, win0_0.index t = ![4 * t.val + 0, 0, 0, 0] ∧ win0_1.index t = ![4 * t.val + 1, 0, 0, 0]
    ∧ win0_2.index t = ![4 * t.val + 2, 0, 0, 0] ∧ win0_3.index t = ![4 * t.val + 3, 0, 0, 0] ∧ win0_4.index t = ![t.val, 0, 0] :=
  (by decide +kernel : ∀ t : Fin grid0.N, _)

/-- The map the call reads. -/
abbrev argU (c : Dev nD) : FVec Ideal S12x28x30x512 .f32 := V m c main_arg0

/-- The four images' row blocks at a step. -/
theorem blocks0 (c : Dev nD) (t : Fin cfg0.N) : ∀ w : Fin 4, ∀ r q i, r < 28 → q < 30 → i < 512 →
    rd4 (a := 1) (b := 28) (c := 30) (d := 512) (match w with | 0 => iblk m c 0 t | 1 => iblk m c 1 t | 2 => iblk m c 2 t | 3 => iblk m c 3 t) 0 r q i
      = rd4 (argU m c) (4 * t.val + w) (0 * 28 + r) q i := fun w r q i hr hq hi => by
  rw [rd4_in _ Nat.one_pos hr hq hi]
  match w with
  | 0 | 1 | 2 | 3 =>
    blk_simp [iblk]
    refine eq_rd4 _ _ ?_ ?_ ?_ ?_ <;> blk_simp [idx0 t] <;> rfl

theorem fin0 (c : Dev nD) : (dats (F := Ideal) m 0 c).arrAt 4 cfg0.N = gramOut (argU m c) 28 784 512 := by
  refine (dats m 0 c).arrAt_eq_of_covers 4 _ (by decide +kernel) fun t _ y => ?_
  have b0 := block_of (W := 28) rfl (blocks0 m c t 0) inb_S1x28x30x512_S1x28x28x512_0_0_1_0
  have b1 := block_of (W := 28) rfl (blocks0 m c t 1) inb_S1x28x30x512_S1x28x28x512_0_0_1_0
  have b2 := block_of (W := 28) rfl (blocks0 m c t 2) inb_S1x28x30x512_S1x28x28x512_0_0_1_0
  have b3 := block_of (W := 28) rfl (blocks0 m c t 3) inb_S1x28x30x512_S1x28x28x512_0_0_1_0
  blk_simp
  rw [after0_4]; unfold outsAt0; frame_out
  refine (two_words y _ _ _ _).trans ?_
  unfold gramOut
  rw [show (((cfg0.win 4).blk t).view.emb y 2 : ℕ) = (y 2).val from by blk_simp [idx0 t]]
  rw [show (((cfg0.win 4).blk t).view.emb y 0 : ℕ) = t.val from by blk_simp [idx0 t]]
  refine congrArg₂ (fun v z : EReal => if (y 2).val = 0 then v else z) ?_ Ideal.ofBits_zero_f32
  refine slabs_total (u := argU m c) (K := 784) (R := 1) rfl _ _ (fun s a b ha hb => ?_) _ _ _ _ _ _ _ _ _ _
  refine (slabs_first rfl b0 b1 b2 b3 _ dot_S784x512_S784x512_S512x512_0_0_1_1_n_n.wf rfl _ _ _ _ _ _ _ ha hb _ _ _ _ _ _ _ _ _ _ s).trans ?_
  exact (zero_add _).trans (Finset.sum_range_one (slabStep (argU m c) 28 784 t.val · s a b)).symm

end Cert.Kernel5Ideal.Value
-- ==== Proof.GramRef.lean ====
module
public import proofs.«01_k».proof.Proof.Gram
public import proofs.«01_k».proof.Proof.Net
@[expose] public section
set_option maxRecDepth 16384
open Idealize.ShloMosaic Idealize.ShloMosaic.TcCoe
open Idealize.ShloMosaic.ValueIdx (contrEquiv1 contrEquiv1_symm_val)
namespace Cert.Vgg
noncomputable section
/-! The references of the Gram calls: both matrices of every group at once, their difference squared and summed. -/

variable {H W Wp C D P : ℕ}

/-- The features of a pair of images: channel `a` of image `k` of a pair is row `k * C + a`, its pixels row by row. -/
theorem features_at (u : (⟨4, ![12, H, Wp, C]⟩ : Shape).Idx → EReal) (hP : P = H * W) (hD : D = 2 * C)
    (hs : (⟨4, ![12, H, Wp, C]⟩ : Shape).Slices ![0, 0, 1, 0] ⟨4, ![12, H, W, C]⟩)
    (h1 : (⟨4, ![12, H, W, C]⟩ : Shape).ShapeCasts ⟨5, ![3, 2, 2, P, C]⟩)
    (ht : (⟨5, ![3, 2, 2, P, C]⟩ : Shape).Transposes [0, 1, 2, 4, 3] ⟨5, ![3, 2, 2, C, P]⟩)
    (h2 : (⟨5, ![3, 2, 2, C, P]⟩ : Shape).ShapeCasts ⟨4, ![3, 2, D, P]⟩) (i : Fin 3) (j k : Fin 2) (a : Fin C) (p : Fin P) :
    rd4 (shapeCast ⟨4, ![3, 2, D, P]⟩ (transpose ⟨5, ![3, 2, 2, C, P]⟩ [0, 1, 2, 4, 3]
        (shapeCast ⟨5, ![3, 2, 2, P, C]⟩ (extractStridedSlice ⟨4, ![12, H, W, C]⟩ ![0, 0, 1, 0] u hs) h1) ht) h2) i j (k * C + a) p
      = rd4 u (4 * i + 2 * j + k) (p / W) (1 + p % W) a := by
  have hp := p.isLt
  have ha := a.isLt
  have hi := i.isLt
  have hj := j.isLt
  have hk := k.isLt
  have hW : 0 < W := Nat.pos_of_ne_zero fun h0 => by subst h0; omega
  have hy : p.val / W < H := by rw [Nat.div_lt_iff_lt_mul hW]; omega
  have hx : p.val % W < W := Nat.mod_lt _ hW
  have hd : k.val * C + a.val < D := by
    have : k.val * C ≤ 1 * C := Nat.mul_le_mul_right _ (by omega)
    omega
  have hn : 4 * i.val + 2 * j.val + k.val < 12 := by omega
  rw [rd4_in _ hi hj hd hp]
  refine (shapeCast_apply _ h2 _ (ix5 i j k a p) ?_).trans ((transpose_apply _ _ ht _ (ix5 i j k p a) fun b => ?_).trans
    ((shapeCast_apply _ h1 _ (ix4 ⟨4 * i.val + 2 * j.val + k.val, hn⟩ ⟨p.val / W, hy⟩ ⟨p.val % W, hx⟩ a) ?_).trans ?_))
  · rw [Shape.rowMajor_val_five, Shape.rowMajor_val_four]
    show (((i.val * 2 + j.val) * 2 + k.val) * C + a.val) * P + p.val = ((i.val * 2 + j.val) * D + (k.val * C + a.val)) * P + p.val
    rw [hD]; ring
  · match b with
    | ⟨0, _⟩ => rfl
    | ⟨1, _⟩ => rfl
    | ⟨2, _⟩ => rfl
    | ⟨3, _⟩ => rfl
    | ⟨4, _⟩ => rfl
  · rw [Shape.rowMajor_val_five, Shape.rowMajor_val_four]
    show (((4 * i.val + 2 * j.val + k.val) * H + p.val / W) * W + p.val % W) * C + a.val
      = (((i.val * 2 + j.val) * 2 + k.val) * P + p.val) * C + a.val
    have e := Nat.div_add_mod' p.val W
    have e2 : ((4 * i.val + 2 * j.val + k.val) * H + p.val / W) * W + p.val % W
        = (4 * i.val + 2 * j.val + k.val) * (H * W) + (p.val / W * W + p.val % W) := by ring
    rw [e2, e, ← hP]; ring
  · refine (rd4_in _ hn hy hx ha).symm.trans ((slice4 _ u hs hn hy hx ha).trans ?_)
    show rd4 u (0 + _) (0 + _) (1 + _) (0 + _) = _
    rw [Nat.zero_add, Nat.zero_add, Nat.zero_add]

/-- The dimension numbers of the references' products: one product for every pair, rows with rows. -/
abbrev pairDims (wf : DotDims.WF ⟨4, ![3, 2, D, P]⟩ ⟨4, ![3, 2, D, P]⟩ ⟨4, ![3, 2, D, D]⟩ [3] [3] [2] [2] [0, 1] [0, 1]) :
    DotDims ⟨4, ![3, 2, D, P]⟩ ⟨4, ![3, 2, D, P]⟩ ⟨4, ![3, 2, D, D]⟩ := ⟨[3], [3], [2], [2], [0, 1], [0, 1], wf⟩

theorem pair_dot (wf : DotDims.WF ⟨4, ![3, 2, D, P]⟩ ⟨4, ![3, 2, D, P]⟩ ⟨4, ![3, 2, D, D]⟩ [3] [3] [2] [2] [0, 1] [0, 1])
    (f : FVec Ideal ⟨4, ![3, 2, D, P]⟩ .f32) {i j d e : ℕ} (hi : i < 3) (hj : j < 2) (hd : d < D) (he : e < D) :
    rd4 (Host.dotGeneral (F := Ideal) (pairDims wf) none f f) i j d e = ∑ p : Fin P, rd4 f i j d p * rd4 f i j e p := by
  rw [rd4_in _ hi hj hd he]
  show FloatOps.dotGeneral _ none _ f f _ = _
  rw [Ideal.dotGeneral_apply, ← Equiv.sum_comp (contrEquiv1 (pairDims wf) P rfl rfl).symm]
  refine Finset.sum_congr rfl fun p _ => ?_
  have c3 := contrEquiv1_symm_val (pairDims wf) P rfl rfl p
  refine congrArg₂ (· * ·) (eq_rd4 f _ ?_ ?_ ?_ ?_) (eq_rd4 f _ ?_ ?_ ?_ ?_)
  · simp [DotDims.lhsIdx]; rfl
  · simp [DotDims.lhsIdx]; rfl
  · simp [DotDims.lhsIdx]; rfl
  · simp [DotDims.lhsIdx]; exact c3
  · simp [DotDims.rhsIdx]; rfl
  · simp [DotDims.rhsIdx]; rfl
  · simp [DotDims.rhsIdx]; rfl
  · simp [DotDims.rhsIdx]; exact c3

/-- One side of every pair. -/
theorem side (g : (⟨4, ![3, 2, D, D]⟩ : Shape).Idx → EReal) (j : ℕ) (hj : j < 2)
    (hs : (⟨4, ![3, 2, D, D]⟩ : Shape).Slices ![0, j, 0, 0] ⟨4, ![3, 1, D, D]⟩)
    (h : (⟨4, ![3, 1, D, D]⟩ : Shape).ShapeCasts ⟨3, ![3, D, D]⟩) (i : Fin 3) (d e : Fin D) :
    shapeCast ⟨3, ![3, D, D]⟩ (extractStridedSlice ⟨4, ![3, 1, D, D]⟩ ![0, j, 0, 0] g hs) h (ix3 i d e) = rd4 g i j d e := by
  refine (shapeCast_apply _ h _ (ix4 i (0 : Fin 1) d e) ?_).trans ?_
  · rw [Shape.rowMajor_val_three, Shape.rowMajor_val_four]
    show ((i.val * 1 + 0) * D + d.val) * D + e.val = (i.val * D + d.val) * D + e.val
    rw [Nat.mul_one, Nat.add_zero]
  · refine (rd4_in _ i.isLt Nat.one_pos d.isLt e.isLt).symm.trans ((slice4 _ g hs i.isLt Nat.one_pos d.isLt e.isLt).trans ?_)
    show rd4 g (0 + _) (j + 0) (0 + _) (0 + _) = _
    rw [Nat.zero_add, Nat.zero_add, Nat.zero_add, Nat.add_zero]

/-- A sum over the rows and columns of a matrix of two by two blocks. -/
theorem sum_quarters (hD : D = 2 * C) (f : ℕ → ℕ → EReal) :
    ∑ d : Fin D, ∑ e : Fin D, f d e
      = (∑ a : Fin C, ∑ b : Fin C, f (0 * C + a) (0 * C + b) + ∑ a : Fin C, ∑ b : Fin C, f (0 * C + a) (1 * C + b))
        + (∑ a : Fin C, ∑ b : Fin C, f (1 * C + a) (0 * C + b) + ∑ a : Fin C, ∑ b : Fin C, f (1 * C + a) (1 * C + b)) := by
  have half : ∀ g : ℕ → EReal, ∑ d : Fin D, g d = ∑ a : Fin C, g (0 * C + a) + ∑ a : Fin C, g (1 * C + a) := fun g => by
    rw [Fin.sum_univ_eq_sum_range g, Fin.sum_univ_eq_sum_range (fun a => g (0 * C + a)), Fin.sum_univ_eq_sum_range (fun a => g (1 * C + a)),
      hD, Nat.two_mul, Finset.sum_range_add]
    simp only [Nat.zero_mul, Nat.zero_add, Nat.one_mul]
  have rows : ∀ d, ∑ e : Fin D, f d e = ∑ b : Fin C, f d (0 * C + b) + ∑ b : Fin C, f d (1 * C + b) := fun d => half (f d)
  rw [half (fun d => ∑ e : Fin D, f d e)]
  simp only [rows, Finset.sum_add_distrib]

/-- The host's padding of a number a group by a zero beside it. -/
theorem pad_pair (x : FVec Ideal ⟨3, ![3, 1, 1]⟩ .f32) (v : FVec Ideal ⟨0, ![]⟩ .f32) (hv : ∀ j, v j = (0 : EReal))
    (h : (⟨3, ![3, 1, 1]⟩ : Shape).Pads ![0, 0, 0] ![0, 0, 1] ![0, 0, 0] ⟨3, ![3, 1, 2]⟩) (hu : 0 < (⟨0, ![]⟩ : Shape).numel)
    (j : (⟨3, ![3, 1, 2]⟩ : Shape).Idx) :
    pad ⟨3, ![3, 1, 2]⟩ ![0, 0, 0] ![0, 0, 1] ![0, 0, 0] x v h hu j
      = if (j 2).val = 0 then x (ix3 (j 0) (0 : Fin 1) (0 : Fin 1)) else 0 := by
  have l0 : (j 0).val < 3 := (j 0).isLt
  have l1 : (j 1).val < 1 := (j 1).isLt
  unfold pad
  by_cases hj : (j 2).val = 0
  · rw [if_pos hj]
    refine (dif_pos fun a => ?_).trans ((eq_rd3 x _ ?_ ?_ ?_).trans (eq_rd3 x _ rfl rfl rfl).symm)
    · match a with
      | ⟨0, _⟩ => exact ⟨Nat.zero_le _, Nat.mod_one _, show ((j 0).val - 0) / 1 < 3 by omega⟩
      | ⟨1, _⟩ => exact ⟨Nat.zero_le _, Nat.mod_one _, show ((j 1).val - 0) / 1 < 1 by omega⟩
      | ⟨2, _⟩ => exact ⟨Nat.zero_le _, Nat.mod_one _, show ((j 2).val - 0) / 1 < 1 by omega⟩
    · show ((j 0).val - 0) / 1 = (j 0).val; omega
    · show ((j 1).val - 0) / 1 = 0; omega
    · show ((j 2).val - 0) / 1 = 0; omega
  · rw [if_neg hj]
    refine (dif_neg fun hin => hj ?_).trans (hv _)
    obtain ⟨-, -, h2⟩ := hin (2 : Fin 3)
    change ((j 2).val - 0) / 1 < 1 at h2
    omega

/-- The reference's result is the squared distances, a zero beside each. -/
theorem ref_gram (u : FVec Ideal ⟨4, ![12, H, Wp, C]⟩ .f32) (hP : P = H * W) (hD : D = 2 * C)
    (hs : (⟨4, ![12, H, Wp, C]⟩ : Shape).Slices ![0, 0, 1, 0] ⟨4, ![12, H, W, C]⟩)
    (h1 : (⟨4, ![12, H, W, C]⟩ : Shape).ShapeCasts ⟨5, ![3, 2, 2, P, C]⟩)
    (ht : (⟨5, ![3, 2, 2, P, C]⟩ : Shape).Transposes [0, 1, 2, 4, 3] ⟨5, ![3, 2, 2, C, P]⟩)
    (h2 : (⟨5, ![3, 2, 2, C, P]⟩ : Shape).ShapeCasts ⟨4, ![3, 2, D, P]⟩)
    (f : FVec Ideal ⟨4, ![3, 2, D, P]⟩ .f32)
    (hf : f = shapeCast ⟨4, ![3, 2, D, P]⟩ (transpose ⟨5, ![3, 2, 2, C, P]⟩ [0, 1, 2, 4, 3]
        (shapeCast ⟨5, ![3, 2, 2, P, C]⟩ (extractStridedSlice ⟨4, ![12, H, W, C]⟩ ![0, 0, 1, 0] u hs) h1) ht) h2)
    (dd : DotDims ⟨4, ![3, 2, D, P]⟩ ⟨4, ![3, 2, D, P]⟩ ⟨4, ![3, 2, D, D]⟩)
    (wf : DotDims.WF ⟨4, ![3, 2, D, P]⟩ ⟨4, ![3, 2, D, P]⟩ ⟨4, ![3, 2, D, D]⟩ [3] [3] [2] [2] [0, 1] [0, 1]) (hdd : dd = pairDims wf)
    (s0 : (⟨4, ![3, 2, D, D]⟩ : Shape).Slices ![0, 0, 0, 0] ⟨4, ![3, 1, D, D]⟩)
    (s1 : (⟨4, ![3, 2, D, D]⟩ : Shape).Slices ![0, 1, 0, 0] ⟨4, ![3, 1, D, D]⟩)
    (h3 : (⟨4, ![3, 1, D, D]⟩ : Shape).ShapeCasts ⟨3, ![3, D, D]⟩)
    (x : FVec Ideal ⟨3, ![3, D, D]⟩ .f32)
    (hx : x = subf (shapeCast ⟨3, ![3, D, D]⟩ (extractStridedSlice ⟨4, ![3, 1, D, D]⟩ ![0, 0, 0, 0] (Host.dotGeneral (F := Ideal) dd none f f) s0) h3)
      (shapeCast ⟨3, ![3, D, D]⟩ (extractStridedSlice ⟨4, ![3, 1, D, D]⟩ ![0, 1, 0, 0] (Host.dotGeneral (F := Ideal) dd none f f) s1) h3))
    (hr : (⟨3, ![3, D, D]⟩ : Shape).ReducesTo [1, 2] ⟨1, ![3]⟩) (hu : 0 < (⟨0, ![]⟩ : Shape).numel)
    (h4 : (⟨1, ![3]⟩ : Shape).ShapeCasts ⟨3, ![3, 1, 1]⟩)
    (hp : (⟨3, ![3, 1, 1]⟩ : Shape).Pads ![0, 0, 0] ![0, 0, 1] ![0, 0, 0] ⟨3, ![3, 1, 2]⟩) (hu' : 0 < (⟨0, ![]⟩ : Shape).numel) :
    pad ⟨3, ![3, 1, 2]⟩ ![0, 0, 0] ![0, 0, 1] ![0, 0, 0]
        (shapeCast ⟨3, ![3, 1, 1]⟩ (Host.reduceAdd (F := Ideal) (mulf x x) (constant ⟨0, ![]⟩ .f32 0x00000000#32) hr hu) h4)
        (sitofp .f32 (constantI ⟨0, ![]⟩ 32 0#32)) hp hu'
      = gramOut u W P C := by
  funext j
  have l0 : (j 0).val < 3 := (j 0).isLt
  rw [pad_pair _ _ zero_word]
  unfold gramOut
  refine congrArg (fun v : EReal => if (j 2).val = 0 then v else 0) ?_
  refine (shapeCast_apply _ h4 _ (ix1 (⟨(j 0).val, l0⟩ : Fin 3)) ?_).trans ?_
  · rw [Shape.rowMajor_val_one, Shape.rowMajor_val_three]
    show (j 0).val = ((j 0).val * 1 + 0) * 1 + 0
    omega
  rw [Host.reduceAdd_apply, Ideal.hostReduceAdd_def, Ideal.hostReduceAdd_r3_a12]
  subst hdd
  -- the difference at two rows
  have g : ∀ (j' : Fin 2) (k k' : Fin 2) (a b : Fin C),
      rd4 (Host.dotGeneral (F := Ideal) (pairDims wf) none f f) (j 0).val j' (k * C + a) (k' * C + b)
        = gramAt u W P (4 * (j 0).val + 2 * j' + k) (4 * (j 0).val + 2 * j' + k') a b := fun j' k k' a b => by
    have hd : ∀ (k : Fin 2) (a : Fin C), k.val * C + a.val < D := fun k a => by
      have : k.val * C ≤ 1 * C := Nat.mul_le_mul_right _ (by omega)
      omega
    rw [pair_dot wf f l0 j'.isLt (hd k a) (hd k' b)]
    unfold gramAt
    rw [← Fin.sum_univ_eq_sum_range (fun p => pixelProduct u W (4 * (j 0).val + 2 * j' + k) (4 * (j 0).val + 2 * j' + k') a b p)]
    refine Finset.sum_congr rfl fun p _ => ?_
    rw [hf]
    exact congrArg₂ (· * ·) (features_at u hP hD hs h1 ht h2 ⟨(j 0).val, l0⟩ j' k a p) (features_at u hP hD hs h1 ht h2 ⟨(j 0).val, l0⟩ j' k' b p)
  have q : ∀ (k k' : Fin 2), ∑ a : Fin C, ∑ b : Fin C,
      (rd4 (Host.dotGeneral (F := Ideal) (pairDims wf) none f f) (j 0).val 0 (k * C + a) (k' * C + b) - rd4 (Host.dotGeneral (F := Ideal) (pairDims wf) none f f) (j 0).val 1 (k * C + a) (k' * C + b))
        * (rd4 (Host.dotGeneral (F := Ideal) (pairDims wf) none f f) (j 0).val 0 (k * C + a) (k' * C + b) - rd4 (Host.dotGeneral (F := Ideal) (pairDims wf) none f f) (j 0).val 1 (k * C + a) (k' * C + b))
      = blockDist u W P C (j 0).val k k' := fun k k' => by
    unfold blockDist gramDiff
    refine Finset.sum_congr rfl fun a _ => Finset.sum_congr rfl fun b _ => ?_
    have d := congrArg₂ (fun a b : EReal => a - b) (g 0 k k' a b) (g 1 k k' a b)
    exact congrArg₂ (fun a b : EReal => a * b) d d
  have e : ∀ d e : Fin D, mulf (F := Ideal) (φ := .f32) x x (ix3 (⟨(j 0).val, l0⟩ : Fin 3) d e)
      = (rd4 (Host.dotGeneral (F := Ideal) (pairDims wf) none f f) (j 0).val 0 d e - rd4 (Host.dotGeneral (F := Ideal) (pairDims wf) none f f) (j 0).val 1 d e)
        * (rd4 (Host.dotGeneral (F := Ideal) (pairDims wf) none f f) (j 0).val 0 d e - rd4 (Host.dotGeneral (F := Ideal) (pairDims wf) none f f) (j 0).val 1 d e) := fun d e => by
    have hd := congrArg₂ (fun a b : EReal => a - b) (side (Host.dotGeneral (F := Ideal) (pairDims wf) none f f) 0 (by omega) s0 h3 ⟨(j 0).val, l0⟩ d e)
      (side (Host.dotGeneral (F := Ideal) (pairDims wf) none f f) 1 (by omega) s1 h3 ⟨(j 0).val, l0⟩ d e)
    rw [hx]
    exact congrArg₂ (· * ·) hd hd
  refine (congrArg₂ (· + ·) Ideal.ofBits_zero_f32 (Finset.sum_congr rfl fun d _ => Finset.sum_congr rfl fun e' _ => e d e')).trans ?_
  rw [zero_add]
  refine (sum_quarters hD (fun d e => (rd4 (Host.dotGeneral (F := Ideal) (pairDims wf) none f f) (j 0).val 0 d e - rd4 (Host.dotGeneral (F := Ideal) (pairDims wf) none f f) (j 0).val 1 d e)
        * (rd4 (Host.dotGeneral (F := Ideal) (pairDims wf) none f f) (j 0).val 0 d e - rd4 (Host.dotGeneral (F := Ideal) (pairDims wf) none f f) (j 0).val 1 d e))).trans ?_
  refine (congrArg₂ (· + ·) (congrArg₂ (· + ·) (q 0 0) (q 0 1)) (congrArg₂ (· + ·) (q 1 0) (q 1 1))).trans ?_
  show blockDist u W P C (j 0).val 0 0 + blockDist u W P C (j 0).val 0 1 + (blockDist u W P C (j 0).val 1 0 + blockDist u W P C (j 0).val 1 1) = _
  rw [blockDist_swap u W P C (j 0).val 0 1, two_times]
  simp only [add_assoc]

end
end Cert.Vgg
-- ==== Proof.lean ====
/-
  The certificate: the frames of the fifteen programs, and the equality at the ideal values of each kernel program's results
  with its reference's. Proof/KernelRun.lean and Proof/TailRun.lean state what the network programs' runs leave,
  Proof/RefNet.lean and Proof/RefTail.lean what their references' leave, all as the layers of Proof/Spec.lean;
  Proof/Gram3.lean, Gram4.lean and Gram5.lean state what the Gram calls leave and Proof/GramRef.lean what their references
  leave, all as `Cert.Vgg.gramOut` of Proof/Gram.lean. Here the arguments are matched.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.KernelRun
public import proofs.«01_k».proof.Proof.RefNet
public import proofs.«01_k».proof.Proof.TailRun
public import proofs.«01_k».proof.Proof.RefTail
public import proofs.«01_k».proof.Proof.Gram3
public import proofs.«01_k».proof.Proof.Gram4
public import proofs.«01_k».proof.Proof.Gram5
public import proofs.«01_k».proof.Proof.GramRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The first reference's frame: its run leaves the arguments, and it declares no semaphore. -/
theorem frame_reference : @Cert.quiescent_ReferenceIdeal Cert.ReferenceIdeal.Gen.facts := fun m g _ =>
  (θ_run (Cert.ReferenceIdeal.defs (F := Ideal)) _ _).mono
    (fun r h => ⟨fun c => (h c).2.2.2, sem_eq_zero_of_no_sems (by decide) r.2⟩) (Cert.ReferenceIdeal.Value.maps_run m g)

/-- The first program's three results are the reference's. -/
theorem algebraic : @Cert.algebraic_KernelIdeal_ReferenceIdeal Cert.KernelIdeal.Gen.facts Cert.ReferenceIdeal.Gen.facts := by
  intro m g m' g' _ hagree
  refine ⟨_, _, _, Cert.KernelIdeal.Value.maps_run m g,
    (θ_run (Cert.ReferenceIdeal.defs (F := Ideal)) _ _).mono (fun r h c => ?_) (Cert.ReferenceIdeal.Value.maps_run m' g')⟩
  obtain ⟨h0, h1, h2, ha⟩ := h c
  obtain ⟨a0, a1, a2, a3, a4, a5, a6, a7, a8, a9, a10, a11, a12, a13, a14⟩ := hagree c
  have e0 : Cert.ReferenceIdeal.Value.map0 (StableHlo.launchContents m' c) = Cert.KernelIdeal.Value.map0 m c := by
    show Cert.Vgg.two (Cert.Vgg.image (m' (c.tc.loc Cert.ReferenceIdeal.main_arg0))) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) = _
    rw [a0, a1, a2, a3, a4]; rfl
  have e1 : Cert.ReferenceIdeal.Value.map1 (StableHlo.launchContents m' c) = Cert.KernelIdeal.Value.map1 m c := by
    show Cert.Vgg.two (Cert.Vgg.pool 112 112 (Cert.ReferenceIdeal.Value.map0 (StableHlo.launchContents m' c))) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = _
    rw [e0, a5, a6, a7, a8]; rfl
  have e2 : Cert.ReferenceIdeal.Value.map2 (StableHlo.launchContents m' c) = Cert.KernelIdeal.Value.map2 m c := by
    show Cert.Vgg.three (Cert.Vgg.pool 56 56 (Cert.ReferenceIdeal.Value.map1 (StableHlo.launchContents m' c))) (m' (c.tc.loc Cert.ReferenceIdeal.main_arg9)) (m' (c.tc.loc Cert.ReferenceIdeal.main_arg10)) (m' (c.tc.loc Cert.ReferenceIdeal.main_arg11)) (m' (c.tc.loc Cert.ReferenceIdeal.main_arg12)) (m' (c.tc.loc Cert.ReferenceIdeal.main_arg13)) (m' (c.tc.loc Cert.ReferenceIdeal.main_arg14)) = _
    rw [e1, a9, a10, a11, a12, a13, a14]; rfl
  exact ⟨h0.trans (congrArg (Cert.Vgg.padW 226) e0), h1.trans (congrArg (Cert.Vgg.padW 114) e1),
    h2.trans (congrArg (Cert.Vgg.padW 58) e2), ha⟩

/-- The second reference's frame. -/
theorem frame_reference2 : @Cert.quiescent_Reference2Ideal Cert.Reference2Ideal.Gen.facts := fun m g _ =>
  (θ_run (Cert.Reference2Ideal.defs (F := Ideal)) _ _).mono
    (fun r h => ⟨fun c => (h c).2, sem_eq_zero_of_no_sems (by decide) r.2⟩) (Cert.Reference2Ideal.Value.maps_run m g)

/-- The second program's result is its reference's. -/
theorem algebraic2 : @Cert.algebraic_Kernel2Ideal_Reference2Ideal Cert.Kernel2Ideal.Gen.facts Cert.Reference2Ideal.Gen.facts := by
  intro m g m' g' _ hagree
  refine ⟨_, Cert.Kernel2Ideal.Value.maps_run m g,
    (θ_run (Cert.Reference2Ideal.defs (F := Ideal)) _ _).mono (fun r h c => ?_) (Cert.Reference2Ideal.Value.maps_run m' g')⟩
  obtain ⟨h3, ha⟩ := h c
  obtain ⟨a0, a1, a2, a3, a4, a5, a6⟩ := hagree c
  have e3 : Cert.Reference2Ideal.Value.map3 (StableHlo.launchContents m' c) = Cert.Kernel2Ideal.Value.map3 m c := by
    show Cert.Vgg.three (Cert.Vgg.pool 28 28 (Cert.Vgg.inside 56 (m' (c.tc.loc Cert.Reference2Ideal.main_arg0)))) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) = _
    rw [a0, a1, a2, a3, a4, a5, a6]; rfl
  exact ⟨h3.trans (congrArg (Cert.Vgg.padW 30) e3), ha⟩

/-- The frame of the reference of the second map's Gram call. -/
theorem frame_reference3 : @Cert.quiescent_Reference3Ideal Cert.Reference3Ideal.Gen.facts := fun m g _ =>
  (θ_run (Cert.Reference3Ideal.defs (F := Ideal)) _ _).mono
    (fun r h => ⟨fun c => (h c).2, sem_eq_zero_of_no_sems (by decide) r.2⟩) (Cert.Reference3Ideal.Value.run m g)

/-- The second map's Gram call gives its reference's squared distances. -/
theorem algebraic3 : @Cert.algebraic_Kernel3Ideal_Reference3Ideal Cert.Kernel3Ideal.Gen.facts Cert.Reference3Ideal.Gen.facts := by
  intro m g m' g' _ hagree
  refine ⟨_, (θ_run (Cert.Kernel3Ideal.defs (F := Ideal)) _ _).mono
      (fun r h c => ⟨(h c).1.trans (Cert.Kernel3Ideal.Value.fin0 m c), (h c).2⟩) (Cert.Kernel3Ideal.Value.run_blocks m g),
    (θ_run (Cert.Reference3Ideal.defs (F := Ideal)) _ _).mono (fun r h c => ⟨(h c).1.trans ?_, (h c).2⟩) (Cert.Reference3Ideal.Value.run m' g')⟩
  refine (Cert.Vgg.ref_gram (P := 12544) (m' (c.tc.loc Cert.Reference3Ideal.main_arg0)) rfl rfl _ _ _ _ _ rfl _
    Cert.Reference3Ideal.dot_S3x2x256x12544_S3x2x256x12544_S3x2x256x256_3_3_2_2_01_01.wf rfl _ _ _ _ rfl _ _ _ _ _).trans ?_
  exact congrArg (Cert.Vgg.gramOut · 112 12544 128) ((hagree c).trans (Cert.Kernel3Ideal.Gen.V_main_arg0 m c).symm)

/-- The frame of the reference of the third map's Gram call. -/
theorem frame_reference4 : @Cert.quiescent_Reference4Ideal Cert.Reference4Ideal.Gen.facts := fun m g _ =>
  (θ_run (Cert.Reference4Ideal.defs (F := Ideal)) _ _).mono
    (fun r h => ⟨fun c => (h c).2, sem_eq_zero_of_no_sems (by decide) r.2⟩) (Cert.Reference4Ideal.Value.run m g)

/-- The third map's Gram call gives its reference's squared distances. -/
theorem algebraic4 : @Cert.algebraic_Kernel4Ideal_Reference4Ideal Cert.Kernel4Ideal.Gen.facts Cert.Reference4Ideal.Gen.facts := by
  intro m g m' g' _ hagree
  refine ⟨_, (θ_run (Cert.Kernel4Ideal.defs (F := Ideal)) _ _).mono
      (fun r h c => ⟨(h c).1.trans (Cert.Kernel4Ideal.Value.fin0 m c), (h c).2⟩) (Cert.Kernel4Ideal.Value.run_blocks m g),
    (θ_run (Cert.Reference4Ideal.defs (F := Ideal)) _ _).mono (fun r h c => ⟨(h c).1.trans ?_, (h c).2⟩) (Cert.Reference4Ideal.Value.run m' g')⟩
  refine (Cert.Vgg.ref_gram (P := 3136) (m' (c.tc.loc Cert.Reference4Ideal.main_arg0)) rfl rfl _ _ _ _ _ rfl _
    Cert.Reference4Ideal.dot_S3x2x512x3136_S3x2x512x3136_S3x2x512x512_3_3_2_2_01_01.wf rfl _ _ _ _ rfl _ _ _ _ _).trans ?_
  exact congrArg (Cert.Vgg.gramOut · 56 3136 256) ((hagree c).trans (Cert.Kernel4Ideal.Gen.V_main_arg0 m c).symm)

/-- The frame of the reference of the fourth map's Gram call. -/
theorem frame_reference5 : @Cert.quiescent_Reference5Ideal Cert.Reference5Ideal.Gen.facts := fun m g _ =>
  (θ_run (Cert.Reference5Ideal.defs (F := Ideal)) _ _).mono
    (fun r h => ⟨fun c => (h c).2, sem_eq_zero_of_no_sems (by decide) r.2⟩) (Cert.Reference5Ideal.Value.run m g)

/-- The fourth map's Gram call gives its reference's squared distances. -/
theorem algebraic5 : @Cert.algebraic_Kernel5Ideal_Reference5Ideal Cert.Kernel5Ideal.Gen.facts Cert.Reference5Ideal.Gen.facts := by
  intro m g m' g' _ hagree
  refine ⟨_, (θ_run (Cert.Kernel5Ideal.defs (F := Ideal)) _ _).mono
      (fun r h c => ⟨(h c).1.trans (Cert.Kernel5Ideal.Value.fin0 m c), (h c).2⟩) (Cert.Kernel5Ideal.Value.run_blocks m g),
    (θ_run (Cert.Reference5Ideal.defs (F := Ideal)) _ _).mono (fun r h c => ⟨(h c).1.trans ?_, (h c).2⟩) (Cert.Reference5Ideal.Value.run m' g')⟩
  refine (Cert.Vgg.ref_gram (P := 784) (m' (c.tc.loc Cert.Reference5Ideal.main_arg0)) rfl rfl _ _ _ _ _ rfl _
    Cert.Reference5Ideal.dot_S3x2x1024x784_S3x2x1024x784_S3x2x1024x1024_3_3_2_2_01_01.wf rfl _ _ _ _ rfl _ _ _ _ _).trans ?_
  exact congrArg (Cert.Vgg.gramOut · 28 784 512) ((hagree c).trans (Cert.Kernel5Ideal.Gen.V_main_arg0 m c).symm)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  trivial, algebraic, trivial, algebraic2, trivial, algebraic3, trivial, algebraic4, trivial, algebraic5⟩

end Cert.Proof

end
